-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_index_is_relative [hPre_index_is_relative : Cert.Pre_index_is_relative.Facts] (m : (ℓ : Loc Cert.KernelIdeal.nD Cert.KernelIdeal.τ Cert.KernelIdeal.sig) → Buf (Elt Ideal) ℓ) : Prop :=
  ∀ c : Dev Cert.KernelIdeal.nD,
    (Cert.Pre_index_is_relative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_index_is_relative [hPre_index_is_relative : Cert.Pre_index_is_relative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_index_is_relative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_index_is_relative [hKernelIdeal : Cert.KernelIdeal.Facts] [hPre_index_is_relative : Cert.Pre_index_is_relative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_index_is_relative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_index_is_relative [hReferenceIdeal : Cert.ReferenceIdeal.Facts] [hPre_index_is_relative : Cert.Pre_index_is_relative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_index_is_relative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_index_is_relative [hKernelIdeal : Cert.KernelIdeal.Facts] [hReferenceIdeal : Cert.ReferenceIdeal.Facts] [hPre_index_is_relative : Cert.Pre_index_is_relative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_index_is_relative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_index_is_relative : Cert.Pre_index_is_relative.Facts),
    quiescent_Kernel (hKernel := hKernel)
    ∧ quiescent_KernelIdeal (hKernelIdeal := hKernelIdeal)
    ∧ quiescent_KernelIdeal_pre_index_is_relative (hKernelIdeal := hKernelIdeal) (hPre_index_is_relative := hPre_index_is_relative)
    ∧ quiescent_ReferenceIdeal (hReferenceIdeal := hReferenceIdeal)
    ∧ quiescent_ReferenceIdeal_pre_index_is_relative (hReferenceIdeal := hReferenceIdeal) (hPre_index_is_relative := hPre_index_is_relative)
    ∧ preserves_Kernel_KernelIdeal
    ∧ algebraic_KernelIdeal_ReferenceIdeal_pre_index_is_relative (hKernelIdeal := hKernelIdeal) (hReferenceIdeal := hReferenceIdeal) (hPre_index_is_relative := hPre_index_is_relative)
-- ==== Pre_index_is_relative.lean ====
abbrev S1x16x2048x2048 : Shape := ⟨4, ![1, 16, 2048, 2048]⟩
abbrev S16x4194304 : Shape := ⟨2, ![16, 4194304]⟩
abbrev S4194304 : Shape := ⟨1, ![4194304]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩

class Facts : Prop where
  bcast_S2048_S1x2048_1 : S2048.BroadcastsInDim S1x2048 (![1] : Fin 1 → Fin S1x2048.rank)
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)
  shapeCasts_S2048x2048_S4194304 : S2048x2048.ShapeCasts S4194304

variable [Facts]

def fn {F : FTy → Type} [FloatOps F] (main_arg0 : FVec F S1x16x2048x2048 .f32) (main_arg1 : FVec F S16x4194304 .f32) (main_arg2 : IVec S4194304 32) : IVec S4194304 1 :=
  let main_v0 : IVec S2048 32 := iotaInDim S2048 32 0
  let main_v1 : IVec S1x2048 32 := broadcastInDim S1x2048 ![1] bcast_S2048_S1x2048_1 main_v0
  let main_v2 : IVec S2048 32 := iotaInDim S2048 32 0
  let main_v3 : IVec S2048x1 32 := broadcastInDim S2048x1 ![0] bcast_S2048_S2048x1_0 main_v2
  let main_v4 : IVec S2048x2048 32 := broadcastInDim S2048x2048 ![0, 1] bcast_S2048x1_S2048x2048_0_1 main_v3
  let main_v5 : IVec S2048x2048 32 := broadcastInDim S2048x2048 ![0, 1] bcast_S1x2048_S2048x2048_0_1 main_v1
  let main_v6 : IVec S2048x2048 32 := subi main_v4 main_v5
  let main_c : IVec S_ 32 := constantI S_ 32 2048#32
  let main_v7 : IVec S2048x2048 32 := broadcastInDim S2048x2048 ![] bcast_S_S2048x2048 main_c
  let main_v8 : IVec S2048x2048 32 := addi main_v6 main_v7
  let main_c_0 : IVec S_ 32 := constantI S_ 32 1#32
  let main_v9 : IVec S2048x2048 32 := broadcastInDim S2048x2048 ![] bcast_S_S2048x2048 main_c_0
  let main_v10 : IVec S2048x2048 32 := subi main_v8 main_v9
  let main_v11 : IVec S4194304 32 := shapeCast S4194304 main_v10 shapeCasts_S2048x2048_S4194304
  let main_v12 : IVec S4194304 1 := cmpi .eq main_arg2 main_v11
  main_v12
-- ==== Kernel.lean ====
abbrev S1x16x2048x2048 : Shape := ⟨4, ![1, 16, 2048, 2048]⟩
abbrev S16x4194304 : Shape := ⟨2, ![16, 4194304]⟩
abbrev S4194304 : Shape := ⟨1, ![4194304]⟩
abbrev S16x8x4224 : Shape := ⟨3, ![16, 8, 4224]⟩
abbrev S8x4224 : Shape := ⟨2, ![8, 4224]⟩
abbrev S8x8x4224 : Shape := ⟨3, ![8, 8, 4224]⟩
abbrev S128x128 : Shape := ⟨2, ![128, 128]⟩
abbrev S8x128 : Shape := ⟨2, ![8, 128]⟩
abbrev S8x1x4224 : Shape := ⟨3, ![8, 1, 4224]⟩
abbrev S8x8x4220 : Shape := ⟨3, ![8, 8, 4220]⟩
abbrev S8x8x4 : Shape := ⟨3, ![8, 8, 4]⟩
abbrev S8x8x4222 : Shape := ⟨3, ![8, 8, 4222]⟩
abbrev S8x8x2 : Shape := ⟨3, ![8, 8, 2]⟩
abbrev S8x8x4223 : Shape := ⟨3, ![8, 8, 4223]⟩
abbrev S8x8x1 : Shape := ⟨3, ![8, 8, 1]⟩
abbrev S1x8x4224 : Shape := ⟨3, ![1, 8, 4224]⟩
abbrev S1x1x1024x2048 : Shape := ⟨4, ![1, 1, 1024, 2048]⟩
abbrev S1x8x2176 : Shape := ⟨3, ![1, 8, 2176]⟩
abbrev S8x2176 : Shape := ⟨2, ![8, 2176]⟩
abbrev S8x2048 : Shape := ⟨2, ![8, 2048]⟩
abbrev S1x1x8x2048 : Shape := ⟨4, ![1, 1, 8, 2048]⟩

abbrev nBuf : Space → Nat
  | .hbm => 5
  | .vmem => 10
  | .smem => 0
  | _ => 0

abbrev bufTy : (tb : Table) → Fin (tcTables nBuf tb) → BufTy
  | .hbm, ⟨0, _⟩ => ⟨S1x16x2048x2048, .f32⟩
  | .hbm, ⟨1, _⟩ => ⟨S16x4194304, .f32⟩
  | .hbm, ⟨2, _⟩ => ⟨S4194304, .i32⟩
  | .hbm, ⟨3, _⟩ => ⟨S16x8x4224, .f32⟩
  | .hbm, ⟨4, _⟩ => ⟨S1x16x2048x2048, .f32⟩
  | .local _ .vmem, ⟨0, _⟩ => ⟨S8x4224, .f32⟩
  | .local _ .vmem, ⟨1, _⟩ => ⟨S8x4224, .f32⟩
  | .local _ .vmem, ⟨2, _⟩ => ⟨S8x8x4224, .f32⟩
  | .local _ .vmem, ⟨3, _⟩ => ⟨S8x8x4224, .f32⟩
  | .local _ .vmem, ⟨4, _⟩ => ⟨S1x8x4224, .f32⟩
  | .local _ .vmem, ⟨5, _⟩ => ⟨S1x8x4224, .f32⟩
  | .local _ .vmem, ⟨6, _⟩ => ⟨S1x1x1024x2048, .f32⟩
  | .local _ .vmem, ⟨7, _⟩ => ⟨S1x1x1024x2048, .f32⟩
  | .local _ .vmem, ⟨8, _⟩ => ⟨S1x1x1024x2048, .f32⟩
  | .local _ .vmem, ⟨9, _⟩ => ⟨S1x1x1024x2048, .f32⟩
  | _, _ => ⟨S1x16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x4224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8x4224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 2], ![false, false]⟩

def k1_mult1 (i : grid1.Coords) : BitVec 32 :=
  let c2040_i32 : BitVec 32 := 2040#32
  let c1024_i32 : BitVec 32 := 1024#32
  let arg1 : BitVec 32 := BitVec.ofNat 32 (i 1).val
  let v0 : BitVec 32 := Scalar.muli c1024_i32 arg1
  let v1 : BitVec 32 := Scalar.subi c2040_i32 v0
  let c0_i32 : BitVec 32 := 0#32
  let v2 : BitVec 32 := Scalar.subi v1 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32 : BitVec 32 := 128#32
  let c0_i32_2 : BitVec 32 := 0#32
  let v9 : BitVec 1 := Scalar.cmpi .sgt c128_i32 c0_i32_2
  let v10 : BitVec 32 := Scalar.extui v9
  let c0_i32_3 : BitVec 32 := 0#32
  let v11 : BitVec 1 := Scalar.cmpi .slt c128_i32 c0_i32_3
  let v12 : BitVec 32 := Scalar.extui v11
  let v13 : BitVec 32 := Scalar.subi v10 v12
  let v14 : BitVec 1 := Scalar.cmpi .ne v8 v13
  let v15 : BitVec 32 := Scalar.remsi v2 c128_i32
  let c0_i32_4 : BitVec 32 := 0#32
  let v16 : BitVec 1 := Scalar.cmpi .ne v15 c0_i32_4
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c128_i32_5 : BitVec 32 := 128#32
  let v20 : BitVec 32 := Scalar.muli v19 c128_i32_5
  v20
def k1_off1 (i : grid1.Coords) (c0_i32 : BitVec 32) : Fin 3 → Nat :=
  let c0 : Index := 0#32
  let c0_6 : Index := 0#32
  let c2040_i32 : BitVec 32 := 2040#32
  let c1024_i32 : BitVec 32 := 1024#32
  let arg1 : BitVec 32 := BitVec.ofNat 32 (i 1).val
  let v0 : BitVec 32 := Scalar.muli c1024_i32 arg1
  let v1 : BitVec 32 := Scalar.subi c2040_i32 v0
  let v2 : BitVec 32 := Scalar.subi v1 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32 : BitVec 32 := 128#32
  let c0_i32_2 : BitVec 32 := 0#32
  let v9 : BitVec 1 := Scalar.cmpi .sgt c128_i32 c0_i32_2
  let v10 : BitVec 32 := Scalar.extui v9
  let c0_i32_3 : BitVec 32 := 0#32
  let v11 : BitVec 1 := Scalar.cmpi .slt c128_i32 c0_i32_3
  let v12 : BitVec 32 := Scalar.extui v11
  let v13 : BitVec 32 := Scalar.subi v10 v12
  let v14 : BitVec 1 := Scalar.cmpi .ne v8 v13
  let v15 : BitVec 32 := Scalar.remsi v2 c128_i32
  let c0_i32_4 : BitVec 32 := 0#32
  let v16 : BitVec 1 := Scalar.cmpi .ne v15 c0_i32_4
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c128_i32_5 : BitVec 32 := 128#32
  let v20 : BitVec 32 := Scalar.muli v19 c128_i32_5
  let v21 : BitVec 32 := v20
  let v23 : Index := Scalar.indexCast v21
  ![0, 0, v23.toNat]
def k1_mult2 (i : grid1.Coords) : BitVec 32 :=
  let c2040_i32_16 : BitVec 32 := 2040#32
  let c1024_i32_15 : BitVec 32 := 1024#32
  let arg1 : BitVec 32 := BitVec.ofNat 32 (i 1).val
  let v35 : BitVec 32 := Scalar.muli c1024_i32_15 arg1
  let v36 : BitVec 32 := Scalar.subi c2040_i32_16 v35
  let c8_i32 : BitVec 32 := 8#32
  let v37 : BitVec 32 := Scalar.subi v36 c8_i32
  let c0_i32_18 : BitVec 32 := 0#32
  let v39 : BitVec 1 := Scalar.cmpi .sgt v37 c0_i32_18
  let v40 : BitVec 32 := Scalar.extui v39
  let c0_i32_19 : BitVec 32 := 0#32
  let v41 : BitVec 1 := Scalar.cmpi .slt v37 c0_i32_19
  let v42 : BitVec 32 := Scalar.extui v41
  let v43 : BitVec 32 := Scalar.subi v40 v42
  let c128_i32_17 : BitVec 32 := 128#32
  let c0_i32_20 : BitVec 32 := 0#32
  let v44 : BitVec 1 := Scalar.cmpi .sgt c128_i32_17 c0_i32_20
  let v45 : BitVec 32 := Scalar.extui v44
  let c0_i32_21 : BitVec 32 := 0#32
  let v46 : BitVec 1 := Scalar.cmpi .slt c128_i32_17 c0_i32_21
  let v47 : BitVec 32 := Scalar.extui v46
  let v48 : BitVec 32 := Scalar.subi v45 v47
  let v49 : BitVec 1 := Scalar.cmpi .ne v43 v48
  let v50 : BitVec 32 := Scalar.remsi v37 c128_i32_17
  let c0_i32_22 : BitVec 32 := 0#32
  let v51 : BitVec 1 := Scalar.cmpi .ne v50 c0_i32_22
  let v52 : BitVec 1 := Scalar.andi v49 v51
  let v38 : BitVec 32 := Scalar.divsi v37 c128_i32_17
  let c1_i32_23 : BitVec 32 := 1#32
  let v53 : BitVec 32 := Scalar.subi v38 c1_i32_23
  let v54 : BitVec 32 := Scalar.select v52 v53 v38
  let c128_i32_24 : BitVec 32 := 128#32
  let v55 : BitVec 32 := Scalar.muli v54 c128_i32_24
  v55
def k1_mult3 (i : grid1.Coords) : BitVec 32 :=
  let c2040_i32_36 : BitVec 32 := 2040#32
  let c1024_i32_35 : BitVec 32 := 1024#32
  let arg1 : BitVec 32 := BitVec.ofNat 32 (i 1).val
  let v70 : BitVec 32 := Scalar.muli c1024_i32_35 arg1
  let v71 : BitVec 32 := Scalar.subi c2040_i32_36 v70
  let c16_i32 : BitVec 32 := 16#32
  let v72 : BitVec 32 := Scalar.subi v71 c16_i32
  let c0_i32_38 : BitVec 32 := 0#32
  let v74 : BitVec 1 := Scalar.cmpi .sgt v72 c0_i32_38
  let v75 : BitVec 32 := Scalar.extui v74
  let c0_i32_39 : BitVec 32 := 0#32
  let v76 : BitVec 1 := Scalar.cmpi .slt v72 c0_i32_39
  let v77 : BitVec 32 := Scalar.extui v76
  let v78 : BitVec 32 := Scalar.subi v75 v77
  let c128_i32_37 : BitVec 32 := 128#32
  let c0_i32_40 : BitVec 32 := 0#32
  let v79 : BitVec 1 := Scalar.cmpi .sgt c128_i32_37 c0_i32_40
  let v80 : BitVec 32 := Scalar.extui v79
  let c0_i32_41 : BitVec 32 := 0#32
  let v81 : BitVec 1 := Scalar.cmpi .slt c128_i32_37 c0_i32_41
  let v82 : BitVec 32 := Scalar.extui v81
  let v83 : BitVec 32 := Scalar.subi v80 v82
  let v84 : BitVec 1 := Scalar.cmpi .ne v78 v83
  let v85 : BitVec 32 := Scalar.remsi v72 c128_i32_37
  let c0_i32_42 : BitVec 32 := 0#32
  let v86 : BitVec 1 := Scalar.cmpi .ne v85 c0_i32_42
  let v87 : BitVec 1 := Scalar.andi v84 v86
  let v73 : BitVec 32 := Scalar.divsi v72 c128_i32_37
  let c1_i32_43 : BitVec 32 := 1#32
  let v88 : BitVec 32 := Scalar.subi v73 c1_i32_43
  let v89 : BitVec 32 := Scalar.select v87 v88 v73
  let c128_i32_44 : BitVec 32 := 128#32
  let v90 : BitVec 32 := Scalar.muli v89 c128_i32_44
  v90
def k1_mult4 (i : grid1.Coords) : BitVec 32 :=
  let c2040_i32_56 : BitVec 32 := 2040#32
  let c1024_i32_55 : BitVec 32 := 1024#32
  let arg1 : BitVec 32 := BitVec.ofNat 32 (i 1).val
  let v105 : BitVec 32 := Scalar.muli c1024_i32_55 arg1
  let v106 : BitVec 32 := Scalar.subi c2040_i32_56 v105
  let c24_i32 : BitVec 32 := 24#32
  let v107 : BitVec 32 := Scalar.subi v106 c24_i32
  let c0_i32_58 : BitVec 32 := 0#32
  let v109 : BitVec 1 := Scalar.cmpi .sgt v107 c0_i32_58
  let v110 : BitVec 32 := Scalar.extui v109
  let c0_i32_59 : BitVec 32 := 0#32
  let v111 : BitVec 1 := Scalar.cmpi .slt v107 c0_i32_59
  let v112 : BitVec 32 := Scalar.extui v111
  let v113 : BitVec 32 := Scalar.subi v110 v112
  let c128_i32_57 : BitVec 32 := 128#32
  let c0_i32_60 : BitVec 32 := 0#32
  let v114 : BitVec 1 := Scalar.cmpi .sgt c128_i32_57 c0_i32_60
  let v115 : BitVec 32 := Scalar.extui v114
  let c0_i32_61 : BitVec 32 := 0#32
  let v116 : BitVec 1 := Scalar.cmpi .slt c128_i32_57 c0_i32_61
  let v117 : BitVec 32 := Scalar.extui v116
  let v118 : BitVec 32 := Scalar.subi v115 v117
  let v119 : BitVec 1 := Scalar.cmpi .ne v113 v118
  let v120 : BitVec 32 := Scalar.remsi v107 c128_i32_57
  let c0_i32_62 : BitVec 32 := 0#32
  let v121 : BitVec 1 := Scalar.cmpi .ne v120 c0_i32_62
  let v122 : BitVec 1 := Scalar.andi v119 v121
  let v108 : BitVec 32 := Scalar.divsi v107 c128_i32_57
  let c1_i32_63 : BitVec 32 := 1#32
  let v123 : BitVec 32 := Scalar.subi v108 c1_i32_63
  let v124 : BitVec 32 := Scalar.select v122 v123 v108
  let c128_i32_64 : BitVec 32 := 128#32
  let v125 : BitVec 32 := Scalar.muli v124 c128_i32_64
  v125
def k1_mult5 (i : grid1.Coords) : BitVec 32 :=
  let c2040_i32_76 : BitVec 32 := 2040#32
  let c1024_i32_75 : BitVec 32 := 1024#32
  let arg1 : BitVec 32 := BitVec.ofNat 32 (i 1).val
  let v140 : BitVec 32 := Scalar.muli c1024_i32_75 arg1
  let v141 : BitVec 32 := Scalar.subi c2040_i32_76 v140
  let c32_i32 : BitVec 32 := 32#32
  let v142 : BitVec 32 := Scalar.subi v141 c32_i32
  let c0_i32_78 : BitVec 32 := 0#32
  let v144 : BitVec 1 := Scalar.cmpi .sgt v142 c0_i32_78
  let v145 : BitVec 32 := Scalar.extui v144
  let c0_i32_79 : BitVec 32 := 0#32
  let v146 : BitVec 1 := Scalar.cmpi .slt v142 c0_i32_79
  let v147 : BitVec 32 := Scalar.extui v146
  let v148 : BitVec 32 := Scalar.subi v145 v147
  let c128_i32_77 : BitVec 32 := 128#32
  let c0_i32_80 : BitVec 32 := 0#32
  let v149 : BitVec 1 := Scalar.cmpi .sgt c128_i32_77 c0_i32_80
  let v150 : BitVec 32 := Scalar.extui v149
  let c0_i32_81 : BitVec 32 := 0#32
  let v151 : BitVec 1 := Scalar.cmpi .slt c128_i32_77 c0_i32_81
  let v152 : BitVec 32 := Scalar.extui v151
  let v153 : BitVec 32 := Scalar.subi v150 v152
  let v154 : BitVec 1 := Scalar.cmpi .ne v148 v153
  let v155 : BitVec 32 := Scalar.remsi v142 c128_i32_77
  let c0_i32_82 : BitVec 32 := 0#32
  let v156 : BitVec 1 := Scalar.cmpi .ne v155 c0_i32_82
  let v157 : BitVec 1 := Scalar.andi v154 v156
  let v143 : BitVec 32 := Scalar.divsi v142 c128_i32_77
  let c1_i32_83 : BitVec 32 := 1#32
  let v158 : BitVec 32 := Scalar.subi v143 c1_i32_83
  let v159 : BitVec 32 := Scalar.select v157 v158 v143
  let c128_i32_84 : BitVec 32 := 128#32
  let v160 : BitVec 32 := Scalar.muli v159 c128_i32_84
  v160
def k1_mult6 (i : grid1.Coords) : BitVec 32 :=
  let c2040_i32_96 : BitVec 32 := 2040#32
  let c1024_i32_95 : BitVec 32 := 1024#32
  let arg1 : BitVec 32 := BitVec.ofNat 32 (i 1).val
  let v175 : BitVec 32 := Scalar.muli c1024_i32_95 arg1
  let v176 : BitVec 32 := Scalar.subi c2040_i32_96 v175
  let c40_i32 : BitVec 32 := 40#32
  let v177 : BitVec 32 := Scalar.subi v176 c40_i32
  let c0_i32_98 : BitVec 32 := 0#32
  let v179 : BitVec 1 := Scalar.cmpi .sgt v177 c0_i32_98
  let v180 : BitVec 32 := Scalar.extui v179
  let c0_i32_99 : BitVec 32 := 0#32
  let v181 : BitVec 1 := Scalar.cmpi .slt v177 c0_i32_99
  let v182 : BitVec 32 := Scalar.extui v181
  let v183 : BitVec 32 := Scalar.subi v180 v182
  let c128_i32_97 : BitVec 32 := 128#32
  let c0_i32_100 : BitVec 32 := 0#32
  let v184 : BitVec 1 := Scalar.cmpi .sgt c128_i32_97 c0_i32_100
  let v185 : BitVec 32 := Scalar.extui v184
  let c0_i32_101 : BitVec 32 := 0#32
  let v186 : BitVec 1 := Scalar.cmpi .slt c128_i32_97 c0_i32_101
  let v187 : BitVec 32 := Scalar.extui v186
  let v188 : BitVec 32 := Scalar.subi v185 v187
  let v189 : BitVec 1 := Scalar.cmpi .ne v183 v188
  let v190 : BitVec 32 := Scalar.remsi v177 c128_i32_97
  let c0_i32_102 : BitVec 32 := 0#32
  let v191 : BitVec 1 := Scalar.cmpi .ne v190 c0_i32_102
  let v192 : BitVec 1 := Scalar.andi v189 v191
  let v178 : BitVec 32 := Scalar.divsi v177 c128_i32_97
  let c1_i32_103 : BitVec 32 := 1#32
  let v193 : BitVec 32 := Scalar.subi v178 c1_i32_103
  let v194 : BitVec 32 := Scalar.select v192 v193 v178
  let c128_i32_104 : BitVec 32 := 128#32
  let v195 : BitVec 32 := Scalar.muli v194 c128_i32_104
  v195
def k1_mult7 (i : grid1.Coords) : BitVec 32 :=
  let c2040_i32_116 : BitVec 32 := 2040#32
  let c1024_i32_115 : BitVec 32 := 1024#32
  let arg1 : BitVec 32 := BitVec.ofNat 32 (i 1).val
  let v210 : BitVec 32 := Scalar.muli c1024_i32_115 arg1
  let v211 : BitVec 32 := Scalar.subi c2040_i32_116 v210
  let c48_i32 : BitVec 32 := 48#32
  let v212 : BitVec 32 := Scalar.subi v211 c48_i32
  let c0_i32_118 : BitVec 32 := 0#32
  let v214 : BitVec 1 := Scalar.cmpi .sgt v212 c0_i32_118
  let v215 : BitVec 32 := Scalar.extui v214
  let c0_i32_119 : BitVec 32 := 0#32
  let v216 : BitVec 1 := Scalar.cmpi .slt v212 c0_i32_119
  let v217 : BitVec 32 := Scalar.extui v216
  let v218 : BitVec 32 := Scalar.subi v215 v217
  let c128_i32_117 : BitVec 32 := 128#32
  let c0_i32_120 : BitVec 32 := 0#32
  let v219 : BitVec 1 := Scalar.cmpi .sgt c128_i32_117 c0_i32_120
  let v220 : BitVec 32 := Scalar.extui v219
  let c0_i32_121 : BitVec 32 := 0#32
  let v221 : BitVec 1 := Scalar.cmpi .slt c128_i32_117 c0_i32_121
  let v222 : BitVec 32 := Scalar.extui v221
  let v223 : BitVec 32 := Scalar.subi v220 v222
  let v224 : BitVec 1 := Scalar.cmpi .ne v218 v223
  let v225 : BitVec 32 := Scalar.remsi v212 c128_i32_117
  let c0_i32_122 : BitVec 32 := 0#32
  let v226 : BitVec 1 := Scalar.cmpi .ne v225 c0_i32_122
  let v227 : BitVec 1 := Scalar.andi v224 v226
  let v213 : BitVec 32 := Scalar.divsi v212 c128_i32_117
  let c1_i32_123 : BitVec 32 := 1#32
  let v228 : BitVec 32 := Scalar.subi v213 c1_i32_123
  let v229 : BitVec 32 := Scalar.select v227 v228 v213
  let c128_i32_124 : BitVec 32 := 128#32
  let v230 : BitVec 32 := Scalar.muli v229 c128_i32_124
  v230
def k1_mult8 (i : grid1.Coords) : BitVec 32 :=
  let c2040_i32_136 : BitVec 32 := 2040#32
  let c1024_i32_135 : BitVec 32 := 1024#32
  let arg1 : BitVec 32 := BitVec.ofNat 32 (i 1).val
  let v245 : BitVec 32 := Scalar.muli c1024_i32_135 arg1
  let v246 : BitVec 32 := Scalar.subi c2040_i32_136 v245
  let c56_i32 : BitVec 32 := 56#32
  let v247 : BitVec 32 := Scalar.subi v246 c56_i32
  let c0_i32_138 : BitVec 32 := 0#32
  let v249 : BitVec 1 := Scalar.cmpi .sgt v247 c0_i32_138
  let v250 : BitVec 32 := Scalar.extui v249
  let c0_i32_139 : BitVec 32 := 0#32
  let v251 : BitVec 1 := Scalar.cmpi .slt v247 c0_i32_139
  let v252 : BitVec 32 := Scalar.extui v251
  let v253 : BitVec 32 := Scalar.subi v250 v252
  let c128_i32_137 : BitVec 32 := 128#32
  let c0_i32_140 : BitVec 32 := 0#32
  let v254 : BitVec 1 := Scalar.cmpi .sgt c128_i32_137 c0_i32_140
  let v255 : BitVec 32 := Scalar.extui v254
  let c0_i32_141 : BitVec 32 := 0#32
  let v256 : BitVec 1 := Scalar.cmpi .slt c128_i32_137 c0_i32_141
  let v257 : BitVec 32 := Scalar.extui v256
  let v258 : BitVec 32 := Scalar.subi v255 v257
  let v259 : BitVec 1 := Scalar.cmpi .ne v253 v258
  let v260 : BitVec 32 := Scalar.remsi v247 c128_i32_137
  let c0_i32_142 : BitVec 32 := 0#32
  let v261 : BitVec 1 := Scalar.cmpi .ne v260 c0_i32_142
  let v262 : BitVec 1 := Scalar.andi v259 v261
  let v248 : BitVec 32 := Scalar.divsi v247 c128_i32_137
  let c1_i32_143 : BitVec 32 := 1#32
  let v263 : BitVec 32 := Scalar.subi v248 c1_i32_143
  let v264 : BitVec 32 := Scalar.select v262 v263 v248
  let c128_i32_144 : BitVec 32 := 128#32
  let v265 : BitVec 32 := Scalar.muli v264 c128_i32_144
  v265
def k1_mult9 (i : grid1.Coords) : BitVec 32 :=
  let c2040_i32_156 : BitVec 32 := 2040#32
  let c1024_i32_155 : BitVec 32 := 1024#32
  let arg1 : BitVec 32 := BitVec.ofNat 32 (i 1).val
  let v280 : BitVec 32 := Scalar.muli c1024_i32_155 arg1
  let v281 : BitVec 32 := Scalar.subi c2040_i32_156 v280
  let c64_i32 : BitVec 32 := 64#32
  let v282 : BitVec 32 := Scalar.subi v281 c64_i32
  let c0_i32_158 : BitVec 32 := 0#32
  let v284 : BitVec 1 := Scalar.cmpi .sgt v282 c0_i32_158
  let v285 : BitVec 32 := Scalar.extui v284
  let c0_i32_159 : BitVec 32 := 0#32
  let v286 : BitVec 1 := Scalar.cmpi .slt v282 c0_i32_159
  let v287 : BitVec 32 := Scalar.extui v286
  let v288 : BitVec 32 := Scalar.subi v285 v287
  let c128_i32_157 : BitVec 32 := 128#32
  let c0_i32_160 : BitVec 32 := 0#32
  let v289 : BitVec 1 := Scalar.cmpi .sgt c128_i32_157 c0_i32_160
  let v290 : BitVec 32 := Scalar.extui v289
  let c0_i32_161 : BitVec 32 := 0#32
  let v291 : BitVec 1 := Scalar.cmpi .slt c128_i32_157 c0_i32_161
  let v292 : BitVec 32 := Scalar.extui v291
  let v293 : BitVec 32 := Scalar.subi v290 v292
  let v294 : BitVec 1 := Scalar.cmpi .ne v288 v293
  let v295 : BitVec 32 := Scalar.remsi v282 c128_i32_157
  let c0_i32_162 : BitVec 32 := 0#32
  let v296 : BitVec 1 := Scalar.cmpi .ne v295 c0_i32_162
  let v297 : BitVec 1 := Scalar.andi v294 v296
  let v283 : BitVec 32 := Scalar.divsi v282 c128_i32_157
  let c1_i32_163 : BitVec 32 := 1#32
  let v298 : BitVec 32 := Scalar.subi v283 c1_i32_163
  let v299 : BitVec 32 := Scalar.select v297 v298 v283
  let c128_i32_164 : BitVec 32 := 128#32
  let v300 : BitVec 32 := Scalar.muli v299 c128_i32_164
  v300
def k1_mult10 (i : grid1.Coords) : BitVec 32 :=
  let c2040_i32_176 : BitVec 32 := 2040#32
  let c1024_i32_175 : BitVec 32 := 1024#32
  let arg1 : BitVec 32 := BitVec.ofNat 32 (i 1).val
  let v315 : BitVec 32 := Scalar.muli c1024_i32_175 arg1
  let v316 : BitVec 32 := Scalar.subi c2040_i32_176 v315
  let c72_i32 : BitVec 32 := 72#32
  let v317 : BitVec 32 := Scalar.subi v316 c72_i32
  let c0_i32_178 : BitVec 32 := 0#32
  let v319 : BitVec 1 := Scalar.cmpi .sgt v317 c0_i32_178
  let v320 : BitVec 32 := Scalar.extui v319
  let c0_i32_179 : BitVec 32 := 0#32
  let v321 : BitVec 1 := Scalar.cmpi .slt v317 c0_i32_179
  let v322 : BitVec 32 := Scalar.extui v321
  let v323 : BitVec 32 := Scalar.subi v320 v322
  let c128_i32_177 : BitVec 32 := 128#32
  let c0_i32_180 : BitVec 32 := 0#32
  let v324 : BitVec 1 := Scalar.cmpi .sgt c128_i32_177 c0_i32_180
  let v325 : BitVec 32 := Scalar.extui v324
  let c0_i32_181 : BitVec 32 := 0#32
  let v326 : BitVec 1 := Scalar.cmpi .slt c128_i32_177 c0_i32_181
  let v327 : BitVec 32 := Scalar.extui v326
  let v328 : BitVec 32 := Scalar.subi v325 v327
  let v329 : BitVec 1 := Scalar.cmpi .ne v323 v328
  let v330 : BitVec 32 := Scalar.remsi v317 c128_i32_177
  let c0_i32_182 : BitVec 32 := 0#32
  let v331 : BitVec 1 := Scalar.cmpi .ne v330 c0_i32_182
  let v332 : BitVec 1 := Scalar.andi v329 v331
  let v318 : BitVec 32 := Scalar.divsi v317 c128_i32_177
  let c1_i32_183 : BitVec 32 := 1#32
  let v333 : BitVec 32 := Scalar.subi v318 c1_i32_183
  let v334 : BitVec 32 := Scalar.select v332 v333 v318
  let c128_i32_184 : BitVec 32 := 128#32
  let v335 : BitVec 32 := Scalar.muli v334 c128_i32_184
  v335
def k1_mult11 (i : grid1.Coords) : BitVec 32 :=
  let c2040_i32_196 : BitVec 32 := 2040#32
  let c1024_i32_195 : BitVec 32 := 1024#32
  let arg1 : BitVec 32 := BitVec.ofNat 32 (i 1).val
  let v350 : BitVec 32 := Scalar.muli c1024_i32_195 arg1
  let v351 : BitVec 32 := Scalar.subi c2040_i32_196 v350
  let c80_i32 : BitVec 32 := 80#32
  let v352 : BitVec 32 := Scalar.subi v351 c80_i32
  let c0_i32_198 : BitVec 32 := 0#32
  let v354 : BitVec 1 := Scalar.cmpi .sgt v352 c0_i32_198
  let v355 : BitVec 32 := Scalar.extui v354
  let c0_i32_199 : BitVec 32 := 0#32
  let v356 : BitVec 1 := Scalar.cmpi .slt v352 c0_i32_199
  let v357 : BitVec 32 := Scalar.extui v356
  let v358 : BitVec 32 := Scalar.subi v355 v357
  let c128_i32_197 : BitVec 32 := 128#32
  let c0_i32_200 : BitVec 32 := 0#32
  let v359 : BitVec 1 := Scalar.cmpi .sgt c128_i32_197 c0_i32_200
  let v360 : BitVec 32 := Scalar.extui v359
  let c0_i32_201 : BitVec 32 := 0#32
  let v361 : BitVec 1 := Scalar.cmpi .slt c128_i32_197 c0_i32_201
  let v362 : BitVec 32 := Scalar.extui v361
  let v363 : BitVec 32 := Scalar.subi v360 v362
  let v364 : BitVec 1 := Scalar.cmpi .ne v358 v363
  let v365 : BitVec 32 := Scalar.remsi v352 c128_i32_197
  let c0_i32_202 : BitVec 32 := 0#32
  let v366 : BitVec 1 := Scalar.cmpi .ne v365 c0_i32_202
  let v367 : BitVec 1 := Scalar.andi v364 v366
  let v353 : BitVec 32 := Scalar.divsi v352 c128_i32_197
  let c1_i32_203 : BitVec 32 := 1#32
  let v368 : BitVec 32 := Scalar.subi v353 c1_i32_203
  let v369 : BitVec 32 := Scalar.select v367 v368 v353
  let c128_i32_204 : BitVec 32 := 128#32
  let v370 : BitVec 32 := Scalar.muli v369 c128_i32_204
  v370
def k1_mult12 (i : grid1.Coords) : BitVec 32 :=
  let c2040_i32_216 : BitVec 32 := 2040#32
  let c1024_i32_215 : BitVec 32 := 1024#32
  let arg1 : BitVec 32 := BitVec.ofNat 32 (i 1).val
  let v385 : BitVec 32 := Scalar.muli c1024_i32_215 arg1
  let v386 : BitVec 32 := Scalar.subi c2040_i32_216 v385
  let c88_i32 : BitVec 32 := 88#32
  let v387 : BitVec 32 := Scalar.subi v386 c88_i32
  let c0_i32_218 : BitVec 32 := 0#32
  let v389 : BitVec 1 := Scalar.cmpi .sgt v387 c0_i32_218
  let v390 : BitVec 32 := Scalar.extui v389
  let c0_i32_219 : BitVec 32 := 0#32
  let v391 : BitVec 1 := Scalar.cmpi .slt v387 c0_i32_219
  let v392 : BitVec 32 := Scalar.extui v391
  let v393 : BitVec 32 := Scalar.subi v390 v392
  let c128_i32_217 : BitVec 32 := 128#32
  let c0_i32_220 : BitVec 32 := 0#32
  let v394 : BitVec 1 := Scalar.cmpi .sgt c128_i32_217 c0_i32_220
  let v395 : BitVec 32 := Scalar.extui v394
  let c0_i32_221 : BitVec 32 := 0#32
  let v396 : BitVec 1 := Scalar.cmpi .slt c128_i32_217 c0_i32_221
  let v397 : BitVec 32 := Scalar.extui v396
  let v398 : BitVec 32 := Scalar.subi v395 v397
  let v399 : BitVec 1 := Scalar.cmpi .ne v393 v398
  let v400 : BitVec 32 := Scalar.remsi v387 c128_i32_217
  let c0_i32_222 : BitVec 32 := 0#32
  let v401 : BitVec 1 := Scalar.cmpi .ne v400 c0_i32_222
  let v402 : BitVec 1 := Scalar.andi v399 v401
  let v388 : BitVec 32 := Scalar.divsi v387 c128_i32_217
  let c1_i32_223 : BitVec 32 := 1#32
  let v403 : BitVec 32 := Scalar.subi v388 c1_i32_223
  let v404 : BitVec 32 := Scalar.select v402 v403 v388
  let c128_i32_224 : BitVec 32 := 128#32
  let v405 : BitVec 32 := Scalar.muli v404 c128_i32_224
  v405
def k1_mult13 (i : grid1.Coords) : BitVec 32 :=
  let c2040_i32_236 : BitVec 32 := 2040#32
  let c1024_i32_235 : BitVec 32 := 1024#32
  let arg1 : BitVec 32 := BitVec.ofNat 32 (i 1).val
  let v420 : BitVec 32 := Scalar.muli c1024_i32_235 arg1
  let v421 : BitVec 32 := Scalar.subi c2040_i32_236 v420
  let c96_i32 : BitVec 32 := 96#32
  let v422 : BitVec 32 := Scalar.subi v421 c96_i32
  let c0_i32_238 : BitVec 32 := 0#32
  let v424 : BitVec 1 := Scalar.cmpi .sgt v422 c0_i32_238
  let v425 : BitVec 32 := Scalar.extui v424
  let c0_i32_239 : BitVec 32 := 0#32
  let v426 : BitVec 1 := Scalar.cmpi .slt v422 c0_i32_239
  let v427 : BitVec 32 := Scalar.extui v426
  let v428 : BitVec 32 := Scalar.subi v425 v427
  let c128_i32_237 : BitVec 32 := 128#32
  let c0_i32_240 : BitVec 32 := 0#32
  let v429 : BitVec 1 := Scalar.cmpi .sgt c128_i32_237 c0_i32_240
  let v430 : BitVec 32 := Scalar.extui v429
  let c0_i32_241 : BitVec 32 := 0#32
  let v431 : BitVec 1 := Scalar.cmpi .slt c128_i32_237 c0_i32_241
  let v432 : BitVec 32 := Scalar.extui v431
  let v433 : BitVec 32 := Scalar.subi v430 v432
  let v434 : BitVec 1 := Scalar.cmpi .ne v428 v433
  let v435 : BitVec 32 := Scalar.remsi v422 c128_i32_237
  let c0_i32_242 : BitVec 32 := 0#32
  let v436 : BitVec 1 := Scalar.cmpi .ne v435 c0_i32_242
  let v437 : BitVec 1 := Scalar.andi v434 v436
  let v423 : BitVec 32 := Scalar.divsi v422 c128_i32_237
  let c1_i32_243 : BitVec 32 := 1#32
  let v438 : BitVec 32 := Scalar.subi v423 c1_i32_243
  let v439 : BitVec 32 := Scalar.select v437 v438 v423
  let c128_i32_244 : BitVec 32 := 128#32
  let v440 : BitVec 32 := Scalar.muli v439 c128_i32_244
  v440
def k1_mult14 (i : grid1.Coords) : BitVec 32 :=
  let c2040_i32_256 : BitVec 32 := 2040#32
  let c1024_i32_255 : BitVec 32 := 1024#32
  let arg1 : BitVec 32 := BitVec.ofNat 32 (i 1).val
  let v455 : BitVec 32 := Scalar.muli c1024_i32_255 arg1
  let v456 : BitVec 32 := Scalar.subi c2040_i32_256 v455
  let c104_i32 : BitVec 32 := 104#32
  let v457 : BitVec 32 := Scalar.subi v456 c104_i32
  let c0_i32_258 : BitVec 32 := 0#32
  let v459 : BitVec 1 := Scalar.cmpi .sgt v457 c0_i32_258
  let v460 : BitVec 32 := Scalar.extui v459
  let c0_i32_259 : BitVec 32 := 0#32
  let v461 : BitVec 1 := Scalar.cmpi .slt v457 c0_i32_259
  let v462 : BitVec 32 := Scalar.extui v461
  let v463 : BitVec 32 := Scalar.subi v460 v462
  let c128_i32_257 : BitVec 32 := 128#32
  let c0_i32_260 : BitVec 32 := 0#32
  let v464 : BitVec 1 := Scalar.cmpi .sgt c128_i32_257 c0_i32_260
  let v465 : BitVec 32 := Scalar.extui v464
  let c0_i32_261 : BitVec 32 := 0#32
  let v466 : BitVec 1 := Scalar.cmpi .slt c128_i32_257 c0_i32_261
  let v467 : BitVec 32 := Scalar.extui v466
  let v468 : BitVec 32 := Scalar.subi v465 v467
  let v469 : BitVec 1 := Scalar.cmpi .ne v463 v468
  let v470 : BitVec 32 := Scalar.remsi v457 c128_i32_257
  let c0_i32_262 : BitVec 32 := 0#32
  let v471 : BitVec 1 := Scalar.cmpi .ne v470 c0_i32_262
  let v472 : BitVec 1 := Scalar.andi v469 v471
  let v458 : BitVec 32 := Scalar.divsi v457 c128_i32_257
  let c1_i32_263 : BitVec 32 := 1#32
  let v473 : BitVec 32 := Scalar.subi v458 c1_i32_263
  let v474 : BitVec 32 := Scalar.select v472 v473 v458
  let c128_i32_264 : BitVec 32 := 128#32
  let v475 : BitVec 32 := Scalar.muli v474 c128_i32_264
  v475
def k1_mult15 (i : grid1.Coords) : BitVec 32 :=
  let c2040_i32_276 : BitVec 32 := 2040#32
  let c1024_i32_275 : BitVec 32 := 1024#32
  let arg1 : BitVec 32 := BitVec.ofNat 32 (i 1).val
  let v490 : BitVec 32 := Scalar.muli c1024_i32_275 arg1
  let v491 : BitVec 32 := Scalar.subi c2040_i32_276 v490
  let c112_i32 : BitVec 32 := 112#32
  let v492 : BitVec 32 := Scalar.subi v491 c112_i32
  let c0_i32_278 : BitVec 32 := 0#32
  let v494 : BitVec 1 := Scalar.cmpi .sgt v492 c0_i32_278
  let v495 : BitVec 32 := Scalar.extui v494
  let c0_i32_279 : BitVec 32 := 0#32
  let v496 : BitVec 1 := Scalar.cmpi .slt v492 c0_i32_279
  let v497 : BitVec 32 := Scalar.extui v496
  let v498 : BitVec 32 := Scalar.subi v495 v497
  let c128_i32_277 : BitVec 32 := 128#32
  let c0_i32_280 : BitVec 32 := 0#32
  let v499 : BitVec 1 := Scalar.cmpi .sgt c128_i32_277 c0_i32_280
  let v500 : BitVec 32 := Scalar.extui v499
  let c0_i32_281 : BitVec 32 := 0#32
  let v501 : BitVec 1 := Scalar.cmpi .slt c128_i32_277 c0_i32_281
  let v502 : BitVec 32 := Scalar.extui v501
  let v503 : BitVec 32 := Scalar.subi v500 v502
  let v504 : BitVec 1 := Scalar.cmpi .ne v498 v503
  let v505 : BitVec 32 := Scalar.remsi v492 c128_i32_277
  let c0_i32_282 : BitVec 32 := 0#32
  let v506 : BitVec 1 := Scalar.cmpi .ne v505 c0_i32_282
  let v507 : BitVec 1 := Scalar.andi v504 v506
  let v493 : BitVec 32 := Scalar.divsi v492 c128_i32_277
  let c1_i32_283 : BitVec 32 := 1#32
  let v508 : BitVec 32 := Scalar.subi v493 c1_i32_283
  let v509 : BitVec 32 := Scalar.select v507 v508 v493
  let c128_i32_284 : BitVec 32 := 128#32
  let v510 : BitVec 32 := Scalar.muli v509 c128_i32_284
  v510
def k1_mult16 (i : grid1.Coords) : BitVec 32 :=
  let c2040_i32_296 : BitVec 32 := 2040#32
  let c1024_i32_295 : BitVec 32 := 1024#32
  let arg1 : BitVec 32 := BitVec.ofNat 32 (i 1).val
  let v525 : BitVec 32 := Scalar.muli c1024_i32_295 arg1
  let v526 : BitVec 32 := Scalar.subi c2040_i32_296 v525
  let c120_i32 : BitVec 32 := 120#32
  let v527 : BitVec 32 := Scalar.subi v526 c120_i32
  let c0_i32_298 : BitVec 32 := 0#32
  let v529 : BitVec 1 := Scalar.cmpi .sgt v527 c0_i32_298
  let v530 : BitVec 32 := Scalar.extui v529
  let c0_i32_299 : BitVec 32 := 0#32
  let v531 : BitVec 1 := Scalar.cmpi .slt v527 c0_i32_299
  let v532 : BitVec 32 := Scalar.extui v531
  let v533 : BitVec 32 := Scalar.subi v530 v532
  let c128_i32_297 : BitVec 32 := 128#32
  let c0_i32_300 : BitVec 32 := 0#32
  let v534 : BitVec 1 := Scalar.cmpi .sgt c128_i32_297 c0_i32_300
  let v535 : BitVec 32 := Scalar.extui v534
  let c0_i32_301 : BitVec 32 := 0#32
  let v536 : BitVec 1 := Scalar.cmpi .slt c128_i32_297 c0_i32_301
  let v537 : BitVec 32 := Scalar.extui v536
  let v538 : BitVec 32 := Scalar.subi v535 v537
  let v539 : BitVec 1 := Scalar.cmpi .ne v533 v538
  let v540 : BitVec 32 := Scalar.remsi v527 c128_i32_297
  let c0_i32_302 : BitVec 32 := 0#32
  let v541 : BitVec 1 := Scalar.cmpi .ne v540 c0_i32_302
  let v542 : BitVec 1 := Scalar.andi v539 v541
  let v528 : BitVec 32 := Scalar.divsi v527 c128_i32_297
  let c1_i32_303 : BitVec 32 := 1#32
  let v543 : BitVec 32 := Scalar.subi v528 c1_i32_303
  let v544 : BitVec 32 := Scalar.select v542 v543 v528
  let c128_i32_304 : BitVec 32 := 128#32
  let v545 : BitVec 32 := Scalar.muli v544 c128_i32_304
  v545
def k1_mult17 (i : grid1.Coords) : BitVec 32 :=
  let c2040_i32_316 : BitVec 32 := 2040#32
  let c1024_i32_315 : BitVec 32 := 1024#32
  let arg1 : BitVec 32 := BitVec.ofNat 32 (i 1).val
  let v560 : BitVec 32 := Scalar.muli c1024_i32_315 arg1
  let v561 : BitVec 32 := Scalar.subi c2040_i32_316 v560
  let c128_i32_317 : BitVec 32 := 128#32
  let v562 : BitVec 32 := Scalar.subi v561 c128_i32_317
  let c0_i32_319 : BitVec 32 := 0#32
  let v564 : BitVec 1 := Scalar.cmpi .sgt v562 c0_i32_319
  let v565 : BitVec 32 := Scalar.extui v564
  let c0_i32_320 : BitVec 32 := 0#32
  let v566 : BitVec 1 := Scalar.cmpi .slt v562 c0_i32_320
  let v567 : BitVec 32 := Scalar.extui v566
  let v568 : BitVec 32 := Scalar.subi v565 v567
  let c128_i32_318 : BitVec 32 := 128#32
  let c0_i32_321 : BitVec 32 := 0#32
  let v569 : BitVec 1 := Scalar.cmpi .sgt c128_i32_318 c0_i32_321
  let v570 : BitVec 32 := Scalar.extui v569
  let c0_i32_322 : BitVec 32 := 0#32
  let v571 : BitVec 1 := Scalar.cmpi .slt c128_i32_318 c0_i32_322
  let v572 : BitVec 32 := Scalar.extui v571
  let v573 : BitVec 32 := Scalar.subi v570 v572
  let v574 : BitVec 1 := Scalar.cmpi .ne v568 v573
  let v575 : BitVec 32 := Scalar.remsi v562 c128_i32_318
  let c0_i32_323 : BitVec 32 := 0#32
  let v576 : BitVec 1 := Scalar.cmpi .ne v575 c0_i32_323
  let v577 : BitVec 1 := Scalar.andi v574 v576
  let v563 : BitVec 32 := Scalar.divsi v562 c128_i32_318
  let c1_i32_324 : BitVec 32 := 1#32
  let v578 : BitVec 32 := Scalar.subi v563 c1_i32_324
  let v579 : BitVec 32 := Scalar.select v577 v578 v563
  let c128_i32_325 : BitVec 32 := 128#32
  let v580 : BitVec 32 := Scalar.muli v579 c128_i32_325
  v580
def k1_mult18 (i : grid1.Coords) : BitVec 32 :=
  let c2040_i32_337 : BitVec 32 := 2040#32
  let c1024_i32_336 : BitVec 32 := 1024#32
  let arg1 : BitVec 32 := BitVec.ofNat 32 (i 1).val
  let v595 : BitVec 32 := Scalar.muli c1024_i32_336 arg1
  let v596 : BitVec 32 := Scalar.subi c2040_i32_337 v595
  let c136_i32 : BitVec 32 := 136#32
  let v597 : BitVec 32 := Scalar.subi v596 c136_i32
  let c0_i32_339 : BitVec 32 := 0#32
  let v599 : BitVec 1 := Scalar.cmpi .sgt v597 c0_i32_339
  let v600 : BitVec 32 := Scalar.extui v599
  let c0_i32_340 : BitVec 32 := 0#32
  let v601 : BitVec 1 := Scalar.cmpi .slt v597 c0_i32_340
  let v602 : BitVec 32 := Scalar.extui v601
  let v603 : BitVec 32 := Scalar.subi v600 v602
  let c128_i32_338 : BitVec 32 := 128#32
  let c0_i32_341 : BitVec 32 := 0#32
  let v604 : BitVec 1 := Scalar.cmpi .sgt c128_i32_338 c0_i32_341
  let v605 : BitVec 32 := Scalar.extui v604
  let c0_i32_342 : BitVec 32 := 0#32
  let v606 : BitVec 1 := Scalar.cmpi .slt c128_i32_338 c0_i32_342
  let v607 : BitVec 32 := Scalar.extui v606
  let v608 : BitVec 32 := Scalar.subi v605 v607
  let v609 : BitVec 1 := Scalar.cmpi .ne v603 v608
  let v610 : BitVec 32 := Scalar.remsi v597 c128_i32_338
  let c0_i32_343 : BitVec 32 := 0#32
  let v611 : BitVec 1 := Scalar.cmpi .ne v610 c0_i32_343
  let v612 : BitVec 1 := Scalar.andi v609 v611
  let v598 : BitVec 32 := Scalar.divsi v597 c128_i32_338
  let c1_i32_344 : BitVec 32 := 1#32
  let v613 : BitVec 32 := Scalar.subi v598 c1_i32_344
  let v614 : BitVec 32 := Scalar.select v612 v613 v598
  let c128_i32_345 : BitVec 32 := 128#32
  let v615 : BitVec 32 := Scalar.muli v614 c128_i32_345
  v615
def k1_mult19 (i : grid1.Coords) : BitVec 32 :=
  let c2040_i32_357 : BitVec 32 := 2040#32
  let c1024_i32_356 : BitVec 32 := 1024#32
  let arg1 : BitVec 32 := BitVec.ofNat 32 (i 1).val
  let v630 : BitVec 32 := Scalar.muli c1024_i32_356 arg1
  let v631 : BitVec 32 := Scalar.subi c2040_i32_357 v630
  let c144_i32 : BitVec 32 := 144#32
  let v632 : BitVec 32 := Scalar.subi v631 c144_i32
  let c0_i32_359 : BitVec 32 := 0#32
  let v634 : BitVec 1 := Scalar.cmpi .sgt v632 c0_i32_359
  let v635 : BitVec 32 := Scalar.extui v634
  let c0_i32_360 : BitVec 32 := 0#32
  let v636 : BitVec 1 := Scalar.cmpi .slt v632 c0_i32_360
  let v637 : BitVec 32 := Scalar.extui v636
  let v638 : BitVec 32 := Scalar.subi v635 v637
  let c128_i32_358 : BitVec 32 := 128#32
  let c0_i32_361 : BitVec 32 := 0#32
  let v639 : BitVec 1 := Scalar.cmpi .sgt c128_i32_358 c0_i32_361
  let v640 : BitVec 32 := Scalar.extui v639
  let c0_i32_362 : BitVec 32 := 0#32
  let v641 : BitVec 1 := Scalar.cmpi .slt c128_i32_358 c0_i32_362
  let v642 : BitVec 32 := Scalar.extui v641
  let v643 : BitVec 32 := Scalar.subi v640 v642
  let v644 : BitVec 1 := Scalar.cmpi .ne v638 v643
  let v645 : BitVec 32 := Scalar.remsi v632 c128_i32_358
  let c0_i32_363 : BitVec 32 := 0#32
  let v646 : BitVec 1 := Scalar.cmpi .ne v645 c0_i32_363
  let v647 : BitVec 1 := Scalar.andi v644 v646
  let v633 : BitVec 32 := Scalar.divsi v632 c128_i32_358
  let c1_i32_364 : BitVec 32 := 1#32
  let v648 : BitVec 32 := Scalar.subi v633 c1_i32_364
  let v649 : BitVec 32 := Scalar.select v647 v648 v633
  let c128_i32_365 : BitVec 32 := 128#32
  let v650 : BitVec 32 := Scalar.muli v649 c128_i32_365
  v650
def k1_mult20 (i : grid1.Coords) : BitVec 32 :=
  let c2040_i32_377 : BitVec 32 := 2040#32
  let c1024_i32_376 : BitVec 32 := 1024#32
  let arg1 : BitVec 32 := BitVec.ofNat 32 (i 1).val
  let v665 : BitVec 32 := Scalar.muli c1024_i32_376 arg1
  let v666 : BitVec 32 := Scalar.subi c2040_i32_377 v665
  let c152_i32 : BitVec 32 := 152#32
  let v667 : BitVec 32 := Scalar.subi v666 c152_i32
  let c0_i32_379 : BitVec 32 := 0#32
  let v669 : BitVec 1 := Scalar.cmpi .sgt v667 c0_i32_379
  let v670 : BitVec 32 := Scalar.extui v669
  let c0_i32_380 : BitVec 32 := 0#32
  let v671 : BitVec 1 := Scalar.cmpi .slt v667 c0_i32_380
  let v672 : BitVec 32 := Scalar.extui v671
  let v673 : BitVec 32 := Scalar.subi v670 v672
  let c128_i32_378 : BitVec 32 := 128#32
  let c0_i32_381 : BitVec 32 := 0#32
  let v674 : BitVec 1 := Scalar.cmpi .sgt c128_i32_378 c0_i32_381
  let v675 : BitVec 32 := Scalar.extui v674
  let c0_i32_382 : BitVec 32 := 0#32
  let v676 : BitVec 1 := Scalar.cmpi .slt c128_i32_378 c0_i32_382
  let v677 : BitVec 32 := Scalar.extui v676
  let v678 : BitVec 32 := Scalar.subi v675 v677
  let v679 : BitVec 1 := Scalar.cmpi .ne v673 v678
  let v680 : BitVec 32 := Scalar.remsi v667 c128_i32_378
  let c0_i32_383 : BitVec 32 := 0#32
  let v681 : BitVec 1 := Scalar.cmpi .ne v680 c0_i32_383
  let v682 : BitVec 1 := Scalar.andi v679 v681
  let v668 : BitVec 32 := Scalar.divsi v667 c128_i32_378
  let c1_i32_384 : BitVec 32 := 1#32
  let v683 : BitVec 32 := Scalar.subi v668 c1_i32_384
  let v684 : BitVec 32 := Scalar.select v682 v683 v668
  let c128_i32_385 : BitVec 32 := 128#32
  let v685 : BitVec 32 := Scalar.muli v684 c128_i32_385
  v685
def k1_mult21 (i : grid1.Coords) : BitVec 32 :=
  let c2040_i32_397 : BitVec 32 := 2040#32
  let c1024_i32_396 : BitVec 32 := 1024#32
  let arg1 : BitVec 32 := BitVec.ofNat 32 (i 1).val
  let v700 : BitVec 32 := Scalar.muli c1024_i32_396 arg1
  let v701 : BitVec 32 := Scalar.subi c2040_i32_397 v700
  let c160_i32 : BitVec 32 := 160#32
  let v702 : BitVec 32 := Scalar.subi v701 c160_i32
  let c0_i32_399 : BitVec 32 := 0#32
  let v704 : BitVec 1 := Scalar.cmpi .sgt v702 c0_i32_399
  let v705 : BitVec 32 := Scalar.extui v704
  let c0_i32_400 : BitVec 32 := 0#32
  let v706 : BitVec 1 := Scalar.cmpi .slt v702 c0_i32_400
  let v707 : BitVec 32 := Scalar.extui v706
  let v708 : BitVec 32 := Scalar.subi v705 v707
  let c128_i32_398 : BitVec 32 := 128#32
  let c0_i32_401 : BitVec 32 := 0#32
  let v709 : BitVec 1 := Scalar.cmpi .sgt c128_i32_398 c0_i32_401
  let v710 : BitVec 32 := Scalar.extui v709
  let c0_i32_402 : BitVec 32 := 0#32
  let v711 : BitVec 1 := Scalar.cmpi .slt c128_i32_398 c0_i32_402
  let v712 : BitVec 32 := Scalar.extui v711
  let v713 : BitVec 32 := Scalar.subi v710 v712
  let v714 : BitVec 1 := Scalar.cmpi .ne v708 v713
  let v715 : BitVec 32 := Scalar.remsi v702 c128_i32_398
  let c0_i32_403 : BitVec 32 := 0#32
  let v716 : BitVec 1 := Scalar.cmpi .ne v715 c0_i32_403
  let v717 : BitVec 1 := Scalar.andi v714 v716
  let v703 : BitVec 32 := Scalar.divsi v702 c128_i32_398
  let c1_i32_404 : BitVec 32 := 1#32
  let v718 : BitVec 32 := Scalar.subi v703 c1_i32_404
  let v719 : BitVec 32 := Scalar.select v717 v718 v703
  let c128_i32_405 : BitVec 32 := 128#32
  let v720 : BitVec 32 := Scalar.muli v719 c128_i32_405
  v720
def k1_mult22 (i : grid1.Coords) : BitVec 32 :=
  let c2040_i32_417 : BitVec 32 := 2040#32
  let c1024_i32_416 : BitVec 32 := 1024#32
  let arg1 : BitVec 32 := BitVec.ofNat 32 (i 1).val
  let v735 : BitVec 32 := Scalar.muli c1024_i32_416 arg1
  let v736 : BitVec 32 := Scalar.subi c2040_i32_417 v735
  let c168_i32 : BitVec 32 := 168#32
  let v737 : BitVec 32 := Scalar.subi v736 c168_i32
  let c0_i32_419 : BitVec 32 := 0#32
  let v739 : BitVec 1 := Scalar.cmpi .sgt v737 c0_i32_419
  let v740 : BitVec 32 := Scalar.extui v739
  let c0_i32_420 : BitVec 32 := 0#32
  let v741 : BitVec 1 := Scalar.cmpi .slt v737 c0_i32_420
  let v742 : BitVec 32 := Scalar.extui v741
  let v743 : BitVec 32 := Scalar.subi v740 v742
  let c128_i32_418 : BitVec 32 := 128#32
  let c0_i32_421 : BitVec 32 := 0#32
  let v744 : BitVec 1 := Scalar.cmpi .sgt c128_i32_418 c0_i32_421
  let v745 : BitVec 32 := Scalar.extui v744
  let c0_i32_422 : BitVec 32 := 0#32
  let v746 : BitVec 1 := Scalar.cmpi .slt c128_i32_418 c0_i32_422
  let v747 : BitVec 32 := Scalar.extui v746
  let v748 : BitVec 32 := Scalar.subi v745 v747
  let v749 : BitVec 1 := Scalar.cmpi .ne v743 v748
  let v750 : BitVec 32 := Scalar.remsi v737 c128_i32_418
  let c0_i32_423 : BitVec 32 := 0#32
  let v751 : BitVec 1 := Scalar.cmpi .ne v750 c0_i32_423
  let v752 : BitVec 1 := Scalar.andi v749 v751
  let v738 : BitVec 32 := Scalar.divsi v737 c128_i32_418
  let c1_i32_424 : BitVec 32 := 1#32
  let v753 : BitVec 32 := Scalar.subi v738 c1_i32_424
  let v754 : BitVec 32 := Scalar.select v752 v753 v738
  let c128_i32_425 : BitVec 32 := 128#32
  let v755 : BitVec 32 := Scalar.muli v754 c128_i32_425
  v755
def k1_mult23 (i : grid1.Coords) : BitVec 32 :=
  let c2040_i32_437 : BitVec 32 := 2040#32
  let c1024_i32_436 : BitVec 32 := 1024#32
  let arg1 : BitVec 32 := BitVec.ofNat 32 (i 1).val
  let v770 : BitVec 32 := Scalar.muli c1024_i32_436 arg1
  let v771 : BitVec 32 := Scalar.subi c2040_i32_437 v770
  let c176_i32 : BitVec 32 := 176#32
  let v772 : BitVec 32 := Scalar.subi v771 c176_i32
  let c0_i32_439 : BitVec 32 := 0#32
  let v774 : BitVec 1 := Scalar.cmpi .sgt v772 c0_i32_439
  let v775 : BitVec 32 := Scalar.extui v774
  let c0_i32_440 : BitVec 32 := 0#32
  let v776 : BitVec 1 := Scalar.cmpi .slt v772 c0_i32_440
  let v777 : BitVec 32 := Scalar.extui v776
  let v778 : BitVec 32 := Scalar.subi v775 v777
  let c128_i32_438 : BitVec 32 := 128#32
  let c0_i32_441 : BitVec 32 := 0#32
  let v779 : BitVec 1 := Scalar.cmpi .sgt c128_i32_438 c0_i32_441
  let v780 : BitVec 32 := Scalar.extui v779
  let c0_i32_442 : BitVec 32 := 0#32
  let v781 : BitVec 1 := Scalar.cmpi .slt c128_i32_438 c0_i32_442
  let v782 : BitVec 32 := Scalar.extui v781
  let v783 : BitVec 32 := Scalar.subi v780 v782
  let v784 : BitVec 1 := Scalar.cmpi .ne v778 v783
  let v785 : BitVec 32 := Scalar.remsi v772 c128_i32_438
  let c0_i32_443 : BitVec 32 := 0#32
  let v786 : BitVec 1 := Scalar.cmpi .ne v785 c0_i32_443
  let v787 : BitVec 1 := Scalar.andi v784 v786
  let v773 : BitVec 32 := Scalar.divsi v772 c128_i32_438
  let c1_i32_444 : BitVec 32 := 1#32
  let v788 : BitVec 32 := Scalar.subi v773 c1_i32_444
  let v789 : BitVec 32 := Scalar.select v787 v788 v773
  let c128_i32_445 : BitVec 32 := 128#32
  let v790 : BitVec 32 := Scalar.muli v789 c128_i32_445
  v790
def k1_mult24 (i : grid1.Coords) : BitVec 32 :=
  let c2040_i32_457 : BitVec 32 := 2040#32
  let c1024_i32_456 : BitVec 32 := 1024#32
  let arg1 : BitVec 32 := BitVec.ofNat 32 (i 1).val
  let v805 : BitVec 32 := Scalar.muli c1024_i32_456 arg1
  let v806 : BitVec 32 := Scalar.subi c2040_i32_457 v805
  let c184_i32 : BitVec 32 := 184#32
  let v807 : BitVec 32 := Scalar.subi v806 c184_i32
  let c0_i32_459 : BitVec 32 := 0#32
  let v809 : BitVec 1 := Scalar.cmpi .sgt v807 c0_i32_459
  let v810 : BitVec 32 := Scalar.extui v809
  let c0_i32_460 : BitVec 32 := 0#32
  let v811 : BitVec 1 := Scalar.cmpi .slt v807 c0_i32_460
  let v812 : BitVec 32 := Scalar.extui v811
  let v813 : BitVec 32 := Scalar.subi v810 v812
  let c128_i32_458 : BitVec 32 := 128#32
  let c0_i32_461 : BitVec 32 := 0#32
  let v814 : BitVec 1 := Scalar.cmpi .sgt c128_i32_458 c0_i32_461
  let v815 : BitVec 32 := Scalar.extui v814
  let c0_i32_462 : BitVec 32 := 0#32
  let v816 : BitVec 1 := Scalar.cmpi .slt c128_i32_458 c0_i32_462
  let v817 : BitVec 32 := Scalar.extui v816
  let v818 : BitVec 32 := Scalar.subi v815 v817
  let v819 : BitVec 1 := Scalar.cmpi .ne v813 v818
  let v820 : BitVec 32 := Scalar.remsi v807 c128_i32_458
  let c0_i32_463 : BitVec 32 := 0#32
  let v821 : BitVec 1 := Scalar.cmpi .ne v820 c0_i32_463
  let v822 : BitVec 1 := Scalar.andi v819 v821
  let v808 : BitVec 32 := Scalar.divsi v807 c128_i32_458
  let c1_i32_464 : BitVec 32 := 1#32
  let v823 : BitVec 32 := Scalar.subi v808 c1_i32_464
  let v824 : BitVec 32 := Scalar.select v822 v823 v808
  let c128_i32_465 : BitVec 32 := 128#32
  let v825 : BitVec 32 := Scalar.muli v824 c128_i32_465
  v825
def k1_mult25 (i : grid1.Coords) : BitVec 32 :=
  let c2040_i32_477 : BitVec 32 := 2040#32
  let c1024_i32_476 : BitVec 32 := 1024#32
  let arg1 : BitVec 32 := BitVec.ofNat 32 (i 1).val
  let v840 : BitVec 32 := Scalar.muli c1024_i32_476 arg1
  let v841 : BitVec 32 := Scalar.subi c2040_i32_477 v840
  let c192_i32 : BitVec 32 := 192#32
  let v842 : BitVec 32 := Scalar.subi v841 c192_i32
  let c0_i32_479 : BitVec 32 := 0#32
  let v844 : BitVec 1 := Scalar.cmpi .sgt v842 c0_i32_479
  let v845 : BitVec 32 := Scalar.extui v844
  let c0_i32_480 : BitVec 32 := 0#32
  let v846 : BitVec 1 := Scalar.cmpi .slt v842 c0_i32_480
  let v847 : BitVec 32 := Scalar.extui v846
  let v848 : BitVec 32 := Scalar.subi v845 v847
  let c128_i32_478 : BitVec 32 := 128#32
  let c0_i32_481 : BitVec 32 := 0#32
  let v849 : BitVec 1 := Scalar.cmpi .sgt c128_i32_478 c0_i32_481
  let v850 : BitVec 32 := Scalar.extui v849
  let c0_i32_482 : BitVec 32 := 0#32
  let v851 : BitVec 1 := Scalar.cmpi .slt c128_i32_478 c0_i32_482
  let v852 : BitVec 32 := Scalar.extui v851
  let v853 : BitVec 32 := Scalar.subi v850 v852
  let v854 : BitVec 1 := Scalar.cmpi .ne v848 v853
  let v855 : BitVec 32 := Scalar.remsi v842 c128_i32_478
  let c0_i32_483 : BitVec 32 := 0#32
  let v856 : BitVec 1 := Scalar.cmpi .ne v855 c0_i32_483
  let v857 : BitVec 1 := Scalar.andi v854 v856
  let v843 : BitVec 32 := Scalar.divsi v842 c128_i32_478
  let c1_i32_484 : BitVec 32 := 1#32
  let v858 : BitVec 32 := Scalar.subi v843 c1_i32_484
  let v859 : BitVec 32 := Scalar.select v857 v858 v843
  let c128_i32_485 : BitVec 32 := 128#32
  let v860 : BitVec 32 := Scalar.muli v859 c128_i32_485
  v860
def k1_mult26 (i : grid1.Coords) : BitVec 32 :=
  let c2040_i32_497 : BitVec 32 := 2040#32
  let c1024_i32_496 : BitVec 32 := 1024#32
  let arg1 : BitVec 32 := BitVec.ofNat 32 (i 1).val
  let v875 : BitVec 32 := Scalar.muli c1024_i32_496 arg1
  let v876 : BitVec 32 := Scalar.subi c2040_i32_497 v875
  let c200_i32 : BitVec 32 := 200#32
  let v877 : BitVec 32 := Scalar.subi v876 c200_i32
  let c0_i32_499 : BitVec 32 := 0#32
  let v879 : BitVec 1 := Scalar.cmpi .sgt v877 c0_i32_499
  let v880 : BitVec 32 := Scalar.extui v879
  let c0_i32_500 : BitVec 32 := 0#32
  let v881 : BitVec 1 := Scalar.cmpi .slt v877 c0_i32_500
  let v882 : BitVec 32 := Scalar.extui v881
  let v883 : BitVec 32 := Scalar.subi v880 v882
  let c128_i32_498 : BitVec 32 := 128#32
  let c0_i32_501 : BitVec 32 := 0#32
  let v884 : BitVec 1 := Scalar.cmpi .sgt c128_i32_498 c0_i32_501
  let v885 : BitVec 32 := Scalar.extui v884
  let c0_i32_502 : BitVec 32 := 0#32
  let v886 : BitVec 1 := Scalar.cmpi .slt c128_i32_498 c0_i32_502
  let v887 : BitVec 32 := Scalar.extui v886
  let v888 : BitVec 32 := Scalar.subi v885 v887
  let v889 : BitVec 1 := Scalar.cmpi .ne v883 v888
  let v890 : BitVec 32 := Scalar.remsi v877 c128_i32_498
  let c0_i32_503 : BitVec 32 := 0#32
  let v891 : BitVec 1 := Scalar.cmpi .ne v890 c0_i32_503
  let v892 : BitVec 1 := Scalar.andi v889 v891
  let v878 : BitVec 32 := Scalar.divsi v877 c128_i32_498
  let c1_i32_504 : BitVec 32 := 1#32
  let v893 : BitVec 32 := Scalar.subi v878 c1_i32_504
  let v894 : BitVec 32 := Scalar.select v892 v893 v878
  let c128_i32_505 : BitVec 32 := 128#32
  let v895 : BitVec 32 := Scalar.muli v894 c128_i32_505
  v895
def k1_mult27 (i : grid1.Coords) : BitVec 32 :=
  let c2040_i32_517 : BitVec 32 := 2040#32
  let c1024_i32_516 : BitVec 32 := 1024#32
  let arg1 : BitVec 32 := BitVec.ofNat 32 (i 1).val
  let v910 : BitVec 32 := Scalar.muli c1024_i32_516 arg1
  let v911 : BitVec 32 := Scalar.subi c2040_i32_517 v910
  let c208_i32 : BitVec 32 := 208#32
  let v912 : BitVec 32 := Scalar.subi v911 c208_i32
  let c0_i32_519 : BitVec 32 := 0#32
  let v914 : BitVec 1 := Scalar.cmpi .sgt v912 c0_i32_519
  let v915 : BitVec 32 := Scalar.extui v914
  let c0_i32_520 : BitVec 32 := 0#32
  let v916 : BitVec 1 := Scalar.cmpi .slt v912 c0_i32_520
  let v917 : BitVec 32 := Scalar.extui v916
  let v918 : BitVec 32 := Scalar.subi v915 v917
  let c128_i32_518 : BitVec 32 := 128#32
  let c0_i32_521 : BitVec 32 := 0#32
  let v919 : BitVec 1 := Scalar.cmpi .sgt c128_i32_518 c0_i32_521
  let v920 : BitVec 32 := Scalar.extui v919
  let c0_i32_522 : BitVec 32 := 0#32
  let v921 : BitVec 1 := Scalar.cmpi .slt c128_i32_518 c0_i32_522
  let v922 : BitVec 32 := Scalar.extui v921
  let v923 : BitVec 32 := Scalar.subi v920 v922
  let v924 : BitVec 1 := Scalar.cmpi .ne v918 v923
  let v925 : BitVec 32 := Scalar.remsi v912 c128_i32_518
  let c0_i32_523 : BitVec 32 := 0#32
  let v926 : BitVec 1 := Scalar.cmpi .ne v925 c0_i32_523
  let v927 : BitVec 1 := Scalar.andi v924 v926
  let v913 : BitVec 32 := Scalar.divsi v912 c128_i32_518
  let c1_i32_524 : BitVec 32 := 1#32
  let v928 : BitVec 32 := Scalar.subi v913 c1_i32_524
  let v929 : BitVec 32 := Scalar.select v927 v928 v913
  let c128_i32_525 : BitVec 32 := 128#32
  let v930 : BitVec 32 := Scalar.muli v929 c128_i32_525
  v930
def k1_mult28 (i : grid1.Coords) : BitVec 32 :=
  let c2040_i32_537 : BitVec 32 := 2040#32
  let c1024_i32_536 : BitVec 32 := 1024#32
  let arg1 : BitVec 32 := BitVec.ofNat 32 (i 1).val
  let v945 : BitVec 32 := Scalar.muli c1024_i32_536 arg1
  let v946 : BitVec 32 := Scalar.subi c2040_i32_537 v945
  let c216_i32 : BitVec 32 := 216#32
  let v947 : BitVec 32 := Scalar.subi v946 c216_i32
  let c0_i32_539 : BitVec 32 := 0#32
  let v949 : BitVec 1 := Scalar.cmpi .sgt v947 c0_i32_539
  let v950 : BitVec 32 := Scalar.extui v949
  let c0_i32_540 : BitVec 32 := 0#32
  let v951 : BitVec 1 := Scalar.cmpi .slt v947 c0_i32_540
  let v952 : BitVec 32 := Scalar.extui v951
  let v953 : BitVec 32 := Scalar.subi v950 v952
  let c128_i32_538 : BitVec 32 := 128#32
  let c0_i32_541 : BitVec 32 := 0#32
  let v954 : BitVec 1 := Scalar.cmpi .sgt c128_i32_538 c0_i32_541
  let v955 : BitVec 32 := Scalar.extui v954
  let c0_i32_542 : BitVec 32 := 0#32
  let v956 : BitVec 1 := Scalar.cmpi .slt c128_i32_538 c0_i32_542
  let v957 : BitVec 32 := Scalar.extui v956
  let v958 : BitVec 32 := Scalar.subi v955 v957
  let v959 : BitVec 1 := Scalar.cmpi .ne v953 v958
  let v960 : BitVec 32 := Scalar.remsi v947 c128_i32_538
  let c0_i32_543 : BitVec 32 := 0#32
  let v961 : BitVec 1 := Scalar.cmpi .ne v960 c0_i32_543
  let v962 : BitVec 1 := Scalar.andi v959 v961
  let v948 : BitVec 32 := Scalar.divsi v947 c128_i32_538
  let c1_i32_544 : BitVec 32 := 1#32
  let v963 : BitVec 32 := Scalar.subi v948 c1_i32_544
  let v964 : BitVec 32 := Scalar.select v962 v963 v948
  let c128_i32_545 : BitVec 32 := 128#32
  let v965 : BitVec 32 := Scalar.muli v964 c128_i32_545
  v965
def k1_mult29 (i : grid1.Coords) : BitVec 32 :=
  let c2040_i32_557 : BitVec 32 := 2040#32
  let c1024_i32_556 : BitVec 32 := 1024#32
  let arg1 : BitVec 32 := BitVec.ofNat 32 (i 1).val
  let v980 : BitVec 32 := Scalar.muli c1024_i32_556 arg1
  let v981 : BitVec 32 := Scalar.subi c2040_i32_557 v980
  let c224_i32 : BitVec 32 := 224#32
  let v982 : BitVec 32 := Scalar.subi v981 c224_i32
  let c0_i32_559 : BitVec 32 := 0#32
  let v984 : BitVec 1 := Scalar.cmpi .sgt v982 c0_i32_559
  let v985 : BitVec 32 := Scalar.extui v984
  let c0_i32_560 : BitVec 32 := 0#32
  let v986 : BitVec 1 := Scalar.cmpi .slt v982 c0_i32_560
  let v987 : BitVec 32 := Scalar.extui v986
  let v988 : BitVec 32 := Scalar.subi v985 v987
  let c128_i32_558 : BitVec 32 := 128#32
  let c0_i32_561 : BitVec 32 := 0#32
  let v989 : BitVec 1 := Scalar.cmpi .sgt c128_i32_558 c0_i32_561
  let v990 : BitVec 32 := Scalar.extui v989
  let c0_i32_562 : BitVec 32 := 0#32
  let v991 : BitVec 1 := Scalar.cmpi .slt c128_i32_558 c0_i32_562
  let v992 : BitVec 32 := Scalar.extui v991
  let v993 : BitVec 32 := Scalar.subi v990 v992
  let v994 : BitVec 1 := Scalar.cmpi .ne v988 v993
  let v995 : BitVec 32 := Scalar.remsi v982 c128_i32_558
  let c0_i32_563 : BitVec 32 := 0#32
  let v996 : BitVec 1 := Scalar.cmpi .ne v995 c0_i32_563
  let v997 : BitVec 1 := Scalar.andi v994 v996
  let v983 : BitVec 32 := Scalar.divsi v982 c128_i32_558
  let c1_i32_564 : BitVec 32 := 1#32
  let v998 : BitVec 32 := Scalar.subi v983 c1_i32_564
  let v999 : BitVec 32 := Scalar.select v997 v998 v983
  let c128_i32_565 : BitVec 32 := 128#32
  let v1000 : BitVec 32 := Scalar.muli v999 c128_i32_565
  v1000
def k1_mult30 (i : grid1.Coords) : BitVec 32 :=
  let c2040_i32_577 : BitVec 32 := 2040#32
  let c1024_i32_576 : BitVec 32 := 1024#32
  let arg1 : BitVec 32 := BitVec.ofNat 32 (i 1).val
  let v1015 : BitVec 32 := Scalar.muli c1024_i32_576 arg1
  let v1016 : BitVec 32 := Scalar.subi c2040_i32_577 v1015
  let c232_i32 : BitVec 32 := 232#32
  let v1017 : BitVec 32 := Scalar.subi v1016 c232_i32
  let c0_i32_579 : BitVec 32 := 0#32
  let v1019 : BitVec 1 := Scalar.cmpi .sgt v1017 c0_i32_579
  let v1020 : BitVec 32 := Scalar.extui v1019
  let c0_i32_580 : BitVec 32 := 0#32
  let v1021 : BitVec 1 := Scalar.cmpi .slt v1017 c0_i32_580
  let v1022 : BitVec 32 := Scalar.extui v1021
  let v1023 : BitVec 32 := Scalar.subi v1020 v1022
  let c128_i32_578 : BitVec 32 := 128#32
  let c0_i32_581 : BitVec 32 := 0#32
  let v1024 : BitVec 1 := Scalar.cmpi .sgt c128_i32_578 c0_i32_581
  let v1025 : BitVec 32 := Scalar.extui v1024
  let c0_i32_582 : BitVec 32 := 0#32
  let v1026 : BitVec 1 := Scalar.cmpi .slt c128_i32_578 c0_i32_582
  let v1027 : BitVec 32 := Scalar.extui v1026
  let v1028 : BitVec 32 := Scalar.subi v1025 v1027
  let v1029 : BitVec 1 := Scalar.cmpi .ne v1023 v1028
  let v1030 : BitVec 32 := Scalar.remsi v1017 c128_i32_578
  let c0_i32_583 : BitVec 32 := 0#32
  let v1031 : BitVec 1 := Scalar.cmpi .ne v1030 c0_i32_583
  let v1032 : BitVec 1 := Scalar.andi v1029 v1031
  let v1018 : BitVec 32 := Scalar.divsi v1017 c128_i32_578
  let c1_i32_584 : BitVec 32 := 1#32
  let v1033 : BitVec 32 := Scalar.subi v1018 c1_i32_584
  let v1034 : BitVec 32 := Scalar.select v1032 v1033 v1018
  let c128_i32_585 : BitVec 32 := 128#32
  let v1035 : BitVec 32 := Scalar.muli v1034 c128_i32_585
  v1035
def k1_mult31 (i : grid1.Coords) : BitVec 32 :=
  let c2040_i32_597 : BitVec 32 := 2040#32
  let c1024_i32_596 : BitVec 32 := 1024#32
  let arg1 : BitVec 32 := BitVec.ofNat 32 (i 1).val
  let v1050 : BitVec 32 := Scalar.muli c1024_i32_596 arg1
  let v1051 : BitVec 32 := Scalar.subi c2040_i32_597 v1050
  let c240_i32 : BitVec 32 := 240#32
  let v1052 : BitVec 32 := Scalar.subi v1051 c240_i32
  let c0_i32_599 : BitVec 32 := 0#32
  let v1054 : BitVec 1 := Scalar.cmpi .sgt v1052 c0_i32_599
  let v1055 : BitVec 32 := Scalar.extui v1054
  let c0_i32_600 : BitVec 32 := 0#32
  let v1056 : BitVec 1 := Scalar.cmpi .slt v1052 c0_i32_600
  let v1057 : BitVec 32 := Scalar.extui v1056
  let v1058 : BitVec 32 := Scalar.subi v1055 v1057
  let c128_i32_598 : BitVec 32 := 128#32
  let c0_i32_601 : BitVec 32 := 0#32
  let v1059 : BitVec 1 := Scalar.cmpi .sgt c128_i32_598 c0_i32_601
  let v1060 : BitVec 32 := Scalar.extui v1059
  let c0_i32_602 : BitVec 32 := 0#32
  let v1061 : BitVec 1 := Scalar.cmpi .slt c128_i32_598 c0_i32_602
  let v1062 : BitVec 32 := Scalar.extui v1061
  let v1063 : BitVec 32 := Scalar.subi v1060 v1062
  let v1064 : BitVec 1 := Scalar.cmpi .ne v1058 v1063
  let v1065 : BitVec 32 := Scalar.remsi v1052 c128_i32_598
  let c0_i32_603 : BitVec 32 := 0#32
  let v1066 : BitVec 1 := Scalar.cmpi .ne v1065 c0_i32_603
  let v1067 : BitVec 1 := Scalar.andi v1064 v1066
  let v1053 : BitVec 32 := Scalar.divsi v1052 c128_i32_598
  let c1_i32_604 : BitVec 32 := 1#32
  let v1068 : BitVec 32 := Scalar.subi v1053 c1_i32_604
  let v1069 : BitVec 32 := Scalar.select v1067 v1068 v1053
  let c128_i32_605 : BitVec 32 := 128#32
  let v1070 : BitVec 32 := Scalar.muli v1069 c128_i32_605
  v1070
def k1_mult32 (i : grid1.Coords) : BitVec 32 :=
  let c2040_i32_617 : BitVec 32 := 2040#32
  let c1024_i32_616 : BitVec 32 := 1024#32
  let arg1 : BitVec 32 := BitVec.ofNat 32 (i 1).val
  let v1085 : BitVec 32 := Scalar.muli c1024_i32_616 arg1
  let v1086 : BitVec 32 := Scalar.subi c2040_i32_617 v1085
  let c248_i32 : BitVec 32 := 248#32
  let v1087 : BitVec 32 := Scalar.subi v1086 c248_i32
  let c0_i32_619 : BitVec 32 := 0#32
  let v1089 : BitVec 1 := Scalar.cmpi .sgt v1087 c0_i32_619
  let v1090 : BitVec 32 := Scalar.extui v1089
  let c0_i32_620 : BitVec 32 := 0#32
  let v1091 : BitVec 1 := Scalar.cmpi .slt v1087 c0_i32_620
  let v1092 : BitVec 32 := Scalar.extui v1091
  let v1093 : BitVec 32 := Scalar.subi v1090 v1092
  let c128_i32_618 : BitVec 32 := 128#32
  let c0_i32_621 : BitVec 32 := 0#32
  let v1094 : BitVec 1 := Scalar.cmpi .sgt c128_i32_618 c0_i32_621
  let v1095 : BitVec 32 := Scalar.extui v1094
  let c0_i32_622 : BitVec 32 := 0#32
  let v1096 : BitVec 1 := Scalar.cmpi .slt c128_i32_618 c0_i32_622
  let v1097 : BitVec 32 := Scalar.extui v1096
  let v1098 : BitVec 32 := Scalar.subi v1095 v1097
  let v1099 : BitVec 1 := Scalar.cmpi .ne v1093 v1098
  let v1100 : BitVec 32 := Scalar.remsi v1087 c128_i32_618
  let c0_i32_623 : BitVec 32 := 0#32
  let v1101 : BitVec 1 := Scalar.cmpi .ne v1100 c0_i32_623
  let v1102 : BitVec 1 := Scalar.andi v1099 v1101
  let v1088 : BitVec 32 := Scalar.divsi v1087 c128_i32_618
  let c1_i32_624 : BitVec 32 := 1#32
  let v1103 : BitVec 32 := Scalar.subi v1088 c1_i32_624
  let v1104 : BitVec 32 := Scalar.select v1102 v1103 v1088
  let c128_i32_625 : BitVec 32 := 128#32
  let v1105 : BitVec 32 := Scalar.muli v1104 c128_i32_625
  v1105
def k1_mult33 (i : grid1.Coords) : BitVec 32 :=
  let c2040_i32_637 : BitVec 32 := 2040#32
  let c1024_i32_636 : BitVec 32 := 1024#32
  let arg1 : BitVec 32 := BitVec.ofNat 32 (i 1).val
  let v1120 : BitVec 32 := Scalar.muli c1024_i32_636 arg1
  let v1121 : BitVec 32 := Scalar.subi c2040_i32_637 v1120
  let c256_i32 : BitVec 32 := 256#32
  let v1122 : BitVec 32 := Scalar.subi v1121 c256_i32
  let c0_i32_639 : BitVec 32 := 0#32
  let v1124 : BitVec 1 := Scalar.cmpi .sgt v1122 c0_i32_639
  let v1125 : BitVec 32 := Scalar.extui v1124
  let c0_i32_640 : BitVec 32 := 0#32
  let v1126 : BitVec 1 := Scalar.cmpi .slt v1122 c0_i32_640
  let v1127 : BitVec 32 := Scalar.extui v1126
  let v1128 : BitVec 32 := Scalar.subi v1125 v1127
  let c128_i32_638 : BitVec 32 := 128#32
  let c0_i32_641 : BitVec 32 := 0#32
  let v1129 : BitVec 1 := Scalar.cmpi .sgt c128_i32_638 c0_i32_641
  let v1130 : BitVec 32 := Scalar.extui v1129
  let c0_i32_642 : BitVec 32 := 0#32
  let v1131 : BitVec 1 := Scalar.cmpi .slt c128_i32_638 c0_i32_642
  let v1132 : BitVec 32 := Scalar.extui v1131
  let v1133 : BitVec 32 := Scalar.subi v1130 v1132
  let v1134 : BitVec 1 := Scalar.cmpi .ne v1128 v1133
  let v1135 : BitVec 32 := Scalar.remsi v1122 c128_i32_638
  let c0_i32_643 : BitVec 32 := 0#32
  let v1136 : BitVec 1 := Scalar.cmpi .ne v1135 c0_i32_643
  let v1137 : BitVec 1 := Scalar.andi v1134 v1136
  let v1123 : BitVec 32 := Scalar.divsi v1122 c128_i32_638
  let c1_i32_644 : BitVec 32 := 1#32
  let v1138 : BitVec 32 := Scalar.subi v1123 c1_i32_644
  let v1139 : BitVec 32 := Scalar.select v1137 v1138 v1123
  let c128_i32_645 : BitVec 32 := 128#32
  let v1140 : BitVec 32 := Scalar.muli v1139 c128_i32_645
  v1140
def k1_mult34 (i : grid1.Coords) : BitVec 32 :=
  let c2040_i32_657 : BitVec 32 := 2040#32
  let c1024_i32_656 : BitVec 32 := 1024#32
  let arg1 : BitVec 32 := BitVec.ofNat 32 (i 1).val
  let v1155 : BitVec 32 := Scalar.muli c1024_i32_656 arg1
  let v1156 : BitVec 32 := Scalar.subi c2040_i32_657 v1155
  let c264_i32 : BitVec 32 := 264#32
  let v1157 : BitVec 32 := Scalar.subi v1156 c264_i32
  let c0_i32_659 : BitVec 32 := 0#32
  let v1159 : BitVec 1 := Scalar.cmpi .sgt v1157 c0_i32_659
  let v1160 : BitVec 32 := Scalar.extui v1159
  let c0_i32_660 : BitVec 32 := 0#32
  let v1161 : BitVec 1 := Scalar.cmpi .slt v1157 c0_i32_660
  let v1162 : BitVec 32 := Scalar.extui v1161
  let v1163 : BitVec 32 := Scalar.subi v1160 v1162
  let c128_i32_658 : BitVec 32 := 128#32
  let c0_i32_661 : BitVec 32 := 0#32
  let v1164 : BitVec 1 := Scalar.cmpi .sgt c128_i32_658 c0_i32_661
  let v1165 : BitVec 32 := Scalar.extui v1164
  let c0_i32_662 : BitVec 32 := 0#32
  let v1166 : BitVec 1 := Scalar.cmpi .slt c128_i32_658 c0_i32_662
  let v1167 : BitVec 32 := Scalar.extui v1166
  let v1168 : BitVec 32 := Scalar.subi v1165 v1167
  let v1169 : BitVec 1 := Scalar.cmpi .ne v1163 v1168
  let v1170 : BitVec 32 := Scalar.remsi v1157 c128_i32_658
  let c0_i32_663 : BitVec 32 := 0#32
  let v1171 : BitVec 1 := Scalar.cmpi .ne v1170 c0_i32_663
  let v1172 : BitVec 1 := Scalar.andi v1169 v1171
  let v1158 : BitVec 32 := Scalar.divsi v1157 c128_i32_658
  let c1_i32_664 : BitVec 32 := 1#32
  let v1173 : BitVec 32 := Scalar.subi v1158 c1_i32_664
  let v1174 : BitVec 32 := Scalar.select v1172 v1173 v1158
  let c128_i32_665 : BitVec 32 := 128#32
  let v1175 : BitVec 32 := Scalar.muli v1174 c128_i32_665
  v1175
def k1_mult35 (i : grid1.Coords) : BitVec 32 :=
  let c2040_i32_677 : BitVec 32 := 2040#32
  let c1024_i32_676 : BitVec 32 := 1024#32
  let arg1 : BitVec 32 := BitVec.ofNat 32 (i 1).val
  let v1190 : BitVec 32 := Scalar.muli c1024_i32_676 arg1
  let v1191 : BitVec 32 := Scalar.subi c2040_i32_677 v1190
  let c272_i32 : BitVec 32 := 272#32
  let v1192 : BitVec 32 := Scalar.subi v1191 c272_i32
  let c0_i32_679 : BitVec 32 := 0#32
  let v1194 : BitVec 1 := Scalar.cmpi .sgt v1192 c0_i32_679
  let v1195 : BitVec 32 := Scalar.extui v1194
  let c0_i32_680 : BitVec 32 := 0#32
  let v1196 : BitVec 1 := Scalar.cmpi .slt v1192 c0_i32_680
  let v1197 : BitVec 32 := Scalar.extui v1196
  let v1198 : BitVec 32 := Scalar.subi v1195 v1197
  let c128_i32_678 : BitVec 32 := 128#32
  let c0_i32_681 : BitVec 32 := 0#32
  let v1199 : BitVec 1 := Scalar.cmpi .sgt c128_i32_678 c0_i32_681
  let v1200 : BitVec 32 := Scalar.extui v1199
  let c0_i32_682 : BitVec 32 := 0#32
  let v1201 : BitVec 1 := Scalar.cmpi .slt c128_i32_678 c0_i32_682
  let v1202 : BitVec 32 := Scalar.extui v1201
  let v1203 : BitVec 32 := Scalar.subi v1200 v1202
  let v1204 : BitVec 1 := Scalar.cmpi .ne v1198 v1203
  let v1205 : BitVec 32 := Scalar.remsi v1192 c128_i32_678
  let c0_i32_683 : BitVec 32 := 0#32
  let v1206 : BitVec 1 := Scalar.cmpi .ne v1205 c0_i32_683
  let v1207 : BitVec 1 := Scalar.andi v1204 v1206
  let v1193 : BitVec 32 := Scalar.divsi v1192 c128_i32_678
  let c1_i32_684 : BitVec 32 := 1#32
  let v1208 : BitVec 32 := Scalar.subi v1193 c1_i32_684
  let v1209 : BitVec 32 := Scalar.select v1207 v1208 v1193
  let c128_i32_685 : BitVec 32 := 128#32
  let v1210 : BitVec 32 := Scalar.muli v1209 c128_i32_685
  v1210
def k1_mult36 (i : grid1.Coords) : BitVec 32 :=
  let c2040_i32_697 : BitVec 32 := 2040#32
  let c1024_i32_696 : BitVec 32 := 1024#32
  let arg1 : BitVec 32 := BitVec.ofNat 32 (i 1).val
  let v1225 : BitVec 32 := Scalar.muli c1024_i32_696 arg1
  let v1226 : BitVec 32 := Scalar.subi c2040_i32_697 v1225
  let c280_i32 : BitVec 32 := 280#32
  let v1227 : BitVec 32 := Scalar.subi v1226 c280_i32
  let c0_i32_699 : BitVec 32 := 0#32
  let v1229 : BitVec 1 := Scalar.cmpi .sgt v1227 c0_i32_699
  let v1230 : BitVec 32 := Scalar.extui v1229
  let c0_i32_700 : BitVec 32 := 0#32
  let v1231 : BitVec 1 := Scalar.cmpi .slt v1227 c0_i32_700
  let v1232 : BitVec 32 := Scalar.extui v1231
  let v1233 : BitVec 32 := Scalar.subi v1230 v1232
  let c128_i32_698 : BitVec 32 := 128#32
  let c0_i32_701 : BitVec 32 := 0#32
  let v1234 : BitVec 1 := Scalar.cmpi .sgt c128_i32_698 c0_i32_701
  let v1235 : BitVec 32 := Scalar.extui v1234
  let c0_i32_702 : BitVec 32 := 0#32
  let v1236 : BitVec 1 := Scalar.cmpi .slt c128_i32_698 c0_i32_702
  let v1237 : BitVec 32 := Scalar.extui v1236
  let v1238 : BitVec 32 := Scalar.subi v1235 v1237
  let v1239 : BitVec 1 := Scalar.cmpi .ne v1233 v1238
  let v1240 : BitVec 32 := Scalar.remsi v1227 c128_i32_698
  let c0_i32_703 : BitVec 32 := 0#32
  let v1241 : BitVec 1 := Scalar.cmpi .ne v1240 c0_i32_703
  let v1242 : BitVec 1 := Scalar.andi v1239 v1241
  let v1228 : BitVec 32 := Scalar.divsi v1227 c128_i32_698
  let c1_i32_704 : BitVec 32 := 1#32
  let v1243 : BitVec 32 := Scalar.subi v1228 c1_i32_704
  let v1244 : BitVec 32 := Scalar.select v1242 v1243 v1228
  let c128_i32_705 : BitVec 32 := 128#32
  let v1245 : BitVec 32 := Scalar.muli v1244 c128_i32_705
  v1245
def k1_mult37 (i : grid1.Coords) : BitVec 32 :=
  let c2040_i32_717 : BitVec 32 := 2040#32
  let c1024_i32_716 : BitVec 32 := 1024#32
  let arg1 : BitVec 32 := BitVec.ofNat 32 (i 1).val
  let v1260 : BitVec 32 := Scalar.muli c1024_i32_716 arg1
  let v1261 : BitVec 32 := Scalar.subi c2040_i32_717 v1260
  let c288_i32 : BitVec 32 := 288#32
  let v1262 : BitVec 32 := Scalar.subi v1261 c288_i32
  let c0_i32_719 : BitVec 32 := 0#32
  let v1264 : BitVec 1 := Scalar.cmpi .sgt v1262 c0_i32_719
  let v1265 : BitVec 32 := Scalar.extui v1264
  let c0_i32_720 : BitVec 32 := 0#32
  let v1266 : BitVec 1 := Scalar.cmpi .slt v1262 c0_i32_720
  let v1267 : BitVec 32 := Scalar.extui v1266
  let v1268 : BitVec 32 := Scalar.subi v1265 v1267
  let c128_i32_718 : BitVec 32 := 128#32
  let c0_i32_721 : BitVec 32 := 0#32
  let v1269 : BitVec 1 := Scalar.cmpi .sgt c128_i32_718 c0_i32_721
  let v1270 : BitVec 32 := Scalar.extui v1269
  let c0_i32_722 : BitVec 32 := 0#32
  let v1271 : BitVec 1 := Scalar.cmpi .slt c128_i32_718 c0_i32_722
  let v1272 : BitVec 32 := Scalar.extui v1271
  let v1273 : BitVec 32 := Scalar.subi v1270 v1272
  let v1274 : BitVec 1 := Scalar.cmpi .ne v1268 v1273
  let v1275 : BitVec 32 := Scalar.remsi v1262 c128_i32_718
  let c0_i32_723 : BitVec 32 := 0#32
  let v1276 : BitVec 1 := Scalar.cmpi .ne v1275 c0_i32_723
  let v1277 : BitVec 1 := Scalar.andi v1274 v1276
  let v1263 : BitVec 32 := Scalar.divsi v1262 c128_i32_718
  let c1_i32_724 : BitVec 32 := 1#32
  let v1278 : BitVec 32 := Scalar.subi v1263 c1_i32_724
  let v1279 : BitVec 32 := Scalar.select v1277 v1278 v1263
  let c128_i32_725 : BitVec 32 := 128#32
  let v1280 : BitVec 32 := Scalar.muli v1279 c128_i32_725
  v1280
def k1_mult38 (i : grid1.Coords) : BitVec 32 :=
  let c2040_i32_737 : BitVec 32 := 2040#32
  let c1024_i32_736 : BitVec 32 := 1024#32
  let arg1 : BitVec 32 := BitVec.ofNat 32 (i 1).val
  let v1295 : BitVec 32 := Scalar.muli c1024_i32_736 arg1
  let v1296 : BitVec 32 := Scalar.subi c2040_i32_737 v1295
  let c296_i32 : BitVec 32 := 296#32
  let v1297 : BitVec 32 := Scalar.subi v1296 c296_i32
  let c0_i32_739 : BitVec 32 := 0#32
  let v1299 : BitVec 1 := Scalar.cmpi .sgt v1297 c0_i32_739
  let v1300 : BitVec 32 := Scalar.extui v1299
  let c0_i32_740 : BitVec 32 := 0#32
  let v1301 : BitVec 1 := Scalar.cmpi .slt v1297 c0_i32_740
  let v1302 : BitVec 32 := Scalar.extui v1301
  let v1303 : BitVec 32 := Scalar.subi v1300 v1302
  let c128_i32_738 : BitVec 32 := 128#32
  let c0_i32_741 : BitVec 32 := 0#32
  let v1304 : BitVec 1 := Scalar.cmpi .sgt c128_i32_738 c0_i32_741
  let v1305 : BitVec 32 := Scalar.extui v1304
  let c0_i32_742 : BitVec 32 := 0#32
  let v1306 : BitVec 1 := Scalar.cmpi .slt c128_i32_738 c0_i32_742
  let v1307 : BitVec 32 := Scalar.extui v1306
  let v1308 : BitVec 32 := Scalar.subi v1305 v1307
  let v1309 : BitVec 1 := Scalar.cmpi .ne v1303 v1308
  let v1310 : BitVec 32 := Scalar.remsi v1297 c128_i32_738
  let c0_i32_743 : BitVec 32 := 0#32
  let v1311 : BitVec 1 := Scalar.cmpi .ne v1310 c0_i32_743
  let v1312 : BitVec 1 := Scalar.andi v1309 v1311
  let v1298 : BitVec 32 := Scalar.divsi v1297 c128_i32_738
  let c1_i32_744 : BitVec 32 := 1#32
  let v1313 : BitVec 32 := Scalar.subi v1298 c1_i32_744
  let v1314 : BitVec 32 := Scalar.select v1312 v1313 v1298
  let c128_i32_745 : BitVec 32 := 128#32
  let v1315 : BitVec 32 := Scalar.muli v1314 c128_i32_745
  v1315
def k1_mult39 (i : grid1.Coords) : BitVec 32 :=
  let c2040_i32_757 : BitVec 32 := 2040#32
  let c1024_i32_756 : BitVec 32 := 1024#32
  let arg1 : BitVec 32 := BitVec.ofNat 32 (i 1).val
  let v1330 : BitVec 32 := Scalar.muli c1024_i32_756 arg1
  let v1331 : BitVec 32 := Scalar.subi c2040_i32_757 v1330
  let c304_i32 : BitVec 32 := 304#32
  let v1332 : BitVec 32 := Scalar.subi v1331 c304_i32
  let c0_i32_759 : BitVec 32 := 0#32
  let v1334 : BitVec 1 := Scalar.cmpi .sgt v1332 c0_i32_759
  let v1335 : BitVec 32 := Scalar.extui v1334
  let c0_i32_760 : BitVec 32 := 0#32
  let v1336 : BitVec 1 := Scalar.cmpi .slt v1332 c0_i32_760
  let v1337 : BitVec 32 := Scalar.extui v1336
  let v1338 : BitVec 32 := Scalar.subi v1335 v1337
  let c128_i32_758 : BitVec 32 := 128#32
  let c0_i32_761 : BitVec 32 := 0#32
  let v1339 : BitVec 1 := Scalar.cmpi .sgt c128_i32_758 c0_i32_761
  let v1340 : BitVec 32 := Scalar.extui v1339
  let c0_i32_762 : BitVec 32 := 0#32
  let v1341 : BitVec 1 := Scalar.cmpi .slt c128_i32_758 c0_i32_762
  let v1342 : BitVec 32 := Scalar.extui v1341
  let v1343 : BitVec 32 := Scalar.subi v1340 v1342
  let v1344 : BitVec 1 := Scalar.cmpi .ne v1338 v1343
  let v1345 : BitVec 32 := Scalar.remsi v1332 c128_i32_758
  let c0_i32_763 : BitVec 32 := 0#32
  let v1346 : BitVec 1 := Scalar.cmpi .ne v1345 c0_i32_763
  let v1347 : BitVec 1 := Scalar.andi v1344 v1346
  let v1333 : BitVec 32 := Scalar.divsi v1332 c128_i32_758
  let c1_i32_764 : BitVec 32 := 1#32
  let v1348 : BitVec 32 := Scalar.subi v1333 c1_i32_764
  let v1349 : BitVec 32 := Scalar.select v1347 v1348 v1333
  let c128_i32_765 : BitVec 32 := 128#32
  let v1350 : BitVec 32 := Scalar.muli v1349 c128_i32_765
  v1350
def k1_mult40 (i : grid1.Coords) : BitVec 32 :=
  let c2040_i32_777 : BitVec 32 := 2040#32
  let c1024_i32_776 : BitVec 32 := 1024#32
  let arg1 : BitVec 32 := BitVec.ofNat 32 (i 1).val
  let v1365 : BitVec 32 := Scalar.muli c1024_i32_776 arg1
  let v1366 : BitVec 32 := Scalar.subi c2040_i32_777 v1365
  let c312_i32 : BitVec 32 := 312#32
  let v1367 : BitVec 32 := Scalar.subi v1366 c312_i32
  let c0_i32_779 : BitVec 32 := 0#32
  let v1369 : BitVec 1 := Scalar.cmpi .sgt v1367 c0_i32_779
  let v1370 : BitVec 32 := Scalar.extui v1369
  let c0_i32_780 : BitVec 32 := 0#32
  let v1371 : BitVec 1 := Scalar.cmpi .slt v1367 c0_i32_780
  let v1372 : BitVec 32 := Scalar.extui v1371
  let v1373 : BitVec 32 := Scalar.subi v1370 v1372
  let c128_i32_778 : BitVec 32 := 128#32
  let c0_i32_781 : BitVec 32 := 0#32
  let v1374 : BitVec 1 := Scalar.cmpi .sgt c128_i32_778 c0_i32_781
  let v1375 : BitVec 32 := Scalar.extui v1374
  let c0_i32_782 : BitVec 32 := 0#32
  let v1376 : BitVec 1 := Scalar.cmpi .slt c128_i32_778 c0_i32_782
  let v1377 : BitVec 32 := Scalar.extui v1376
  let v1378 : BitVec 32 := Scalar.subi v1375 v1377
  let v1379 : BitVec 1 := Scalar.cmpi .ne v1373 v1378
  let v1380 : BitVec 32 := Scalar.remsi v1367 c128_i32_778
  let c0_i32_783 : BitVec 32 := 0#32
  let v1381 : BitVec 1 := Scalar.cmpi .ne v1380 c0_i32_783
  let v1382 : BitVec 1 := Scalar.andi v1379 v1381
  let v1368 : BitVec 32 := Scalar.divsi v1367 c128_i32_778
  let c1_i32_784 : BitVec 32 := 1#32
  let v1383 : BitVec 32 := Scalar.subi v1368 c1_i32_784
  let v1384 : BitVec 32 := Scalar.select v1382 v1383 v1368
  let c128_i32_785 : BitVec 32 := 128#32
  let v1385 : BitVec 32 := Scalar.muli v1384 c128_i32_785
  v1385
def k1_mult41 (i : grid1.Coords) : BitVec 32 :=
  let c2040_i32_797 : BitVec 32 := 2040#32
  let c1024_i32_796 : BitVec 32 := 1024#32
  let arg1 : BitVec 32 := BitVec.ofNat 32 (i 1).val
  let v1400 : BitVec 32 := Scalar.muli c1024_i32_796 arg1
  let v1401 : BitVec 32 := Scalar.subi c2040_i32_797 v1400
  let c320_i32 : BitVec 32 := 320#32
  let v1402 : BitVec 32 := Scalar.subi v1401 c320_i32
  let c0_i32_799 : BitVec 32 := 0#32
  let v1404 : BitVec 1 := Scalar.cmpi .sgt v1402 c0_i32_799
  let v1405 : BitVec 32 := Scalar.extui v1404
  let c0_i32_800 : BitVec 32 := 0#32
  let v1406 : BitVec 1 := Scalar.cmpi .slt v1402 c0_i32_800
  let v1407 : BitVec 32 := Scalar.extui v1406
  let v1408 : BitVec 32 := Scalar.subi v1405 v1407
  let c128_i32_798 : BitVec 32 := 128#32
  let c0_i32_801 : BitVec 32 := 0#32
  let v1409 : BitVec 1 := Scalar.cmpi .sgt c128_i32_798 c0_i32_801
  let v1410 : BitVec 32 := Scalar.extui v1409
  let c0_i32_802 : BitVec 32 := 0#32
  let v1411 : BitVec 1 := Scalar.cmpi .slt c128_i32_798 c0_i32_802
  let v1412 : BitVec 32 := Scalar.extui v1411
  let v1413 : BitVec 32 := Scalar.subi v1410 v1412
  let v1414 : BitVec 1 := Scalar.cmpi .ne v1408 v1413
  let v1415 : BitVec 32 := Scalar.remsi v1402 c128_i32_798
  let c0_i32_803 : BitVec 32 := 0#32
  let v1416 : BitVec 1 := Scalar.cmpi .ne v1415 c0_i32_803
  let v1417 : BitVec 1 := Scalar.andi v1414 v1416
  let v1403 : BitVec 32 := Scalar.divsi v1402 c128_i32_798
  let c1_i32_804 : BitVec 32 := 1#32
  let v1418 : BitVec 32 := Scalar.subi v1403 c1_i32_804
  let v1419 : BitVec 32 := Scalar.select v1417 v1418 v1403
  let c128_i32_805 : BitVec 32 := 128#32
  let v1420 : BitVec 32 := Scalar.muli v1419 c128_i32_805
  v1420
def k1_mult42 (i : grid1.Coords) : BitVec 32 :=
  let c2040_i32_817 : BitVec 32 := 2040#32
  let c1024_i32_816 : BitVec 32 := 1024#32
  let arg1 : BitVec 32 := BitVec.ofNat 32 (i 1).val
  let v1435 : BitVec 32 := Scalar.muli c1024_i32_816 arg1
  let v1436 : BitVec 32 := Scalar.subi c2040_i32_817 v1435
  let c328_i32 : BitVec 32 := 328#32
  let v1437 : BitVec 32 := Scalar.subi v1436 c328_i32
  let c0_i32_819 : BitVec 32 := 0#32
  let v1439 : BitVec 1 := Scalar.cmpi .sgt v1437 c0_i32_819
  let v1440 : BitVec 32 := Scalar.extui v1439
  let c0_i32_820 : BitVec 32 := 0#32
  let v1441 : BitVec 1 := Scalar.cmpi .slt v1437 c0_i32_820
  let v1442 : BitVec 32 := Scalar.extui v1441
  let v1443 : BitVec 32 := Scalar.subi v1440 v1442
  let c128_i32_818 : BitVec 32 := 128#32
  let c0_i32_821 : BitVec 32 := 0#32
  let v1444 : BitVec 1 := Scalar.cmpi .sgt c128_i32_818 c0_i32_821
  let v1445 : BitVec 32 := Scalar.extui v1444
  let c0_i32_822 : BitVec 32 := 0#32
  let v1446 : BitVec 1 := Scalar.cmpi .slt c128_i32_818 c0_i32_822
  let v1447 : BitVec 32 := Scalar.extui v1446
  let v1448 : BitVec 32 := Scalar.subi v1445 v1447
  let v1449 : BitVec 1 := Scalar.cmpi .ne v1443 v1448
  let v1450 : BitVec 32 := Scalar.remsi v1437 c128_i32_818
  let c0_i32_823 : BitVec 32 := 0#32
  let v1451 : BitVec 1 := Scalar.cmpi .ne v1450 c0_i32_823
  let v1452 : BitVec 1 := Scalar.andi v1449 v1451
  let v1438 : BitVec 32 := Scalar.divsi v1437 c128_i32_818
  let c1_i32_824 : BitVec 32 := 1#32
  let v1453 : BitVec 32 := Scalar.subi v1438 c1_i32_824
  let v1454 : BitVec 32 := Scalar.select v1452 v1453 v1438
  let c128_i32_825 : BitVec 32 := 128#32
  let v1455 : BitVec 32 := Scalar.muli v1454 c128_i32_825
  v1455
def k1_mult43 (i : grid1.Coords) : BitVec 32 :=
  let c2040_i32_837 : BitVec 32 := 2040#32
  let c1024_i32_836 : BitVec 32 := 1024#32
  let arg1 : BitVec 32 := BitVec.ofNat 32 (i 1).val
  let v1470 : BitVec 32 := Scalar.muli c1024_i32_836 arg1
  let v1471 : BitVec 32 := Scalar.subi c2040_i32_837 v1470
  let c336_i32 : BitVec 32 := 336#32
  let v1472 : BitVec 32 := Scalar.subi v1471 c336_i32
  let c0_i32_839 : BitVec 32 := 0#32
  let v1474 : BitVec 1 := Scalar.cmpi .sgt v1472 c0_i32_839
  let v1475 : BitVec 32 := Scalar.extui v1474
  let c0_i32_840 : BitVec 32 := 0#32
  let v1476 : BitVec 1 := Scalar.cmpi .slt v1472 c0_i32_840
  let v1477 : BitVec 32 := Scalar.extui v1476
  let v1478 : BitVec 32 := Scalar.subi v1475 v1477
  let c128_i32_838 : BitVec 32 := 128#32
  let c0_i32_841 : BitVec 32 := 0#32
  let v1479 : BitVec 1 := Scalar.cmpi .sgt c128_i32_838 c0_i32_841
  let v1480 : BitVec 32 := Scalar.extui v1479
  let c0_i32_842 : BitVec 32 := 0#32
  let v1481 : BitVec 1 := Scalar.cmpi .slt c128_i32_838 c0_i32_842
  let v1482 : BitVec 32 := Scalar.extui v1481
  let v1483 : BitVec 32 := Scalar.subi v1480 v1482
  let v1484 : BitVec 1 := Scalar.cmpi .ne v1478 v1483
  let v1485 : BitVec 32 := Scalar.remsi v1472 c128_i32_838
  let c0_i32_843 : BitVec 32 := 0#32
  let v1486 : BitVec 1 := Scalar.cmpi .ne v1485 c0_i32_843
  let v1487 : BitVec 1 := Scalar.andi v1484 v1486
  let v1473 : BitVec 32 := Scalar.divsi v1472 c128_i32_838
  let c1_i32_844 : BitVec 32 := 1#32
  let v1488 : BitVec 32 := Scalar.subi v1473 c1_i32_844
  let v1489 : BitVec 32 := Scalar.select v1487 v1488 v1473
  let c128_i32_845 : BitVec 32 := 128#32
  let v1490 : BitVec 32 := Scalar.muli v1489 c128_i32_845
  v1490
def k1_mult44 (i : grid1.Coords) : BitVec 32 :=
  let c2040_i32_857 : BitVec 32 := 2040#32
  let c1024_i32_856 : BitVec 32 := 1024#32
  let arg1 : BitVec 32 := BitVec.ofNat 32 (i 1).val
  let v1505 : BitVec 32 := Scalar.muli c1024_i32_856 arg1
  let v1506 : BitVec 32 := Scalar.subi c2040_i32_857 v1505
  let c344_i32 : BitVec 32 := 344#32
  let v1507 : BitVec 32 := Scalar.subi v1506 c344_i32
  let c0_i32_859 : BitVec 32 := 0#32
  let v1509 : BitVec 1 := Scalar.cmpi .sgt v1507 c0_i32_859
  let v1510 : BitVec 32 := Scalar.extui v1509
  let c0_i32_860 : BitVec 32 := 0#32
  let v1511 : BitVec 1 := Scalar.cmpi .slt v1507 c0_i32_860
  let v1512 : BitVec 32 := Scalar.extui v1511
  let v1513 : BitVec 32 := Scalar.subi v1510 v1512
  let c128_i32_858 : BitVec 32 := 128#32
  let c0_i32_861 : BitVec 32 := 0#32
  let v1514 : BitVec 1 := Scalar.cmpi .sgt c128_i32_858 c0_i32_861
  let v1515 : BitVec 32 := Scalar.extui v1514
  let c0_i32_862 : BitVec 32 := 0#32
  let v1516 : BitVec 1 := Scalar.cmpi .slt c128_i32_858 c0_i32_862
  let v1517 : BitVec 32 := Scalar.extui v1516
  let v1518 : BitVec 32 := Scalar.subi v1515 v1517
  let v1519 : BitVec 1 := Scalar.cmpi .ne v1513 v1518
  let v1520 : BitVec 32 := Scalar.remsi v1507 c128_i32_858
  let c0_i32_863 : BitVec 32 := 0#32
  let v1521 : BitVec 1 := Scalar.cmpi .ne v1520 c0_i32_863
  let v1522 : BitVec 1 := Scalar.andi v1519 v1521
  let v1508 : BitVec 32 := Scalar.divsi v1507 c128_i32_858
  let c1_i32_864 : BitVec 32 := 1#32
  let v1523 : BitVec 32 := Scalar.subi v1508 c1_i32_864
  let v1524 : BitVec 32 := Scalar.select v1522 v1523 v1508
  let c128_i32_865 : BitVec 32 := 128#32
  let v1525 : BitVec 32 := Scalar.muli v1524 c128_i32_865
  v1525
def k1_mult45 (i : grid1.Coords) : BitVec 32 :=
  let c2040_i32_877 : BitVec 32 := 2040#32
  let c1024_i32_876 : BitVec 32 := 1024#32
  let arg1 : BitVec 32 := BitVec.ofNat 32 (i 1).val
  let v1540 : BitVec 32 := Scalar.muli c1024_i32_876 arg1
  let v1541 : BitVec 32 := Scalar.subi c2040_i32_877 v1540
  let c352_i32 : BitVec 32 := 352#32
  let v1542 : BitVec 32 := Scalar.subi v1541 c352_i32
  let c0_i32_879 : BitVec 32 := 0#32
  let v1544 : BitVec 1 := Scalar.cmpi .sgt v1542 c0_i32_879
  let v1545 : BitVec 32 := Scalar.extui v1544
  let c0_i32_880 : BitVec 32 := 0#32
  let v1546 : BitVec 1 := Scalar.cmpi .slt v1542 c0_i32_880
  let v1547 : BitVec 32 := Scalar.extui v1546
  let v1548 : BitVec 32 := Scalar.subi v1545 v1547
  let c128_i32_878 : BitVec 32 := 128#32
  let c0_i32_881 : BitVec 32 := 0#32
  let v1549 : BitVec 1 := Scalar.cmpi .sgt c128_i32_878 c0_i32_881
  let v1550 : BitVec 32 := Scalar.extui v1549
  let c0_i32_882 : BitVec 32 := 0#32
  let v1551 : BitVec 1 := Scalar.cmpi .slt c128_i32_878 c0_i32_882
  let v1552 : BitVec 32 := Scalar.extui v1551
  let v1553 : BitVec 32 := Scalar.subi v1550 v1552
  let v1554 : BitVec 1 := Scalar.cmpi .ne v1548 v1553
  let v1555 : BitVec 32 := Scalar.remsi v1542 c128_i32_878
  let c0_i32_883 : BitVec 32 := 0#32
  let v1556 : BitVec 1 := Scalar.cmpi .ne v1555 c0_i32_883
  let v1557 : BitVec 1 := Scalar.andi v1554 v1556
  let v1543 : BitVec 32 := Scalar.divsi v1542 c128_i32_878
  let c1_i32_884 : BitVec 32 := 1#32
  let v1558 : BitVec 32 := Scalar.subi v1543 c1_i32_884
  let v1559 : BitVec 32 := Scalar.select v1557 v1558 v1543
  let c128_i32_885 : BitVec 32 := 128#32
  let v1560 : BitVec 32 := Scalar.muli v1559 c128_i32_885
  v1560
def k1_mult46 (i : grid1.Coords) : BitVec 32 :=
  let c2040_i32_897 : BitVec 32 := 2040#32
  let c1024_i32_896 : BitVec 32 := 1024#32
  let arg1 : BitVec 32 := BitVec.ofNat 32 (i 1).val
  let v1575 : BitVec 32 := Scalar.muli c1024_i32_896 arg1
  let v1576 : BitVec 32 := Scalar.subi c2040_i32_897 v1575
  let c360_i32 : BitVec 32 := 360#32
  let v1577 : BitVec 32 := Scalar.subi v1576 c360_i32
  let c0_i32_899 : BitVec 32 := 0#32
  let v1579 : BitVec 1 := Scalar.cmpi .sgt v1577 c0_i32_899
  let v1580 : BitVec 32 := Scalar.extui v1579
  let c0_i32_900 : BitVec 32 := 0#32
  let v1581 : BitVec 1 := Scalar.cmpi .slt v1577 c0_i32_900
  let v1582 : BitVec 32 := Scalar.extui v1581
  let v1583 : BitVec 32 := Scalar.subi v1580 v1582
  let c128_i32_898 : BitVec 32 := 128#32
  let c0_i32_901 : BitVec 32 := 0#32
  let v1584 : BitVec 1 := Scalar.cmpi .sgt c128_i32_898 c0_i32_901
  let v1585 : BitVec 32 := Scalar.extui v1584
  let c0_i32_902 : BitVec 32 := 0#32
  let v1586 : BitVec 1 := Scalar.cmpi .slt c128_i32_898 c0_i32_902
  let v1587 : BitVec 32 := Scalar.extui v1586
  let v1588 : BitVec 32 := Scalar.subi v1585 v1587
  let v1589 : BitVec 1 := Scalar.cmpi .ne v1583 v1588
  let v1590 : BitVec 32 := Scalar.remsi v1577 c128_i32_898
  let c0_i32_903 : BitVec 32 := 0#32
  let v1591 : BitVec 1 := Scalar.cmpi .ne v1590 c0_i32_903
  let v1592 : BitVec 1 := Scalar.andi v1589 v1591
  let v1578 : BitVec 32 := Scalar.divsi v1577 c128_i32_898
  let c1_i32_904 : BitVec 32 := 1#32
  let v1593 : BitVec 32 := Scalar.subi v1578 c1_i32_904
  let v1594 : BitVec 32 := Scalar.select v1592 v1593 v1578
  let c128_i32_905 : BitVec 32 := 128#32
  let v1595 : BitVec 32 := Scalar.muli v1594 c128_i32_905
  v1595
def k1_mult47 (i : grid1.Coords) : BitVec 32 :=
  let c2040_i32_917 : BitVec 32 := 2040#32
  let c1024_i32_916 : BitVec 32 := 1024#32
  let arg1 : BitVec 32 := BitVec.ofNat 32 (i 1).val
  let v1610 : BitVec 32 := Scalar.muli c1024_i32_916 arg1
  let v1611 : BitVec 32 := Scalar.subi c2040_i32_917 v1610
  let c368_i32 : BitVec 32 := 368#32
  let v1612 : BitVec 32 := Scalar.subi v1611 c368_i32
  let c0_i32_919 : BitVec 32 := 0#32
  let v1614 : BitVec 1 := Scalar.cmpi .sgt v1612 c0_i32_919
  let v1615 : BitVec 32 := Scalar.extui v1614
  let c0_i32_920 : BitVec 32 := 0#32
  let v1616 : BitVec 1 := Scalar.cmpi .slt v1612 c0_i32_920
  let v1617 : BitVec 32 := Scalar.extui v1616
  let v1618 : BitVec 32 := Scalar.subi v1615 v1617
  let c128_i32_918 : BitVec 32 := 128#32
  let c0_i32_921 : BitVec 32 := 0#32
  let v1619 : BitVec 1 := Scalar.cmpi .sgt c128_i32_918 c0_i32_921
  let v1620 : BitVec 32 := Scalar.extui v1619
  let c0_i32_922 : BitVec 32 := 0#32
  let v1621 : BitVec 1 := Scalar.cmpi .slt c128_i32_918 c0_i32_922
  let v1622 : BitVec 32 := Scalar.extui v1621
  let v1623 : BitVec 32 := Scalar.subi v1620 v1622
  let v1624 : BitVec 1 := Scalar.cmpi .ne v1618 v1623
  let v1625 : BitVec 32 := Scalar.remsi v1612 c128_i32_918
  let c0_i32_923 : BitVec 32 := 0#32
  let v1626 : BitVec 1 := Scalar.cmpi .ne v1625 c0_i32_923
  let v1627 : BitVec 1 := Scalar.andi v1624 v1626
  let v1613 : BitVec 32 := Scalar.divsi v1612 c128_i32_918
  let c1_i32_924 : BitVec 32 := 1#32
  let v1628 : BitVec 32 := Scalar.subi v1613 c1_i32_924
  let v1629 : BitVec 32 := Scalar.select v1627 v1628 v1613
  let c128_i32_925 : BitVec 32 := 128#32
  let v1630 : BitVec 32 := Scalar.muli v1629 c128_i32_925
  v1630
def k1_mult48 (i : grid1.Coords) : BitVec 32 :=
  let c2040_i32_937 : BitVec 32 := 2040#32
  let c1024_i32_936 : BitVec 32 := 1024#32
  let arg1 : BitVec 32 := BitVec.ofNat 32 (i 1).val
  let v1645 : BitVec 32 := Scalar.muli c1024_i32_936 arg1
  let v1646 : BitVec 32 := Scalar.subi c2040_i32_937 v1645
  let c376_i32 : BitVec 32 := 376#32
  let v1647 : BitVec 32 := Scalar.subi v1646 c376_i32
  let c0_i32_939 : BitVec 32 := 0#32
  let v1649 : BitVec 1 := Scalar.cmpi .sgt v1647 c0_i32_939
  let v1650 : BitVec 32 := Scalar.extui v1649
  let c0_i32_940 : BitVec 32 := 0#32
  let v1651 : BitVec 1 := Scalar.cmpi .slt v1647 c0_i32_940
  let v1652 : BitVec 32 := Scalar.extui v1651
  let v1653 : BitVec 32 := Scalar.subi v1650 v1652
  let c128_i32_938 : BitVec 32 := 128#32
  let c0_i32_941 : BitVec 32 := 0#32
  let v1654 : BitVec 1 := Scalar.cmpi .sgt c128_i32_938 c0_i32_941
  let v1655 : BitVec 32 := Scalar.extui v1654
  let c0_i32_942 : BitVec 32 := 0#32
  let v1656 : BitVec 1 := Scalar.cmpi .slt c128_i32_938 c0_i32_942
  let v1657 : BitVec 32 := Scalar.extui v1656
  let v1658 : BitVec 32 := Scalar.subi v1655 v1657
  let v1659 : BitVec 1 := Scalar.cmpi .ne v1653 v1658
  let v1660 : BitVec 32 := Scalar.remsi v1647 c128_i32_938
  let c0_i32_943 : BitVec 32 := 0#32
  let v1661 : BitVec 1 := Scalar.cmpi .ne v1660 c0_i32_943
  let v1662 : BitVec 1 := Scalar.andi v1659 v1661
  let v1648 : BitVec 32 := Scalar.divsi v1647 c128_i32_938
  let c1_i32_944 : BitVec 32 := 1#32
  let v1663 : BitVec 32 := Scalar.subi v1648 c1_i32_944
  let v1664 : BitVec 32 := Scalar.select v1662 v1663 v1648
  let c128_i32_945 : BitVec 32 := 128#32
  let v1665 : BitVec 32 := Scalar.muli v1664 c128_i32_945
  v1665
def k1_mult49 (i : grid1.Coords) : BitVec 32 :=
  let c2040_i32_957 : BitVec 32 := 2040#32
  let c1024_i32_956 : BitVec 32 := 1024#32
  let arg1 : BitVec 32 := BitVec.ofNat 32 (i 1).val
  let v1680 : BitVec 32 := Scalar.muli c1024_i32_956 arg1
  let v1681 : BitVec 32 := Scalar.subi c2040_i32_957 v1680
  let c384_i32 : BitVec 32 := 384#32
  let v1682 : BitVec 32 := Scalar.subi v1681 c384_i32
  let c0_i32_959 : BitVec 32 := 0#32
  let v1684 : BitVec 1 := Scalar.cmpi .sgt v1682 c0_i32_959
  let v1685 : BitVec 32 := Scalar.extui v1684
  let c0_i32_960 : BitVec 32 := 0#32
  let v1686 : BitVec 1 := Scalar.cmpi .slt v1682 c0_i32_960
  let v1687 : BitVec 32 := Scalar.extui v1686
  let v1688 : BitVec 32 := Scalar.subi v1685 v1687
  let c128_i32_958 : BitVec 32 := 128#32
  let c0_i32_961 : BitVec 32 := 0#32
  let v1689 : BitVec 1 := Scalar.cmpi .sgt c128_i32_958 c0_i32_961
  let v1690 : BitVec 32 := Scalar.extui v1689
  let c0_i32_962 : BitVec 32 := 0#32
  let v1691 : BitVec 1 := Scalar.cmpi .slt c128_i32_958 c0_i32_962
  let v1692 : BitVec 32 := Scalar.extui v1691
  let v1693 : BitVec 32 := Scalar.subi v1690 v1692
  let v1694 : BitVec 1 := Scalar.cmpi .ne v1688 v1693
  let v1695 : BitVec 32 := Scalar.remsi v1682 c128_i32_958
  let c0_i32_963 : BitVec 32 := 0#32
  let v1696 : BitVec 1 := Scalar.cmpi .ne v1695 c0_i32_963
  let v1697 : BitVec 1 := Scalar.andi v1694 v1696
  let v1683 : BitVec 32 := Scalar.divsi v1682 c128_i32_958
  let c1_i32_964 : BitVec 32 := 1#32
  let v1698 : BitVec 32 := Scalar.subi v1683 c1_i32_964
  let v1699 : BitVec 32 := Scalar.select v1697 v1698 v1683
  let c128_i32_965 : BitVec 32 := 128#32
  let v1700 : BitVec 32 := Scalar.muli v1699 c128_i32_965
  v1700
def k1_mult50 (i : grid1.Coords) : BitVec 32 :=
  let c2040_i32_977 : BitVec 32 := 2040#32
  let c1024_i32_976 : BitVec 32 := 1024#32
  let arg1 : BitVec 32 := BitVec.ofNat 32 (i 1).val
  let v1715 : BitVec 32 := Scalar.muli c1024_i32_976 arg1
  let v1716 : BitVec 32 := Scalar.subi c2040_i32_977 v1715
  let c392_i32 : BitVec 32 := 392#32
  let v1717 : BitVec 32 := Scalar.subi v1716 c392_i32
  let c0_i32_979 : BitVec 32 := 0#32
  let v1719 : BitVec 1 := Scalar.cmpi .sgt v1717 c0_i32_979
  let v1720 : BitVec 32 := Scalar.extui v1719
  let c0_i32_980 : BitVec 32 := 0#32
  let v1721 : BitVec 1 := Scalar.cmpi .slt v1717 c0_i32_980
  let v1722 : BitVec 32 := Scalar.extui v1721
  let v1723 : BitVec 32 := Scalar.subi v1720 v1722
  let c128_i32_978 : BitVec 32 := 128#32
  let c0_i32_981 : BitVec 32 := 0#32
  let v1724 : BitVec 1 := Scalar.cmpi .sgt c128_i32_978 c0_i32_981
  let v1725 : BitVec 32 := Scalar.extui v1724
  let c0_i32_982 : BitVec 32 := 0#32
  let v1726 : BitVec 1 := Scalar.cmpi .slt c128_i32_978 c0_i32_982
  let v1727 : BitVec 32 := Scalar.extui v1726
  let v1728 : BitVec 32 := Scalar.subi v1725 v1727
  let v1729 : BitVec 1 := Scalar.cmpi .ne v1723 v1728
  let v1730 : BitVec 32 := Scalar.remsi v1717 c128_i32_978
  let c0_i32_983 : BitVec 32 := 0#32
  let v1731 : BitVec 1 := Scalar.cmpi .ne v1730 c0_i32_983
  let v1732 : BitVec 1 := Scalar.andi v1729 v1731
  let v1718 : BitVec 32 := Scalar.divsi v1717 c128_i32_978
  let c1_i32_984 : BitVec 32 := 1#32
  let v1733 : BitVec 32 := Scalar.subi v1718 c1_i32_984
  let v1734 : BitVec 32 := Scalar.select v1732 v1733 v1718
  let c128_i32_985 : BitVec 32 := 128#32
  let v1735 : BitVec 32 := Scalar.muli v1734 c128_i32_985
  v1735
def k1_mult51 (i : grid1.Coords) : BitVec 32 :=
  let c2040_i32_997 : BitVec 32 := 2040#32
  let c1024_i32_996 : BitVec 32 := 1024#32
  let arg1 : BitVec 32 := BitVec.ofNat 32 (i 1).val
  let v1750 : BitVec 32 := Scalar.muli c1024_i32_996 arg1
  let v1751 : BitVec 32 := Scalar.subi c2040_i32_997 v1750
  let c400_i32 : BitVec 32 := 400#32
  let v1752 : BitVec 32 := Scalar.subi v1751 c400_i32
  let c0_i32_999 : BitVec 32 := 0#32
  let v1754 : BitVec 1 := Scalar.cmpi .sgt v1752 c0_i32_999
  let v1755 : BitVec 32 := Scalar.extui v1754
  let c0_i32_1000 : BitVec 32 := 0#32
  let v1756 : BitVec 1 := Scalar.cmpi .slt v1752 c0_i32_1000
  let v1757 : BitVec 32 := Scalar.extui v1756
  let v1758 : BitVec 32 := Scalar.subi v1755 v1757
  let c128_i32_998 : BitVec 32 := 128#32
  let c0_i32_1001 : BitVec 32 := 0#32
  let v1759 : BitVec 1 := Scalar.cmpi .sgt c128_i32_998 c0_i32_1001
  let v1760 : BitVec 32 := Scalar.extui v1759
  let c0_i32_1002 : BitVec 32 := 0#32
  let v1761 : BitVec 1 := Scalar.cmpi .slt c128_i32_998 c0_i32_1002
  let v1762 : BitVec 32 := Scalar.extui v1761
  let v1763 : BitVec 32 := Scalar.subi v1760 v1762
  let v1764 : BitVec 1 := Scalar.cmpi .ne v1758 v1763
  let v1765 : BitVec 32 := Scalar.remsi v1752 c128_i32_998
  let c0_i32_1003 : BitVec 32 := 0#32
  let v1766 : BitVec 1 := Scalar.cmpi .ne v1765 c0_i32_1003
  let v1767 : BitVec 1 := Scalar.andi v1764 v1766
  let v1753 : BitVec 32 := Scalar.divsi v1752 c128_i32_998
  let c1_i32_1004 : BitVec 32 := 1#32
  let v1768 : BitVec 32 := Scalar.subi v1753 c1_i32_1004
  let v1769 : BitVec 32 := Scalar.select v1767 v1768 v1753
  let c128_i32_1005 : BitVec 32 := 128#32
  let v1770 : BitVec 32 := Scalar.muli v1769 c128_i32_1005
  v1770
def k1_mult52 (i : grid1.Coords) : BitVec 32 :=
  let c2040_i32_1017 : BitVec 32 := 2040#32
  let c1024_i32_1016 : BitVec 32 := 1024#32
  let arg1 : BitVec 32 := BitVec.ofNat 32 (i 1).val
  let v1785 : BitVec 32 := Scalar.muli c1024_i32_1016 arg1
  let v1786 : BitVec 32 := Scalar.subi c2040_i32_1017 v1785
  let c408_i32 : BitVec 32 := 408#32
  let v1787 : BitVec 32 := Scalar.subi v1786 c408_i32
  let c0_i32_1019 : BitVec 32 := 0#32
  let v1789 : BitVec 1 := Scalar.cmpi .sgt v1787 c0_i32_1019
  let v1790 : BitVec 32 := Scalar.extui v1789
  let c0_i32_1020 : BitVec 32 := 0#32
  let v1791 : BitVec 1 := Scalar.cmpi .slt v1787 c0_i32_1020
  let v1792 : BitVec 32 := Scalar.extui v1791
  let v1793 : BitVec 32 := Scalar.subi v1790 v1792
  let c128_i32_1018 : BitVec 32 := 128#32
  let c0_i32_1021 : BitVec 32 := 0#32
  let v1794 : BitVec 1 := Scalar.cmpi .sgt c128_i32_1018 c0_i32_1021
  let v1795 : BitVec 32 := Scalar.extui v1794
  let c0_i32_1022 : BitVec 32 := 0#32
  let v1796 : BitVec 1 := Scalar.cmpi .slt c128_i32_1018 c0_i32_1022
  let v1797 : BitVec 32 := Scalar.extui v1796
  let v1798 : BitVec 32 := Scalar.subi v1795 v1797
  let v1799 : BitVec 1 := Scalar.cmpi .ne v1793 v1798
  let v1800 : BitVec 32 := Scalar.remsi v1787 c128_i32_1018
  let c0_i32_1023 : BitVec 32 := 0#32
  let v1801 : BitVec 1 := Scalar.cmpi .ne v1800 c0_i32_1023
  let v1802 : BitVec 1 := Scalar.andi v1799 v1801
  let v1788 : BitVec 32 := Scalar.divsi v1787 c128_i32_1018
  let c1_i32_1024 : BitVec 32 := 1#32
  let v1803 : BitVec 32 := Scalar.subi v1788 c1_i32_1024
  let v1804 : BitVec 32 := Scalar.select v1802 v1803 v1788
  let c128_i32_1025 : BitVec 32 := 128#32
  let v1805 : BitVec 32 := Scalar.muli v1804 c128_i32_1025
  v1805
def k1_mult53 (i : grid1.Coords) : BitVec 32 :=
  let c2040_i32_1037 : BitVec 32 := 2040#32
  let c1024_i32_1036 : BitVec 32 := 1024#32
  let arg1 : BitVec 32 := BitVec.ofNat 32 (i 1).val
  let v1820 : BitVec 32 := Scalar.muli c1024_i32_1036 arg1
  let v1821 : BitVec 32 := Scalar.subi c2040_i32_1037 v1820
  let c416_i32 : BitVec 32 := 416#32
  let v1822 : BitVec 32 := Scalar.subi v1821 c416_i32
  let c0_i32_1039 : BitVec 32 := 0#32
  let v1824 : BitVec 1 := Scalar.cmpi .sgt v1822 c0_i32_1039
  let v1825 : BitVec 32 := Scalar.extui v1824
  let c0_i32_1040 : BitVec 32 := 0#32
  let v1826 : BitVec 1 := Scalar.cmpi .slt v1822 c0_i32_1040
  let v1827 : BitVec 32 := Scalar.extui v1826
  let v1828 : BitVec 32 := Scalar.subi v1825 v1827
  let c128_i32_1038 : BitVec 32 := 128#32
  let c0_i32_1041 : BitVec 32 := 0#32
  let v1829 : BitVec 1 := Scalar.cmpi .sgt c128_i32_1038 c0_i32_1041
  let v1830 : BitVec 32 := Scalar.extui v1829
  let c0_i32_1042 : BitVec 32 := 0#32
  let v1831 : BitVec 1 := Scalar.cmpi .slt c128_i32_1038 c0_i32_1042
  let v1832 : BitVec 32 := Scalar.extui v1831
  let v1833 : BitVec 32 := Scalar.subi v1830 v1832
  let v1834 : BitVec 1 := Scalar.cmpi .ne v1828 v1833
  let v1835 : BitVec 32 := Scalar.remsi v1822 c128_i32_1038
  let c0_i32_1043 : BitVec 32 := 0#32
  let v1836 : BitVec 1 := Scalar.cmpi .ne v1835 c0_i32_1043
  let v1837 : BitVec 1 := Scalar.andi v1834 v1836
  let v1823 : BitVec 32 := Scalar.divsi v1822 c128_i32_1038
  let c1_i32_1044 : BitVec 32 := 1#32
  let v1838 : BitVec 32 := Scalar.subi v1823 c1_i32_1044
  let v1839 : BitVec 32 := Scalar.select v1837 v1838 v1823
  let c128_i32_1045 : BitVec 32 := 128#32
  let v1840 : BitVec 32 := Scalar.muli v1839 c128_i32_1045
  v1840
def k1_mult54 (i : grid1.Coords) : BitVec 32 :=
  let c2040_i32_1057 : BitVec 32 := 2040#32
  let c1024_i32_1056 : BitVec 32 := 1024#32
  let arg1 : BitVec 32 := BitVec.ofNat 32 (i 1).val
  let v1855 : BitVec 32 := Scalar.muli c1024_i32_1056 arg1
  let v1856 : BitVec 32 := Scalar.subi c2040_i32_1057 v1855
  let c424_i32 : BitVec 32 := 424#32
  let v1857 : BitVec 32 := Scalar.subi v1856 c424_i32
  let c0_i32_1059 : BitVec 32 := 0#32
  let v1859 : BitVec 1 := Scalar.cmpi .sgt v1857 c0_i32_1059
  let v1860 : BitVec 32 := Scalar.extui v1859
  let c0_i32_1060 : BitVec 32 := 0#32
  let v1861 : BitVec 1 := Scalar.cmpi .slt v1857 c0_i32_1060
  let v1862 : BitVec 32 := Scalar.extui v1861
  let v1863 : BitVec 32 := Scalar.subi v1860 v1862
  let c128_i32_1058 : BitVec 32 := 128#32
  let c0_i32_1061 : BitVec 32 := 0#32
  let v1864 : BitVec 1 := Scalar.cmpi .sgt c128_i32_1058 c0_i32_1061
  let v1865 : BitVec 32 := Scalar.extui v1864
  let c0_i32_1062 : BitVec 32 := 0#32
  let v1866 : BitVec 1 := Scalar.cmpi .slt c128_i32_1058 c0_i32_1062
  let v1867 : BitVec 32 := Scalar.extui v1866
  let v1868 : BitVec 32 := Scalar.subi v1865 v1867
  let v1869 : BitVec 1 := Scalar.cmpi .ne v1863 v1868
  let v1870 : BitVec 32 := Scalar.remsi v1857 c128_i32_1058
  let c0_i32_1063 : BitVec 32 := 0#32
  let v1871 : BitVec 1 := Scalar.cmpi .ne v1870 c0_i32_1063
  let v1872 : BitVec 1 := Scalar.andi v1869 v1871
  let v1858 : BitVec 32 := Scalar.divsi v1857 c128_i32_1058
  let c1_i32_1064 : BitVec 32 := 1#32
  let v1873 : BitVec 32 := Scalar.subi v1858 c1_i32_1064
  let v1874 : BitVec 32 := Scalar.select v1872 v1873 v1858
  let c128_i32_1065 : BitVec 32 := 128#32
  let v1875 : BitVec 32 := Scalar.muli v1874 c128_i32_1065
  v1875
def k1_mult55 (i : grid1.Coords) : BitVec 32 :=
  let c2040_i32_1077 : BitVec 32 := 2040#32
  let c1024_i32_1076 : BitVec 32 := 1024#32
  let arg1 : BitVec 32 := BitVec.ofNat 32 (i 1).val
  let v1890 : BitVec 32 := Scalar.muli c1024_i32_1076 arg1
  let v1891 : BitVec 32 := Scalar.subi c2040_i32_1077 v1890
  let c432_i32 : BitVec 32 := 432#32
  let v1892 : BitVec 32 := Scalar.subi v1891 c432_i32
  let c0_i32_1079 : BitVec 32 := 0#32
  let v1894 : BitVec 1 := Scalar.cmpi .sgt v1892 c0_i32_1079
  let v1895 : BitVec 32 := Scalar.extui v1894
  let c0_i32_1080 : BitVec 32 := 0#32
  let v1896 : BitVec 1 := Scalar.cmpi .slt v1892 c0_i32_1080
  let v1897 : BitVec 32 := Scalar.extui v1896
  let v1898 : BitVec 32 := Scalar.subi v1895 v1897
  let c128_i32_1078 : BitVec 32 := 128#32
  let c0_i32_1081 : BitVec 32 := 0#32
  let v1899 : BitVec 1 := Scalar.cmpi .sgt c128_i32_1078 c0_i32_1081
  let v1900 : BitVec 32 := Scalar.extui v1899
  let c0_i32_1082 : BitVec 32 := 0#32
  let v1901 : BitVec 1 := Scalar.cmpi .slt c128_i32_1078 c0_i32_1082
  let v1902 : BitVec 32 := Scalar.extui v1901
  let v1903 : BitVec 32 := Scalar.subi v1900 v1902
  let v1904 : BitVec 1 := Scalar.cmpi .ne v1898 v1903
  let v1905 : BitVec 32 := Scalar.remsi v1892 c128_i32_1078
  let c0_i32_1083 : BitVec 32 := 0#32
  let v1906 : BitVec 1 := Scalar.cmpi .ne v1905 c0_i32_1083
  let v1907 : BitVec 1 := Scalar.andi v1904 v1906
  let v1893 : BitVec 32 := Scalar.divsi v1892 c128_i32_1078
  let c1_i32_1084 : BitVec 32 := 1#32
  let v1908 : BitVec 32 := Scalar.subi v1893 c1_i32_1084
  let v1909 : BitVec 32 := Scalar.select v1907 v1908 v1893
  let c128_i32_1085 : BitVec 32 := 128#32
  let v1910 : BitVec 32 := Scalar.muli v1909 c128_i32_1085
  v1910
def k1_mult56 (i : grid1.Coords) : BitVec 32 :=
  let c2040_i32_1097 : BitVec 32 := 2040#32
  let c1024_i32_1096 : BitVec 32 := 1024#32
  let arg1 : BitVec 32 := BitVec.ofNat 32 (i 1).val
  let v1925 : BitVec 32 := Scalar.muli c1024_i32_1096 arg1
  let v1926 : BitVec 32 := Scalar.subi c2040_i32_1097 v1925
  let c440_i32 : BitVec 32 := 440#32
  let v1927 : BitVec 32 := Scalar.subi v1926 c440_i32
  let c0_i32_1099 : BitVec 32 := 0#32
  let v1929 : BitVec 1 := Scalar.cmpi .sgt v1927 c0_i32_1099
  let v1930 : BitVec 32 := Scalar.extui v1929
  let c0_i32_1100 : BitVec 32 := 0#32
  let v1931 : BitVec 1 := Scalar.cmpi .slt v1927 c0_i32_1100
  let v1932 : BitVec 32 := Scalar.extui v1931
  let v1933 : BitVec 32 := Scalar.subi v1930 v1932
  let c128_i32_1098 : BitVec 32 := 128#32
  let c0_i32_1101 : BitVec 32 := 0#32
  let v1934 : BitVec 1 := Scalar.cmpi .sgt c128_i32_1098 c0_i32_1101
  let v1935 : BitVec 32 := Scalar.extui v1934
  let c0_i32_1102 : BitVec 32 := 0#32
  let v1936 : BitVec 1 := Scalar.cmpi .slt c128_i32_1098 c0_i32_1102
  let v1937 : BitVec 32 := Scalar.extui v1936
  let v1938 : BitVec 32 := Scalar.subi v1935 v1937
  let v1939 : BitVec 1 := Scalar.cmpi .ne v1933 v1938
  let v1940 : BitVec 32 := Scalar.remsi v1927 c128_i32_1098
  let c0_i32_1103 : BitVec 32 := 0#32
  let v1941 : BitVec 1 := Scalar.cmpi .ne v1940 c0_i32_1103
  let v1942 : BitVec 1 := Scalar.andi v1939 v1941
  let v1928 : BitVec 32 := Scalar.divsi v1927 c128_i32_1098
  let c1_i32_1104 : BitVec 32 := 1#32
  let v1943 : BitVec 32 := Scalar.subi v1928 c1_i32_1104
  let v1944 : BitVec 32 := Scalar.select v1942 v1943 v1928
  let c128_i32_1105 : BitVec 32 := 128#32
  let v1945 : BitVec 32 := Scalar.muli v1944 c128_i32_1105
  v1945
def k1_mult57 (i : grid1.Coords) : BitVec 32 :=
  let c2040_i32_1117 : BitVec 32 := 2040#32
  let c1024_i32_1116 : BitVec 32 := 1024#32
  let arg1 : BitVec 32 := BitVec.ofNat 32 (i 1).val
  let v1960 : BitVec 32 := Scalar.muli c1024_i32_1116 arg1
  let v1961 : BitVec 32 := Scalar.subi c2040_i32_1117 v1960
  let c448_i32 : BitVec 32 := 448#32
  let v1962 : BitVec 32 := Scalar.subi v1961 c448_i32
  let c0_i32_1119 : BitVec 32 := 0#32
  let v1964 : BitVec 1 := Scalar.cmpi .sgt v1962 c0_i32_1119
  let v1965 : BitVec 32 := Scalar.extui v1964
  let c0_i32_1120 : BitVec 32 := 0#32
  let v1966 : BitVec 1 := Scalar.cmpi .slt v1962 c0_i32_1120
  let v1967 : BitVec 32 := Scalar.extui v1966
  let v1968 : BitVec 32 := Scalar.subi v1965 v1967
  let c128_i32_1118 : BitVec 32 := 128#32
  let c0_i32_1121 : BitVec 32 := 0#32
  let v1969 : BitVec 1 := Scalar.cmpi .sgt c128_i32_1118 c0_i32_1121
  let v1970 : BitVec 32 := Scalar.extui v1969
  let c0_i32_1122 : BitVec 32 := 0#32
  let v1971 : BitVec 1 := Scalar.cmpi .slt c128_i32_1118 c0_i32_1122
  let v1972 : BitVec 32 := Scalar.extui v1971
  let v1973 : BitVec 32 := Scalar.subi v1970 v1972
  let v1974 : BitVec 1 := Scalar.cmpi .ne v1968 v1973
  let v1975 : BitVec 32 := Scalar.remsi v1962 c128_i32_1118
  let c0_i32_1123 : BitVec 32 := 0#32
  let v1976 : BitVec 1 := Scalar.cmpi .ne v1975 c0_i32_1123
  let v1977 : BitVec 1 := Scalar.andi v1974 v1976
  let v1963 : BitVec 32 := Scalar.divsi v1962 c128_i32_1118
  let c1_i32_1124 : BitVec 32 := 1#32
  let v1978 : BitVec 32 := Scalar.subi v1963 c1_i32_1124
  let v1979 : BitVec 32 := Scalar.select v1977 v1978 v1963
  let c128_i32_1125 : BitVec 32 := 128#32
  let v1980 : BitVec 32 := Scalar.muli v1979 c128_i32_1125
  v1980
def k1_mult58 (i : grid1.Coords) : BitVec 32 :=
  let c2040_i32_1137 : BitVec 32 := 2040#32
  let c1024_i32_1136 : BitVec 32 := 1024#32
  let arg1 : BitVec 32 := BitVec.ofNat 32 (i 1).val
  let v1995 : BitVec 32 := Scalar.muli c1024_i32_1136 arg1
  let v1996 : BitVec 32 := Scalar.subi c2040_i32_1137 v1995
  let c456_i32 : BitVec 32 := 456#32
  let v1997 : BitVec 32 := Scalar.subi v1996 c456_i32
  let c0_i32_1139 : BitVec 32 := 0#32
  let v1999 : BitVec 1 := Scalar.cmpi .sgt v1997 c0_i32_1139
  let v2000 : BitVec 32 := Scalar.extui v1999
  let c0_i32_1140 : BitVec 32 := 0#32
  let v2001 : BitVec 1 := Scalar.cmpi .slt v1997 c0_i32_1140
  let v2002 : BitVec 32 := Scalar.extui v2001
  let v2003 : BitVec 32 := Scalar.subi v2000 v2002
  let c128_i32_1138 : BitVec 32 := 128#32
  let c0_i32_1141 : BitVec 32 := 0#32
  let v2004 : BitVec 1 := Scalar.cmpi .sgt c128_i32_1138 c0_i32_1141
  let v2005 : BitVec 32 := Scalar.extui v2004
  let c0_i32_1142 : BitVec 32 := 0#32
  let v2006 : BitVec 1 := Scalar.cmpi .slt c128_i32_1138 c0_i32_1142
  let v2007 : BitVec 32 := Scalar.extui v2006
  let v2008 : BitVec 32 := Scalar.subi v2005 v2007
  let v2009 : BitVec 1 := Scalar.cmpi .ne v2003 v2008
  let v2010 : BitVec 32 := Scalar.remsi v1997 c128_i32_1138
  let c0_i32_1143 : BitVec 32 := 0#32
  let v2011 : BitVec 1 := Scalar.cmpi .ne v2010 c0_i32_1143
  let v2012 : BitVec 1 := Scalar.andi v2009 v2011
  let v1998 : BitVec 32 := Scalar.divsi v1997 c128_i32_1138
  let c1_i32_1144 : BitVec 32 := 1#32
  let v2013 : BitVec 32 := Scalar.subi v1998 c1_i32_1144
  let v2014 : BitVec 32 := Scalar.select v2012 v2013 v1998
  let c128_i32_1145 : BitVec 32 := 128#32
  let v2015 : BitVec 32 := Scalar.muli v2014 c128_i32_1145
  v2015
def k1_mult59 (i : grid1.Coords) : BitVec 32 :=
  let c2040_i32_1157 : BitVec 32 := 2040#32
  let c1024_i32_1156 : BitVec 32 := 1024#32
  let arg1 : BitVec 32 := BitVec.ofNat 32 (i 1).val
  let v2030 : BitVec 32 := Scalar.muli c1024_i32_1156 arg1
  let v2031 : BitVec 32 := Scalar.subi c2040_i32_1157 v2030
  let c464_i32 : BitVec 32 := 464#32
  let v2032 : BitVec 32 := Scalar.subi v2031 c464_i32
  let c0_i32_1159 : BitVec 32 := 0#32
  let v2034 : BitVec 1 := Scalar.cmpi .sgt v2032 c0_i32_1159
  let v2035 : BitVec 32 := Scalar.extui v2034
  let c0_i32_1160 : BitVec 32 := 0#32
  let v2036 : BitVec 1 := Scalar.cmpi .slt v2032 c0_i32_1160
  let v2037 : BitVec 32 := Scalar.extui v2036
  let v2038 : BitVec 32 := Scalar.subi v2035 v2037
  let c128_i32_1158 : BitVec 32 := 128#32
  let c0_i32_1161 : BitVec 32 := 0#32
  let v2039 : BitVec 1 := Scalar.cmpi .sgt c128_i32_1158 c0_i32_1161
  let v2040 : BitVec 32 := Scalar.extui v2039
  let c0_i32_1162 : BitVec 32 := 0#32
  let v2041 : BitVec 1 := Scalar.cmpi .slt c128_i32_1158 c0_i32_1162
  let v2042 : BitVec 32 := Scalar.extui v2041
  let v2043 : BitVec 32 := Scalar.subi v2040 v2042
  let v2044 : BitVec 1 := Scalar.cmpi .ne v2038 v2043
  let v2045 : BitVec 32 := Scalar.remsi v2032 c128_i32_1158
  let c0_i32_1163 : BitVec 32 := 0#32
  let v2046 : BitVec 1 := Scalar.cmpi .ne v2045 c0_i32_1163
  let v2047 : BitVec 1 := Scalar.andi v2044 v2046
  let v2033 : BitVec 32 := Scalar.divsi v2032 c128_i32_1158
  let c1_i32_1164 : BitVec 32 := 1#32
  let v2048 : BitVec 32 := Scalar.subi v2033 c1_i32_1164
  let v2049 : BitVec 32 := Scalar.select v2047 v2048 v2033
  let c128_i32_1165 : BitVec 32 := 128#32
  let v2050 : BitVec 32 := Scalar.muli v2049 c128_i32_1165
  v2050
def k1_mult60 (i : grid1.Coords) : BitVec 32 :=
  let c2040_i32_1177 : BitVec 32 := 2040#32
  let c1024_i32_1176 : BitVec 32 := 1024#32
  let arg1 : BitVec 32 := BitVec.ofNat 32 (i 1).val
  let v2065 : BitVec 32 := Scalar.muli c1024_i32_1176 arg1
  let v2066 : BitVec 32 := Scalar.subi c2040_i32_1177 v2065
  let c472_i32 : BitVec 32 := 472#32
  let v2067 : BitVec 32 := Scalar.subi v2066 c472_i32
  let c0_i32_1179 : BitVec 32 := 0#32
  let v2069 : BitVec 1 := Scalar.cmpi .sgt v2067 c0_i32_1179
  let v2070 : BitVec 32 := Scalar.extui v2069
  let c0_i32_1180 : BitVec 32 := 0#32
  let v2071 : BitVec 1 := Scalar.cmpi .slt v2067 c0_i32_1180
  let v2072 : BitVec 32 := Scalar.extui v2071
  let v2073 : BitVec 32 := Scalar.subi v2070 v2072
  let c128_i32_1178 : BitVec 32 := 128#32
  let c0_i32_1181 : BitVec 32 := 0#32
  let v2074 : BitVec 1 := Scalar.cmpi .sgt c128_i32_1178 c0_i32_1181
  let v2075 : BitVec 32 := Scalar.extui v2074
  let c0_i32_1182 : BitVec 32 := 0#32
  let v2076 : BitVec 1 := Scalar.cmpi .slt c128_i32_1178 c0_i32_1182
  let v2077 : BitVec 32 := Scalar.extui v2076
  let v2078 : BitVec 32 := Scalar.subi v2075 v2077
  let v2079 : BitVec 1 := Scalar.cmpi .ne v2073 v2078
  let v2080 : BitVec 32 := Scalar.remsi v2067 c128_i32_1178
  let c0_i32_1183 : BitVec 32 := 0#32
  let v2081 : BitVec 1 := Scalar.cmpi .ne v2080 c0_i32_1183
  let v2082 : BitVec 1 := Scalar.andi v2079 v2081
  let v2068 : BitVec 32 := Scalar.divsi v2067 c128_i32_1178
  let c1_i32_1184 : BitVec 32 := 1#32
  let v2083 : BitVec 32 := Scalar.subi v2068 c1_i32_1184
  let v2084 : BitVec 32 := Scalar.select v2082 v2083 v2068
  let c128_i32_1185 : BitVec 32 := 128#32
  let v2085 : BitVec 32 := Scalar.muli v2084 c128_i32_1185
  v2085
def k1_mult61 (i : grid1.Coords) : BitVec 32 :=
  let c2040_i32_1197 : BitVec 32 := 2040#32
  let c1024_i32_1196 : BitVec 32 := 1024#32
  let arg1 : BitVec 32 := BitVec.ofNat 32 (i 1).val
  let v2100 : BitVec 32 := Scalar.muli c1024_i32_1196 arg1
  let v2101 : BitVec 32 := Scalar.subi c2040_i32_1197 v2100
  let c480_i32 : BitVec 32 := 480#32
  let v2102 : BitVec 32 := Scalar.subi v2101 c480_i32
  let c0_i32_1199 : BitVec 32 := 0#32
  let v2104 : BitVec 1 := Scalar.cmpi .sgt v2102 c0_i32_1199
  let v2105 : BitVec 32 := Scalar.extui v2104
  let c0_i32_1200 : BitVec 32 := 0#32
  let v2106 : BitVec 1 := Scalar.cmpi .slt v2102 c0_i32_1200
  let v2107 : BitVec 32 := Scalar.extui v2106
  let v2108 : BitVec 32 := Scalar.subi v2105 v2107
  let c128_i32_1198 : BitVec 32 := 128#32
  let c0_i32_1201 : BitVec 32 := 0#32
  let v2109 : BitVec 1 := Scalar.cmpi .sgt c128_i32_1198 c0_i32_1201
  let v2110 : BitVec 32 := Scalar.extui v2109
  let c0_i32_1202 : BitVec 32 := 0#32
  let v2111 : BitVec 1 := Scalar.cmpi .slt c128_i32_1198 c0_i32_1202
  let v2112 : BitVec 32 := Scalar.extui v2111
  let v2113 : BitVec 32 := Scalar.subi v2110 v2112
  let v2114 : BitVec 1 := Scalar.cmpi .ne v2108 v2113
  let v2115 : BitVec 32 := Scalar.remsi v2102 c128_i32_1198
  let c0_i32_1203 : BitVec 32 := 0#32
  let v2116 : BitVec 1 := Scalar.cmpi .ne v2115 c0_i32_1203
  let v2117 : BitVec 1 := Scalar.andi v2114 v2116
  let v2103 : BitVec 32 := Scalar.divsi v2102 c128_i32_1198
  let c1_i32_1204 : BitVec 32 := 1#32
  let v2118 : BitVec 32 := Scalar.subi v2103 c1_i32_1204
  let v2119 : BitVec 32 := Scalar.select v2117 v2118 v2103
  let c128_i32_1205 : BitVec 32 := 128#32
  let v2120 : BitVec 32 := Scalar.muli v2119 c128_i32_1205
  v2120
def k1_mult62 (i : grid1.Coords) : BitVec 32 :=
  let c2040_i32_1217 : BitVec 32 := 2040#32
  let c1024_i32_1216 : BitVec 32 := 1024#32
  let arg1 : BitVec 32 := BitVec.ofNat 32 (i 1).val
  let v2135 : BitVec 32 := Scalar.muli c1024_i32_1216 arg1
  let v2136 : BitVec 32 := Scalar.subi c2040_i32_1217 v2135
  let c488_i32 : BitVec 32 := 488#32
  let v2137 : BitVec 32 := Scalar.subi v2136 c488_i32
  let c0_i32_1219 : BitVec 32 := 0#32
  let v2139 : BitVec 1 := Scalar.cmpi .sgt v2137 c0_i32_1219
  let v2140 : BitVec 32 := Scalar.extui v2139
  let c0_i32_1220 : BitVec 32 := 0#32
  let v2141 : BitVec 1 := Scalar.cmpi .slt v2137 c0_i32_1220
  let v2142 : BitVec 32 := Scalar.extui v2141
  let v2143 : BitVec 32 := Scalar.subi v2140 v2142
  let c128_i32_1218 : BitVec 32 := 128#32
  let c0_i32_1221 : BitVec 32 := 0#32
  let v2144 : BitVec 1 := Scalar.cmpi .sgt c128_i32_1218 c0_i32_1221
  let v2145 : BitVec 32 := Scalar.extui v2144
  let c0_i32_1222 : BitVec 32 := 0#32
  let v2146 : BitVec 1 := Scalar.cmpi .slt c128_i32_1218 c0_i32_1222
  let v2147 : BitVec 32 := Scalar.extui v2146
  let v2148 : BitVec 32 := Scalar.subi v2145 v2147
  let v2149 : BitVec 1 := Scalar.cmpi .ne v2143 v2148
  let v2150 : BitVec 32 := Scalar.remsi v2137 c128_i32_1218
  let c0_i32_1223 : BitVec 32 := 0#32
  let v2151 : BitVec 1 := Scalar.cmpi .ne v2150 c0_i32_1223
  let v2152 : BitVec 1 := Scalar.andi v2149 v2151
  let v2138 : BitVec 32 := Scalar.divsi v2137 c128_i32_1218
  let c1_i32_1224 : BitVec 32 := 1#32
  let v2153 : BitVec 32 := Scalar.subi v2138 c1_i32_1224
  let v2154 : BitVec 32 := Scalar.select v2152 v2153 v2138
  let c128_i32_1225 : BitVec 32 := 128#32
  let v2155 : BitVec 32 := Scalar.muli v2154 c128_i32_1225
  v2155
def k1_mult63 (i : grid1.Coords) : BitVec 32 :=
  let c2040_i32_1237 : BitVec 32 := 2040#32
  let c1024_i32_1236 : BitVec 32 := 1024#32
  let arg1 : BitVec 32 := BitVec.ofNat 32 (i 1).val
  let v2170 : BitVec 32 := Scalar.muli c1024_i32_1236 arg1
  let v2171 : BitVec 32 := Scalar.subi c2040_i32_1237 v2170
  let c496_i32 : BitVec 32 := 496#32
  let v2172 : BitVec 32 := Scalar.subi v2171 c496_i32
  let c0_i32_1239 : BitVec 32 := 0#32
  let v2174 : BitVec 1 := Scalar.cmpi .sgt v2172 c0_i32_1239
  let v2175 : BitVec 32 := Scalar.extui v2174
  let c0_i32_1240 : BitVec 32 := 0#32
  let v2176 : BitVec 1 := Scalar.cmpi .slt v2172 c0_i32_1240
  let v2177 : BitVec 32 := Scalar.extui v2176
  let v2178 : BitVec 32 := Scalar.subi v2175 v2177
  let c128_i32_1238 : BitVec 32 := 128#32
  let c0_i32_1241 : BitVec 32 := 0#32
  let v2179 : BitVec 1 := Scalar.cmpi .sgt c128_i32_1238 c0_i32_1241
  let v2180 : BitVec 32 := Scalar.extui v2179
  let c0_i32_1242 : BitVec 32 := 0#32
  let v2181 : BitVec 1 := Scalar.cmpi .slt c128_i32_1238 c0_i32_1242
  let v2182 : BitVec 32 := Scalar.extui v2181
  let v2183 : BitVec 32 := Scalar.subi v2180 v2182
  let v2184 : BitVec 1 := Scalar.cmpi .ne v2178 v2183
  let v2185 : BitVec 32 := Scalar.remsi v2172 c128_i32_1238
  let c0_i32_1243 : BitVec 32 := 0#32
  let v2186 : BitVec 1 := Scalar.cmpi .ne v2185 c0_i32_1243
  let v2187 : BitVec 1 := Scalar.andi v2184 v2186
  let v2173 : BitVec 32 := Scalar.divsi v2172 c128_i32_1238
  let c1_i32_1244 : BitVec 32 := 1#32
  let v2188 : BitVec 32 := Scalar.subi v2173 c1_i32_1244
  let v2189 : BitVec 32 := Scalar.select v2187 v2188 v2173
  let c128_i32_1245 : BitVec 32 := 128#32
  let v2190 : BitVec 32 := Scalar.muli v2189 c128_i32_1245
  v2190
def k1_mult64 (i : grid1.Coords) : BitVec 32 :=
  let c2040_i32_1257 : BitVec 32 := 2040#32
  let c1024_i32_1256 : BitVec 32 := 1024#32
  let arg1 : BitVec 32 := BitVec.ofNat 32 (i 1).val
  let v2205 : BitVec 32 := Scalar.muli c1024_i32_1256 arg1
  let v2206 : BitVec 32 := Scalar.subi c2040_i32_1257 v2205
  let c504_i32 : BitVec 32 := 504#32
  let v2207 : BitVec 32 := Scalar.subi v2206 c504_i32
  let c0_i32_1259 : BitVec 32 := 0#32
  let v2209 : BitVec 1 := Scalar.cmpi .sgt v2207 c0_i32_1259
  let v2210 : BitVec 32 := Scalar.extui v2209
  let c0_i32_1260 : BitVec 32 := 0#32
  let v2211 : BitVec 1 := Scalar.cmpi .slt v2207 c0_i32_1260
  let v2212 : BitVec 32 := Scalar.extui v2211
  let v2213 : BitVec 32 := Scalar.subi v2210 v2212
  let c128_i32_1258 : BitVec 32 := 128#32
  let c0_i32_1261 : BitVec 32 := 0#32
  let v2214 : BitVec 1 := Scalar.cmpi .sgt c128_i32_1258 c0_i32_1261
  let v2215 : BitVec 32 := Scalar.extui v2214
  let c0_i32_1262 : BitVec 32 := 0#32
  let v2216 : BitVec 1 := Scalar.cmpi .slt c128_i32_1258 c0_i32_1262
  let v2217 : BitVec 32 := Scalar.extui v2216
  let v2218 : BitVec 32 := Scalar.subi v2215 v2217
  let v2219 : BitVec 1 := Scalar.cmpi .ne v2213 v2218
  let v2220 : BitVec 32 := Scalar.remsi v2207 c128_i32_1258
  let c0_i32_1263 : BitVec 32 := 0#32
  let v2221 : BitVec 1 := Scalar.cmpi .ne v2220 c0_i32_1263
  let v2222 : BitVec 1 := Scalar.andi v2219 v2221
  let v2208 : BitVec 32 := Scalar.divsi v2207 c128_i32_1258
  let c1_i32_1264 : BitVec 32 := 1#32
  let v2223 : BitVec 32 := Scalar.subi v2208 c1_i32_1264
  let v2224 : BitVec 32 := Scalar.select v2222 v2223 v2208
  let c128_i32_1265 : BitVec 32 := 128#32
  let v2225 : BitVec 32 := Scalar.muli v2224 c128_i32_1265
  v2225
def k1_mult65 (i : grid1.Coords) : BitVec 32 :=
  let c2040_i32_1277 : BitVec 32 := 2040#32
  let c1024_i32_1276 : BitVec 32 := 1024#32
  let arg1 : BitVec 32 := BitVec.ofNat 32 (i 1).val
  let v2240 : BitVec 32 := Scalar.muli c1024_i32_1276 arg1
  let v2241 : BitVec 32 := Scalar.subi c2040_i32_1277 v2240
  let c512_i32 : BitVec 32 := 512#32
  let v2242 : BitVec 32 := Scalar.subi v2241 c512_i32
  let c0_i32_1279 : BitVec 32 := 0#32
  let v2244 : BitVec 1 := Scalar.cmpi .sgt v2242 c0_i32_1279
  let v2245 : BitVec 32 := Scalar.extui v2244
  let c0_i32_1280 : BitVec 32 := 0#32
  let v2246 : BitVec 1 := Scalar.cmpi .slt v2242 c0_i32_1280
  let v2247 : BitVec 32 := Scalar.extui v2246
  let v2248 : BitVec 32 := Scalar.subi v2245 v2247
  let c128_i32_1278 : BitVec 32 := 128#32
  let c0_i32_1281 : BitVec 32 := 0#32
  let v2249 : BitVec 1 := Scalar.cmpi .sgt c128_i32_1278 c0_i32_1281
  let v2250 : BitVec 32 := Scalar.extui v2249
  let c0_i32_1282 : BitVec 32 := 0#32
  let v2251 : BitVec 1 := Scalar.cmpi .slt c128_i32_1278 c0_i32_1282
  let v2252 : BitVec 32 := Scalar.extui v2251
  let v2253 : BitVec 32 := Scalar.subi v2250 v2252
  let v2254 : BitVec 1 := Scalar.cmpi .ne v2248 v2253
  let v2255 : BitVec 32 := Scalar.remsi v2242 c128_i32_1278
  let c0_i32_1283 : BitVec 32 := 0#32
  let v2256 : BitVec 1 := Scalar.cmpi .ne v2255 c0_i32_1283
  let v2257 : BitVec 1 := Scalar.andi v2254 v2256
  let v2243 : BitVec 32 := Scalar.divsi v2242 c128_i32_1278
  let c1_i32_1284 : BitVec 32 := 1#32
  let v2258 : BitVec 32 := Scalar.subi v2243 c1_i32_1284
  let v2259 : BitVec 32 := Scalar.select v2257 v2258 v2243
  let c128_i32_1285 : BitVec 32 := 128#32
  let v2260 : BitVec 32 := Scalar.muli v2259 c128_i32_1285
  v2260
def k1_mult66 (i : grid1.Coords) : BitVec 32 :=
  let c2040_i32_1297 : BitVec 32 := 2040#32
  let c1024_i32_1296 : BitVec 32 := 1024#32
  let arg1 : BitVec 32 := BitVec.ofNat 32 (i 1).val
  let v2275 : BitVec 32 := Scalar.muli c1024_i32_1296 arg1
  let v2276 : BitVec 32 := Scalar.subi c2040_i32_1297 v2275
  let c520_i32 : BitVec 32 := 520#32
  let v2277 : BitVec 32 := Scalar.subi v2276 c520_i32
  let c0_i32_1299 : BitVec 32 := 0#32
  let v2279 : BitVec 1 := Scalar.cmpi .sgt v2277 c0_i32_1299
  let v2280 : BitVec 32 := Scalar.extui v2279
  let c0_i32_1300 : BitVec 32 := 0#32
  let v2281 : BitVec 1 := Scalar.cmpi .slt v2277 c0_i32_1300
  let v2282 : BitVec 32 := Scalar.extui v2281
  let v2283 : BitVec 32 := Scalar.subi v2280 v2282
  let c128_i32_1298 : BitVec 32 := 128#32
  let c0_i32_1301 : BitVec 32 := 0#32
  let v2284 : BitVec 1 := Scalar.cmpi .sgt c128_i32_1298 c0_i32_1301
  let v2285 : BitVec 32 := Scalar.extui v2284
  let c0_i32_1302 : BitVec 32 := 0#32
  let v2286 : BitVec 1 := Scalar.cmpi .slt c128_i32_1298 c0_i32_1302
  let v2287 : BitVec 32 := Scalar.extui v2286
  let v2288 : BitVec 32 := Scalar.subi v2285 v2287
  let v2289 : BitVec 1 := Scalar.cmpi .ne v2283 v2288
  let v2290 : BitVec 32 := Scalar.remsi v2277 c128_i32_1298
  let c0_i32_1303 : BitVec 32 := 0#32
  let v2291 : BitVec 1 := Scalar.cmpi .ne v2290 c0_i32_1303
  let v2292 : BitVec 1 := Scalar.andi v2289 v2291
  let v2278 : BitVec 32 := Scalar.divsi v2277 c128_i32_1298
  let c1_i32_1304 : BitVec 32 := 1#32
  let v2293 : BitVec 32 := Scalar.subi v2278 c1_i32_1304
  let v2294 : BitVec 32 := Scalar.select v2292 v2293 v2278
  let c128_i32_1305 : BitVec 32 := 128#32
  let v2295 : BitVec 32 := Scalar.muli v2294 c128_i32_1305
  v2295
def k1_mult67 (i : grid1.Coords) : BitVec 32 :=
  let c2040_i32_1317 : BitVec 32 := 2040#32
  let c1024_i32_1316 : BitVec 32 := 1024#32
  let arg1 : BitVec 32 := BitVec.ofNat 32 (i 1).val
  let v2310 : BitVec 32 := Scalar.muli c1024_i32_1316 arg1
  let v2311 : BitVec 32 := Scalar.subi c2040_i32_1317 v2310
  let c528_i32 : BitVec 32 := 528#32
  let v2312 : BitVec 32 := Scalar.subi v2311 c528_i32
  let c0_i32_1319 : BitVec 32 := 0#32
  let v2314 : BitVec 1 := Scalar.cmpi .sgt v2312 c0_i32_1319
  let v2315 : BitVec 32 := Scalar.extui v2314
  let c0_i32_1320 : BitVec 32 := 0#32
  let v2316 : BitVec 1 := Scalar.cmpi .slt v2312 c0_i32_1320
  let v2317 : BitVec 32 := Scalar.extui v2316
  let v2318 : BitVec 32 := Scalar.subi v2315 v2317
  let c128_i32_1318 : BitVec 32 := 128#32
  let c0_i32_1321 : BitVec 32 := 0#32
  let v2319 : BitVec 1 := Scalar.cmpi .sgt c128_i32_1318 c0_i32_1321
  let v2320 : BitVec 32 := Scalar.extui v2319
  let c0_i32_1322 : BitVec 32 := 0#32
  let v2321 : BitVec 1 := Scalar.cmpi .slt c128_i32_1318 c0_i32_1322
  let v2322 : BitVec 32 := Scalar.extui v2321
  let v2323 : BitVec 32 := Scalar.subi v2320 v2322
  let v2324 : BitVec 1 := Scalar.cmpi .ne v2318 v2323
  let v2325 : BitVec 32 := Scalar.remsi v2312 c128_i32_1318
  let c0_i32_1323 : BitVec 32 := 0#32
  let v2326 : BitVec 1 := Scalar.cmpi .ne v2325 c0_i32_1323
  let v2327 : BitVec 1 := Scalar.andi v2324 v2326
  let v2313 : BitVec 32 := Scalar.divsi v2312 c128_i32_1318
  let c1_i32_1324 : BitVec 32 := 1#32
  let v2328 : BitVec 32 := Scalar.subi v2313 c1_i32_1324
  let v2329 : BitVec 32 := Scalar.select v2327 v2328 v2313
  let c128_i32_1325 : BitVec 32 := 128#32
  let v2330 : BitVec 32 := Scalar.muli v2329 c128_i32_1325
  v2330
def k1_mult68 (i : grid1.Coords) : BitVec 32 :=
  let c2040_i32_1337 : BitVec 32 := 2040#32
  let c1024_i32_1336 : BitVec 32 := 1024#32
  let arg1 : BitVec 32 := BitVec.ofNat 32 (i 1).val
  let v2345 : BitVec 32 := Scalar.muli c1024_i32_1336 arg1
  let v2346 : BitVec 32 := Scalar.subi c2040_i32_1337 v2345
  let c536_i32 : BitVec 32 := 536#32
  let v2347 : BitVec 32 := Scalar.subi v2346 c536_i32
  let c0_i32_1339 : BitVec 32 := 0#32
  let v2349 : BitVec 1 := Scalar.cmpi .sgt v2347 c0_i32_1339
  let v2350 : BitVec 32 := Scalar.extui v2349
  let c0_i32_1340 : BitVec 32 := 0#32
  let v2351 : BitVec 1 := Scalar.cmpi .slt v2347 c0_i32_1340
  let v2352 : BitVec 32 := Scalar.extui v2351
  let v2353 : BitVec 32 := Scalar.subi v2350 v2352
  let c128_i32_1338 : BitVec 32 := 128#32
  let c0_i32_1341 : BitVec 32 := 0#32
  let v2354 : BitVec 1 := Scalar.cmpi .sgt c128_i32_1338 c0_i32_1341
  let v2355 : BitVec 32 := Scalar.extui v2354
  let c0_i32_1342 : BitVec 32 := 0#32
  let v2356 : BitVec 1 := Scalar.cmpi .slt c128_i32_1338 c0_i32_1342
  let v2357 : BitVec 32 := Scalar.extui v2356
  let v2358 : BitVec 32 := Scalar.subi v2355 v2357
  let v2359 : BitVec 1 := Scalar.cmpi .ne v2353 v2358
  let v2360 : BitVec 32 := Scalar.remsi v2347 c128_i32_1338
  let c0_i32_1343 : BitVec 32 := 0#32
  let v2361 : BitVec 1 := Scalar.cmpi .ne v2360 c0_i32_1343
  let v2362 : BitVec 1 := Scalar.andi v2359 v2361
  let v2348 : BitVec 32 := Scalar.divsi v2347 c128_i32_1338
  let c1_i32_1344 : BitVec 32 := 1#32
  let v2363 : BitVec 32 := Scalar.subi v2348 c1_i32_1344
  let v2364 : BitVec 32 := Scalar.select v2362 v2363 v2348
  let c128_i32_1345 : BitVec 32 := 128#32
  let v2365 : BitVec 32 := Scalar.muli v2364 c128_i32_1345
  v2365
def k1_mult69 (i : grid1.Coords) : BitVec 32 :=
  let c2040_i32_1357 : BitVec 32 := 2040#32
  let c1024_i32_1356 : BitVec 32 := 1024#32
  let arg1 : BitVec 32 := BitVec.ofNat 32 (i 1).val
  let v2380 : BitVec 32 := Scalar.muli c1024_i32_1356 arg1
  let v2381 : BitVec 32 := Scalar.subi c2040_i32_1357 v2380
  let c544_i32 : BitVec 32 := 544#32
  let v2382 : BitVec 32 := Scalar.subi v2381 c544_i32
  let c0_i32_1359 : BitVec 32 := 0#32
  let v2384 : BitVec 1 := Scalar.cmpi .sgt v2382 c0_i32_1359
  let v2385 : BitVec 32 := Scalar.extui v2384
  let c0_i32_1360 : BitVec 32 := 0#32
  let v2386 : BitVec 1 := Scalar.cmpi .slt v2382 c0_i32_1360
  let v2387 : BitVec 32 := Scalar.extui v2386
  let v2388 : BitVec 32 := Scalar.subi v2385 v2387
  let c128_i32_1358 : BitVec 32 := 128#32
  let c0_i32_1361 : BitVec 32 := 0#32
  let v2389 : BitVec 1 := Scalar.cmpi .sgt c128_i32_1358 c0_i32_1361
  let v2390 : BitVec 32 := Scalar.extui v2389
  let c0_i32_1362 : BitVec 32 := 0#32
  let v2391 : BitVec 1 := Scalar.cmpi .slt c128_i32_1358 c0_i32_1362
  let v2392 : BitVec 32 := Scalar.extui v2391
  let v2393 : BitVec 32 := Scalar.subi v2390 v2392
  let v2394 : BitVec 1 := Scalar.cmpi .ne v2388 v2393
  let v2395 : BitVec 32 := Scalar.remsi v2382 c128_i32_1358
  let c0_i32_1363 : BitVec 32 := 0#32
  let v2396 : BitVec 1 := Scalar.cmpi .ne v2395 c0_i32_1363
  let v2397 : BitVec 1 := Scalar.andi v2394 v2396
  let v2383 : BitVec 32 := Scalar.divsi v2382 c128_i32_1358
  let c1_i32_1364 : BitVec 32 := 1#32
  let v2398 : BitVec 32 := Scalar.subi v2383 c1_i32_1364
  let v2399 : BitVec 32 := Scalar.select v2397 v2398 v2383
  let c128_i32_1365 : BitVec 32 := 128#32
  let v2400 : BitVec 32 := Scalar.muli v2399 c128_i32_1365
  v2400
def k1_mult70 (i : grid1.Coords) : BitVec 32 :=
  let c2040_i32_1377 : BitVec 32 := 2040#32
  let c1024_i32_1376 : BitVec 32 := 1024#32
  let arg1 : BitVec 32 := BitVec.ofNat 32 (i 1).val
  let v2415 : BitVec 32 := Scalar.muli c1024_i32_1376 arg1
  let v2416 : BitVec 32 := Scalar.subi c2040_i32_1377 v2415
  let c552_i32 : BitVec 32 := 552#32
  let v2417 : BitVec 32 := Scalar.subi v2416 c552_i32
  let c0_i32_1379 : BitVec 32 := 0#32
  let v2419 : BitVec 1 := Scalar.cmpi .sgt v2417 c0_i32_1379
  let v2420 : BitVec 32 := Scalar.extui v2419
  let c0_i32_1380 : BitVec 32 := 0#32
  let v2421 : BitVec 1 := Scalar.cmpi .slt v2417 c0_i32_1380
  let v2422 : BitVec 32 := Scalar.extui v2421
  let v2423 : BitVec 32 := Scalar.subi v2420 v2422
  let c128_i32_1378 : BitVec 32 := 128#32
  let c0_i32_1381 : BitVec 32 := 0#32
  let v2424 : BitVec 1 := Scalar.cmpi .sgt c128_i32_1378 c0_i32_1381
  let v2425 : BitVec 32 := Scalar.extui v2424
  let c0_i32_1382 : BitVec 32 := 0#32
  let v2426 : BitVec 1 := Scalar.cmpi .slt c128_i32_1378 c0_i32_1382
  let v2427 : BitVec 32 := Scalar.extui v2426
  let v2428 : BitVec 32 := Scalar.subi v2425 v2427
  let v2429 : BitVec 1 := Scalar.cmpi .ne v2423 v2428
  let v2430 : BitVec 32 := Scalar.remsi v2417 c128_i32_1378
  let c0_i32_1383 : BitVec 32 := 0#32
  let v2431 : BitVec 1 := Scalar.cmpi .ne v2430 c0_i32_1383
  let v2432 : BitVec 1 := Scalar.andi v2429 v2431
  let v2418 : BitVec 32 := Scalar.divsi v2417 c128_i32_1378
  let c1_i32_1384 : BitVec 32 := 1#32
  let v2433 : BitVec 32 := Scalar.subi v2418 c1_i32_1384
  let v2434 : BitVec 32 := Scalar.select v2432 v2433 v2418
  let c128_i32_1385 : BitVec 32 := 128#32
  let v2435 : BitVec 32 := Scalar.muli v2434 c128_i32_1385
  v2435
def k1_mult71 (i : grid1.Coords) : BitVec 32 :=
  let c2040_i32_1397 : BitVec 32 := 2040#32
  let c1024_i32_1396 : BitVec 32 := 1024#32
  let arg1 : BitVec 32 := BitVec.ofNat 32 (i 1).val
  let v2450 : BitVec 32 := Scalar.muli c1024_i32_1396 arg1
  let v2451 : BitVec 32 := Scalar.subi c2040_i32_1397 v2450
  let c560_i32 : BitVec 32 := 560#32
  let v2452 : BitVec 32 := Scalar.subi v2451 c560_i32
  let c0_i32_1399 : BitVec 32 := 0#32
  let v2454 : BitVec 1 := Scalar.cmpi .sgt v2452 c0_i32_1399
  let v2455 : BitVec 32 := Scalar.extui v2454
  let c0_i32_1400 : BitVec 32 := 0#32
  let v2456 : BitVec 1 := Scalar.cmpi .slt v2452 c0_i32_1400
  let v2457 : BitVec 32 := Scalar.extui v2456
  let v2458 : BitVec 32 := Scalar.subi v2455 v2457
  let c128_i32_1398 : BitVec 32 := 128#32
  let c0_i32_1401 : BitVec 32 := 0#32
  let v2459 : BitVec 1 := Scalar.cmpi .sgt c128_i32_1398 c0_i32_1401
  let v2460 : BitVec 32 := Scalar.extui v2459
  let c0_i32_1402 : BitVec 32 := 0#32
  let v2461 : BitVec 1 := Scalar.cmpi .slt c128_i32_1398 c0_i32_1402
  let v2462 : BitVec 32 := Scalar.extui v2461
  let v2463 : BitVec 32 := Scalar.subi v2460 v2462
  let v2464 : BitVec 1 := Scalar.cmpi .ne v2458 v2463
  let v2465 : BitVec 32 := Scalar.remsi v2452 c128_i32_1398
  let c0_i32_1403 : BitVec 32 := 0#32
  let v2466 : BitVec 1 := Scalar.cmpi .ne v2465 c0_i32_1403
  let v2467 : BitVec 1 := Scalar.andi v2464 v2466
  let v2453 : BitVec 32 := Scalar.divsi v2452 c128_i32_1398
  let c1_i32_1404 : BitVec 32 := 1#32
  let v2468 : BitVec 32 := Scalar.subi v2453 c1_i32_1404
  let v2469 : BitVec 32 := Scalar.select v2467 v2468 v2453
  let c128_i32_1405 : BitVec 32 := 128#32
  let v2470 : BitVec 32 := Scalar.muli v2469 c128_i32_1405
  v2470
def k1_mult72 (i : grid1.Coords) : BitVec 32 :=
  let c2040_i32_1417 : BitVec 32 := 2040#32
  let c1024_i32_1416 : BitVec 32 := 1024#32
  let arg1 : BitVec 32 := BitVec.ofNat 32 (i 1).val
  let v2485 : BitVec 32 := Scalar.muli c1024_i32_1416 arg1
  let v2486 : BitVec 32 := Scalar.subi c2040_i32_1417 v2485
  let c568_i32 : BitVec 32 := 568#32
  let v2487 : BitVec 32 := Scalar.subi v2486 c568_i32
  let c0_i32_1419 : BitVec 32 := 0#32
  let v2489 : BitVec 1 := Scalar.cmpi .sgt v2487 c0_i32_1419
  let v2490 : BitVec 32 := Scalar.extui v2489
  let c0_i32_1420 : BitVec 32 := 0#32
  let v2491 : BitVec 1 := Scalar.cmpi .slt v2487 c0_i32_1420
  let v2492 : BitVec 32 := Scalar.extui v2491
  let v2493 : BitVec 32 := Scalar.subi v2490 v2492
  let c128_i32_1418 : BitVec 32 := 128#32
  let c0_i32_1421 : BitVec 32 := 0#32
  let v2494 : BitVec 1 := Scalar.cmpi .sgt c128_i32_1418 c0_i32_1421
  let v2495 : BitVec 32 := Scalar.extui v2494
  let c0_i32_1422 : BitVec 32 := 0#32
  let v2496 : BitVec 1 := Scalar.cmpi .slt c128_i32_1418 c0_i32_1422
  let v2497 : BitVec 32 := Scalar.extui v2496
  let v2498 : BitVec 32 := Scalar.subi v2495 v2497
  let v2499 : BitVec 1 := Scalar.cmpi .ne v2493 v2498
  let v2500 : BitVec 32 := Scalar.remsi v2487 c128_i32_1418
  let c0_i32_1423 : BitVec 32 := 0#32
  let v2501 : BitVec 1 := Scalar.cmpi .ne v2500 c0_i32_1423
  let v2502 : BitVec 1 := Scalar.andi v2499 v2501
  let v2488 : BitVec 32 := Scalar.divsi v2487 c128_i32_1418
  let c1_i32_1424 : BitVec 32 := 1#32
  let v2503 : BitVec 32 := Scalar.subi v2488 c1_i32_1424
  let v2504 : BitVec 32 := Scalar.select v2502 v2503 v2488
  let c128_i32_1425 : BitVec 32 := 128#32
  let v2505 : BitVec 32 := Scalar.muli v2504 c128_i32_1425
  v2505
def k1_mult73 (i : grid1.Coords) : BitVec 32 :=
  let c2040_i32_1437 : BitVec 32 := 2040#32
  let c1024_i32_1436 : BitVec 32 := 1024#32
  let arg1 : BitVec 32 := BitVec.ofNat 32 (i 1).val
  let v2520 : BitVec 32 := Scalar.muli c1024_i32_1436 arg1
  let v2521 : BitVec 32 := Scalar.subi c2040_i32_1437 v2520
  let c576_i32 : BitVec 32 := 576#32
  let v2522 : BitVec 32 := Scalar.subi v2521 c576_i32
  let c0_i32_1439 : BitVec 32 := 0#32
  let v2524 : BitVec 1 := Scalar.cmpi .sgt v2522 c0_i32_1439
  let v2525 : BitVec 32 := Scalar.extui v2524
  let c0_i32_1440 : BitVec 32 := 0#32
  let v2526 : BitVec 1 := Scalar.cmpi .slt v2522 c0_i32_1440
  let v2527 : BitVec 32 := Scalar.extui v2526
  let v2528 : BitVec 32 := Scalar.subi v2525 v2527
  let c128_i32_1438 : BitVec 32 := 128#32
  let c0_i32_1441 : BitVec 32 := 0#32
  let v2529 : BitVec 1 := Scalar.cmpi .sgt c128_i32_1438 c0_i32_1441
  let v2530 : BitVec 32 := Scalar.extui v2529
  let c0_i32_1442 : BitVec 32 := 0#32
  let v2531 : BitVec 1 := Scalar.cmpi .slt c128_i32_1438 c0_i32_1442
  let v2532 : BitVec 32 := Scalar.extui v2531
  let v2533 : BitVec 32 := Scalar.subi v2530 v2532
  let v2534 : BitVec 1 := Scalar.cmpi .ne v2528 v2533
  let v2535 : BitVec 32 := Scalar.remsi v2522 c128_i32_1438
  let c0_i32_1443 : BitVec 32 := 0#32
  let v2536 : BitVec 1 := Scalar.cmpi .ne v2535 c0_i32_1443
  let v2537 : BitVec 1 := Scalar.andi v2534 v2536
  let v2523 : BitVec 32 := Scalar.divsi v2522 c128_i32_1438
  let c1_i32_1444 : BitVec 32 := 1#32
  let v2538 : BitVec 32 := Scalar.subi v2523 c1_i32_1444
  let v2539 : BitVec 32 := Scalar.select v2537 v2538 v2523
  let c128_i32_1445 : BitVec 32 := 128#32
  let v2540 : BitVec 32 := Scalar.muli v2539 c128_i32_1445
  v2540
def k1_mult74 (i : grid1.Coords) : BitVec 32 :=
  let c2040_i32_1457 : BitVec 32 := 2040#32
  let c1024_i32_1456 : BitVec 32 := 1024#32
  let arg1 : BitVec 32 := BitVec.ofNat 32 (i 1).val
  let v2555 : BitVec 32 := Scalar.muli c1024_i32_1456 arg1
  let v2556 : BitVec 32 := Scalar.subi c2040_i32_1457 v2555
  let c584_i32 : BitVec 32 := 584#32
  let v2557 : BitVec 32 := Scalar.subi v2556 c584_i32
  let c0_i32_1459 : BitVec 32 := 0#32
  let v2559 : BitVec 1 := Scalar.cmpi .sgt v2557 c0_i32_1459
  let v2560 : BitVec 32 := Scalar.extui v2559
  let c0_i32_1460 : BitVec 32 := 0#32
  let v2561 : BitVec 1 := Scalar.cmpi .slt v2557 c0_i32_1460
  let v2562 : BitVec 32 := Scalar.extui v2561
  let v2563 : BitVec 32 := Scalar.subi v2560 v2562
  let c128_i32_1458 : BitVec 32 := 128#32
  let c0_i32_1461 : BitVec 32 := 0#32
  let v2564 : BitVec 1 := Scalar.cmpi .sgt c128_i32_1458 c0_i32_1461
  let v2565 : BitVec 32 := Scalar.extui v2564
  let c0_i32_1462 : BitVec 32 := 0#32
  let v2566 : BitVec 1 := Scalar.cmpi .slt c128_i32_1458 c0_i32_1462
  let v2567 : BitVec 32 := Scalar.extui v2566
  let v2568 : BitVec 32 := Scalar.subi v2565 v2567
  let v2569 : BitVec 1 := Scalar.cmpi .ne v2563 v2568
  let v2570 : BitVec 32 := Scalar.remsi v2557 c128_i32_1458
  let c0_i32_1463 : BitVec 32 := 0#32
  let v2571 : BitVec 1 := Scalar.cmpi .ne v2570 c0_i32_1463
  let v2572 : BitVec 1 := Scalar.andi v2569 v2571
  let v2558 : BitVec 32 := Scalar.divsi v2557 c128_i32_1458
  let c1_i32_1464 : BitVec 32 := 1#32
  let v2573 : BitVec 32 := Scalar.subi v2558 c1_i32_1464
  let v2574 : BitVec 32 := Scalar.select v2572 v2573 v2558
  let c128_i32_1465 : BitVec 32 := 128#32
  let v2575 : BitVec 32 := Scalar.muli v2574 c128_i32_1465
  v2575
def k1_mult75 (i : grid1.Coords) : BitVec 32 :=
  let c2040_i32_1477 : BitVec 32 := 2040#32
  let c1024_i32_1476 : BitVec 32 := 1024#32
  let arg1 : BitVec 32 := BitVec.ofNat 32 (i 1).val
  let v2590 : BitVec 32 := Scalar.muli c1024_i32_1476 arg1
  let v2591 : BitVec 32 := Scalar.subi c2040_i32_1477 v2590
  let c592_i32 : BitVec 32 := 592#32
  let v2592 : BitVec 32 := Scalar.subi v2591 c592_i32
  let c0_i32_1479 : BitVec 32 := 0#32
  let v2594 : BitVec 1 := Scalar.cmpi .sgt v2592 c0_i32_1479
  let v2595 : BitVec 32 := Scalar.extui v2594
  let c0_i32_1480 : BitVec 32 := 0#32
  let v2596 : BitVec 1 := Scalar.cmpi .slt v2592 c0_i32_1480
  let v2597 : BitVec 32 := Scalar.extui v2596
  let v2598 : BitVec 32 := Scalar.subi v2595 v2597
  let c128_i32_1478 : BitVec 32 := 128#32
  let c0_i32_1481 : BitVec 32 := 0#32
  let v2599 : BitVec 1 := Scalar.cmpi .sgt c128_i32_1478 c0_i32_1481
  let v2600 : BitVec 32 := Scalar.extui v2599
  let c0_i32_1482 : BitVec 32 := 0#32
  let v2601 : BitVec 1 := Scalar.cmpi .slt c128_i32_1478 c0_i32_1482
  let v2602 : BitVec 32 := Scalar.extui v2601
  let v2603 : BitVec 32 := Scalar.subi v2600 v2602
  let v2604 : BitVec 1 := Scalar.cmpi .ne v2598 v2603
  let v2605 : BitVec 32 := Scalar.remsi v2592 c128_i32_1478
  let c0_i32_1483 : BitVec 32 := 0#32
  let v2606 : BitVec 1 := Scalar.cmpi .ne v2605 c0_i32_1483
  let v2607 : BitVec 1 := Scalar.andi v2604 v2606
  let v2593 : BitVec 32 := Scalar.divsi v2592 c128_i32_1478
  let c1_i32_1484 : BitVec 32 := 1#32
  let v2608 : BitVec 32 := Scalar.subi v2593 c1_i32_1484
  let v2609 : BitVec 32 := Scalar.select v2607 v2608 v2593
  let c128_i32_1485 : BitVec 32 := 128#32
  let v2610 : BitVec 32 := Scalar.muli v2609 c128_i32_1485
  v2610
def k1_mult76 (i : grid1.Coords) : BitVec 32 :=
  let c2040_i32_1497 : BitVec 32 := 2040#32
  let c1024_i32_1496 : BitVec 32 := 1024#32
  let arg1 : BitVec 32 := BitVec.ofNat 32 (i 1).val
  let v2625 : BitVec 32 := Scalar.muli c1024_i32_1496 arg1
  let v2626 : BitVec 32 := Scalar.subi c2040_i32_1497 v2625
  let c600_i32 : BitVec 32 := 600#32
  let v2627 : BitVec 32 := Scalar.subi v2626 c600_i32
  let c0_i32_1499 : BitVec 32 := 0#32
  let v2629 : BitVec 1 := Scalar.cmpi .sgt v2627 c0_i32_1499
  let v2630 : BitVec 32 := Scalar.extui v2629
  let c0_i32_1500 : BitVec 32 := 0#32
  let v2631 : BitVec 1 := Scalar.cmpi .slt v2627 c0_i32_1500
  let v2632 : BitVec 32 := Scalar.extui v2631
  let v2633 : BitVec 32 := Scalar.subi v2630 v2632
  let c128_i32_1498 : BitVec 32 := 128#32
  let c0_i32_1501 : BitVec 32 := 0#32
  let v2634 : BitVec 1 := Scalar.cmpi .sgt c128_i32_1498 c0_i32_1501
  let v2635 : BitVec 32 := Scalar.extui v2634
  let c0_i32_1502 : BitVec 32 := 0#32
  let v2636 : BitVec 1 := Scalar.cmpi .slt c128_i32_1498 c0_i32_1502
  let v2637 : BitVec 32 := Scalar.extui v2636
  let v2638 : BitVec 32 := Scalar.subi v2635 v2637
  let v2639 : BitVec 1 := Scalar.cmpi .ne v2633 v2638
  let v2640 : BitVec 32 := Scalar.remsi v2627 c128_i32_1498
  let c0_i32_1503 : BitVec 32 := 0#32
  let v2641 : BitVec 1 := Scalar.cmpi .ne v2640 c0_i32_1503
  let v2642 : BitVec 1 := Scalar.andi v2639 v2641
  let v2628 : BitVec 32 := Scalar.divsi v2627 c128_i32_1498
  let c1_i32_1504 : BitVec 32 := 1#32
  let v2643 : BitVec 32 := Scalar.subi v2628 c1_i32_1504
  let v2644 : BitVec 32 := Scalar.select v2642 v2643 v2628
  let c128_i32_1505 : BitVec 32 := 128#32
  let v2645 : BitVec 32 := Scalar.muli v2644 c128_i32_1505
  v2645
def k1_mult77 (i : grid1.Coords) : BitVec 32 :=
  let c2040_i32_1517 : BitVec 32 := 2040#32
  let c1024_i32_1516 : BitVec 32 := 1024#32
  let arg1 : BitVec 32 := BitVec.ofNat 32 (i 1).val
  let v2660 : BitVec 32 := Scalar.muli c1024_i32_1516 arg1
  let v2661 : BitVec 32 := Scalar.subi c2040_i32_1517 v2660
  let c608_i32 : BitVec 32 := 608#32
  let v2662 : BitVec 32 := Scalar.subi v2661 c608_i32
  let c0_i32_1519 : BitVec 32 := 0#32
  let v2664 : BitVec 1 := Scalar.cmpi .sgt v2662 c0_i32_1519
  let v2665 : BitVec 32 := Scalar.extui v2664
  let c0_i32_1520 : BitVec 32 := 0#32
  let v2666 : BitVec 1 := Scalar.cmpi .slt v2662 c0_i32_1520
  let v2667 : BitVec 32 := Scalar.extui v2666
  let v2668 : BitVec 32 := Scalar.subi v2665 v2667
  let c128_i32_1518 : BitVec 32 := 128#32
  let c0_i32_1521 : BitVec 32 := 0#32
  let v2669 : BitVec 1 := Scalar.cmpi .sgt c128_i32_1518 c0_i32_1521
  let v2670 : BitVec 32 := Scalar.extui v2669
  let c0_i32_1522 : BitVec 32 := 0#32
  let v2671 : BitVec 1 := Scalar.cmpi .slt c128_i32_1518 c0_i32_1522
  let v2672 : BitVec 32 := Scalar.extui v2671
  let v2673 : BitVec 32 := Scalar.subi v2670 v2672
  let v2674 : BitVec 1 := Scalar.cmpi .ne v2668 v2673
  let v2675 : BitVec 32 := Scalar.remsi v2662 c128_i32_1518
  let c0_i32_1523 : BitVec 32 := 0#32
  let v2676 : BitVec 1 := Scalar.cmpi .ne v2675 c0_i32_1523
  let v2677 : BitVec 1 := Scalar.andi v2674 v2676
  let v2663 : BitVec 32 := Scalar.divsi v2662 c128_i32_1518
  let c1_i32_1524 : BitVec 32 := 1#32
  let v2678 : BitVec 32 := Scalar.subi v2663 c1_i32_1524
  let v2679 : BitVec 32 := Scalar.select v2677 v2678 v2663
  let c128_i32_1525 : BitVec 32 := 128#32
  let v2680 : BitVec 32 := Scalar.muli v2679 c128_i32_1525
  v2680
def k1_mult78 (i : grid1.Coords) : BitVec 32 :=
  let c2040_i32_1537 : BitVec 32 := 2040#32
  let c1024_i32_1536 : BitVec 32 := 1024#32
  let arg1 : BitVec 32 := BitVec.ofNat 32 (i 1).val
  let v2695 : BitVec 32 := Scalar.muli c1024_i32_1536 arg1
  let v2696 : BitVec 32 := Scalar.subi c2040_i32_1537 v2695
  let c616_i32 : BitVec 32 := 616#32
  let v2697 : BitVec 32 := Scalar.subi v2696 c616_i32
  let c0_i32_1539 : BitVec 32 := 0#32
  let v2699 : BitVec 1 := Scalar.cmpi .sgt v2697 c0_i32_1539
  let v2700 : BitVec 32 := Scalar.extui v2699
  let c0_i32_1540 : BitVec 32 := 0#32
  let v2701 : BitVec 1 := Scalar.cmpi .slt v2697 c0_i32_1540
  let v2702 : BitVec 32 := Scalar.extui v2701
  let v2703 : BitVec 32 := Scalar.subi v2700 v2702
  let c128_i32_1538 : BitVec 32 := 128#32
  let c0_i32_1541 : BitVec 32 := 0#32
  let v2704 : BitVec 1 := Scalar.cmpi .sgt c128_i32_1538 c0_i32_1541
  let v2705 : BitVec 32 := Scalar.extui v2704
  let c0_i32_1542 : BitVec 32 := 0#32
  let v2706 : BitVec 1 := Scalar.cmpi .slt c128_i32_1538 c0_i32_1542
  let v2707 : BitVec 32 := Scalar.extui v2706
  let v2708 : BitVec 32 := Scalar.subi v2705 v2707
  let v2709 : BitVec 1 := Scalar.cmpi .ne v2703 v2708
  let v2710 : BitVec 32 := Scalar.remsi v2697 c128_i32_1538
  let c0_i32_1543 : BitVec 32 := 0#32
  let v2711 : BitVec 1 := Scalar.cmpi .ne v2710 c0_i32_1543
  let v2712 : BitVec 1 := Scalar.andi v2709 v2711
  let v2698 : BitVec 32 := Scalar.divsi v2697 c128_i32_1538
  let c1_i32_1544 : BitVec 32 := 1#32
  let v2713 : BitVec 32 := Scalar.subi v2698 c1_i32_1544
  let v2714 : BitVec 32 := Scalar.select v2712 v2713 v2698
  let c128_i32_1545 : BitVec 32 := 128#32
  let v2715 : BitVec 32 := Scalar.muli v2714 c128_i32_1545
  v2715
def k1_mult79 (i : grid1.Coords) : BitVec 32 :=
  let c2040_i32_1557 : BitVec 32 := 2040#32
  let c1024_i32_1556 : BitVec 32 := 1024#32
  let arg1 : BitVec 32 := BitVec.ofNat 32 (i 1).val
  let v2730 : BitVec 32 := Scalar.muli c1024_i32_1556 arg1
  let v2731 : BitVec 32 := Scalar.subi c2040_i32_1557 v2730
  let c624_i32 : BitVec 32 := 624#32
  let v2732 : BitVec 32 := Scalar.subi v2731 c624_i32
  let c0_i32_1559 : BitVec 32 := 0#32
  let v2734 : BitVec 1 := Scalar.cmpi .sgt v2732 c0_i32_1559
  let v2735 : BitVec 32 := Scalar.extui v2734
  let c0_i32_1560 : BitVec 32 := 0#32
  let v2736 : BitVec 1 := Scalar.cmpi .slt v2732 c0_i32_1560
  let v2737 : BitVec 32 := Scalar.extui v2736
  let v2738 : BitVec 32 := Scalar.subi v2735 v2737
  let c128_i32_1558 : BitVec 32 := 128#32
  let c0_i32_1561 : BitVec 32 := 0#32
  let v2739 : BitVec 1 := Scalar.cmpi .sgt c128_i32_1558 c0_i32_1561
  let v2740 : BitVec 32 := Scalar.extui v2739
  let c0_i32_1562 : BitVec 32 := 0#32
  let v2741 : BitVec 1 := Scalar.cmpi .slt c128_i32_1558 c0_i32_1562
  let v2742 : BitVec 32 := Scalar.extui v2741
  let v2743 : BitVec 32 := Scalar.subi v2740 v2742
  let v2744 : BitVec 1 := Scalar.cmpi .ne v2738 v2743
  let v2745 : BitVec 32 := Scalar.remsi v2732 c128_i32_1558
  let c0_i32_1563 : BitVec 32 := 0#32
  let v2746 : BitVec 1 := Scalar.cmpi .ne v2745 c0_i32_1563
  let v2747 : BitVec 1 := Scalar.andi v2744 v2746
  let v2733 : BitVec 32 := Scalar.divsi v2732 c128_i32_1558
  let c1_i32_1564 : BitVec 32 := 1#32
  let v2748 : BitVec 32 := Scalar.subi v2733 c1_i32_1564
  let v2749 : BitVec 32 := Scalar.select v2747 v2748 v2733
  let c128_i32_1565 : BitVec 32 := 128#32
  let v2750 : BitVec 32 := Scalar.muli v2749 c128_i32_1565
  v2750
def k1_mult80 (i : grid1.Coords) : BitVec 32 :=
  let c2040_i32_1577 : BitVec 32 := 2040#32
  let c1024_i32_1576 : BitVec 32 := 1024#32
  let arg1 : BitVec 32 := BitVec.ofNat 32 (i 1).val
  let v2765 : BitVec 32 := Scalar.muli c1024_i32_1576 arg1
  let v2766 : BitVec 32 := Scalar.subi c2040_i32_1577 v2765
  let c632_i32 : BitVec 32 := 632#32
  let v2767 : BitVec 32 := Scalar.subi v2766 c632_i32
  let c0_i32_1579 : BitVec 32 := 0#32
  let v2769 : BitVec 1 := Scalar.cmpi .sgt v2767 c0_i32_1579
  let v2770 : BitVec 32 := Scalar.extui v2769
  let c0_i32_1580 : BitVec 32 := 0#32
  let v2771 : BitVec 1 := Scalar.cmpi .slt v2767 c0_i32_1580
  let v2772 : BitVec 32 := Scalar.extui v2771
  let v2773 : BitVec 32 := Scalar.subi v2770 v2772
  let c128_i32_1578 : BitVec 32 := 128#32
  let c0_i32_1581 : BitVec 32 := 0#32
  let v2774 : BitVec 1 := Scalar.cmpi .sgt c128_i32_1578 c0_i32_1581
  let v2775 : BitVec 32 := Scalar.extui v2774
  let c0_i32_1582 : BitVec 32 := 0#32
  let v2776 : BitVec 1 := Scalar.cmpi .slt c128_i32_1578 c0_i32_1582
  let v2777 : BitVec 32 := Scalar.extui v2776
  let v2778 : BitVec 32 := Scalar.subi v2775 v2777
  let v2779 : BitVec 1 := Scalar.cmpi .ne v2773 v2778
  let v2780 : BitVec 32 := Scalar.remsi v2767 c128_i32_1578
  let c0_i32_1583 : BitVec 32 := 0#32
  let v2781 : BitVec 1 := Scalar.cmpi .ne v2780 c0_i32_1583
  let v2782 : BitVec 1 := Scalar.andi v2779 v2781
  let v2768 : BitVec 32 := Scalar.divsi v2767 c128_i32_1578
  let c1_i32_1584 : BitVec 32 := 1#32
  let v2783 : BitVec 32 := Scalar.subi v2768 c1_i32_1584
  let v2784 : BitVec 32 := Scalar.select v2782 v2783 v2768
  let c128_i32_1585 : BitVec 32 := 128#32
  let v2785 : BitVec 32 := Scalar.muli v2784 c128_i32_1585
  v2785
def k1_mult81 (i : grid1.Coords) : BitVec 32 :=
  let c2040_i32_1597 : BitVec 32 := 2040#32
  let c1024_i32_1596 : BitVec 32 := 1024#32
  let arg1 : BitVec 32 := BitVec.ofNat 32 (i 1).val
  let v2800 : BitVec 32 := Scalar.muli c1024_i32_1596 arg1
  let v2801 : BitVec 32 := Scalar.subi c2040_i32_1597 v2800
  let c640_i32 : BitVec 32 := 640#32
  let v2802 : BitVec 32 := Scalar.subi v2801 c640_i32
  let c0_i32_1599 : BitVec 32 := 0#32
  let v2804 : BitVec 1 := Scalar.cmpi .sgt v2802 c0_i32_1599
  let v2805 : BitVec 32 := Scalar.extui v2804
  let c0_i32_1600 : BitVec 32 := 0#32
  let v2806 : BitVec 1 := Scalar.cmpi .slt v2802 c0_i32_1600
  let v2807 : BitVec 32 := Scalar.extui v2806
  let v2808 : BitVec 32 := Scalar.subi v2805 v2807
  let c128_i32_1598 : BitVec 32 := 128#32
  let c0_i32_1601 : BitVec 32 := 0#32
  let v2809 : BitVec 1 := Scalar.cmpi .sgt c128_i32_1598 c0_i32_1601
  let v2810 : BitVec 32 := Scalar.extui v2809
  let c0_i32_1602 : BitVec 32 := 0#32
  let v2811 : BitVec 1 := Scalar.cmpi .slt c128_i32_1598 c0_i32_1602
  let v2812 : BitVec 32 := Scalar.extui v2811
  let v2813 : BitVec 32 := Scalar.subi v2810 v2812
  let v2814 : BitVec 1 := Scalar.cmpi .ne v2808 v2813
  let v2815 : BitVec 32 := Scalar.remsi v2802 c128_i32_1598
  let c0_i32_1603 : BitVec 32 := 0#32
  let v2816 : BitVec 1 := Scalar.cmpi .ne v2815 c0_i32_1603
  let v2817 : BitVec 1 := Scalar.andi v2814 v2816
  let v2803 : BitVec 32 := Scalar.divsi v2802 c128_i32_1598
  let c1_i32_1604 : BitVec 32 := 1#32
  let v2818 : BitVec 32 := Scalar.subi v2803 c1_i32_1604
  let v2819 : BitVec 32 := Scalar.select v2817 v2818 v2803
  let c128_i32_1605 : BitVec 32 := 128#32
  let v2820 : BitVec 32 := Scalar.muli v2819 c128_i32_1605
  v2820
def k1_mult82 (i : grid1.Coords) : BitVec 32 :=
  let c2040_i32_1617 : BitVec 32 := 2040#32
  let c1024_i32_1616 : BitVec 32 := 1024#32
  let arg1 : BitVec 32 := BitVec.ofNat 32 (i 1).val
  let v2835 : BitVec 32 := Scalar.muli c1024_i32_1616 arg1
  let v2836 : BitVec 32 := Scalar.subi c2040_i32_1617 v2835
  let c648_i32 : BitVec 32 := 648#32
  let v2837 : BitVec 32 := Scalar.subi v2836 c648_i32
  let c0_i32_1619 : BitVec 32 := 0#32
  let v2839 : BitVec 1 := Scalar.cmpi .sgt v2837 c0_i32_1619
  let v2840 : BitVec 32 := Scalar.extui v2839
  let c0_i32_1620 : BitVec 32 := 0#32
  let v2841 : BitVec 1 := Scalar.cmpi .slt v2837 c0_i32_1620
  let v2842 : BitVec 32 := Scalar.extui v2841
  let v2843 : BitVec 32 := Scalar.subi v2840 v2842
  let c128_i32_1618 : BitVec 32 := 128#32
  let c0_i32_1621 : BitVec 32 := 0#32
  let v2844 : BitVec 1 := Scalar.cmpi .sgt c128_i32_1618 c0_i32_1621
  let v2845 : BitVec 32 := Scalar.extui v2844
  let c0_i32_1622 : BitVec 32 := 0#32
  let v2846 : BitVec 1 := Scalar.cmpi .slt c128_i32_1618 c0_i32_1622
  let v2847 : BitVec 32 := Scalar.extui v2846
  let v2848 : BitVec 32 := Scalar.subi v2845 v2847
  let v2849 : BitVec 1 := Scalar.cmpi .ne v2843 v2848
  let v2850 : BitVec 32 := Scalar.remsi v2837 c128_i32_1618
  let c0_i32_1623 : BitVec 32 := 0#32
  let v2851 : BitVec 1 := Scalar.cmpi .ne v2850 c0_i32_1623
  let v2852 : BitVec 1 := Scalar.andi v2849 v2851
  let v2838 : BitVec 32 := Scalar.divsi v2837 c128_i32_1618
  let c1_i32_1624 : BitVec 32 := 1#32
  let v2853 : BitVec 32 := Scalar.subi v2838 c1_i32_1624
  let v2854 : BitVec 32 := Scalar.select v2852 v2853 v2838
  let c128_i32_1625 : BitVec 32 := 128#32
  let v2855 : BitVec 32 := Scalar.muli v2854 c128_i32_1625
  v2855
def k1_mult83 (i : grid1.Coords) : BitVec 32 :=
  let c2040_i32_1637 : BitVec 32 := 2040#32
  let c1024_i32_1636 : BitVec 32 := 1024#32
  let arg1 : BitVec 32 := BitVec.ofNat 32 (i 1).val
  let v2870 : BitVec 32 := Scalar.muli c1024_i32_1636 arg1
  let v2871 : BitVec 32 := Scalar.subi c2040_i32_1637 v2870
  let c656_i32 : BitVec 32 := 656#32
  let v2872 : BitVec 32 := Scalar.subi v2871 c656_i32
  let c0_i32_1639 : BitVec 32 := 0#32
  let v2874 : BitVec 1 := Scalar.cmpi .sgt v2872 c0_i32_1639
  let v2875 : BitVec 32 := Scalar.extui v2874
  let c0_i32_1640 : BitVec 32 := 0#32
  let v2876 : BitVec 1 := Scalar.cmpi .slt v2872 c0_i32_1640
  let v2877 : BitVec 32 := Scalar.extui v2876
  let v2878 : BitVec 32 := Scalar.subi v2875 v2877
  let c128_i32_1638 : BitVec 32 := 128#32
  let c0_i32_1641 : BitVec 32 := 0#32
  let v2879 : BitVec 1 := Scalar.cmpi .sgt c128_i32_1638 c0_i32_1641
  let v2880 : BitVec 32 := Scalar.extui v2879
  let c0_i32_1642 : BitVec 32 := 0#32
  let v2881 : BitVec 1 := Scalar.cmpi .slt c128_i32_1638 c0_i32_1642
  let v2882 : BitVec 32 := Scalar.extui v2881
  let v2883 : BitVec 32 := Scalar.subi v2880 v2882
  let v2884 : BitVec 1 := Scalar.cmpi .ne v2878 v2883
  let v2885 : BitVec 32 := Scalar.remsi v2872 c128_i32_1638
  let c0_i32_1643 : BitVec 32 := 0#32
  let v2886 : BitVec 1 := Scalar.cmpi .ne v2885 c0_i32_1643
  let v2887 : BitVec 1 := Scalar.andi v2884 v2886
  let v2873 : BitVec 32 := Scalar.divsi v2872 c128_i32_1638
  let c1_i32_1644 : BitVec 32 := 1#32
  let v2888 : BitVec 32 := Scalar.subi v2873 c1_i32_1644
  let v2889 : BitVec 32 := Scalar.select v2887 v2888 v2873
  let c128_i32_1645 : BitVec 32 := 128#32
  let v2890 : BitVec 32 := Scalar.muli v2889 c128_i32_1645
  v2890
def k1_mult84 (i : grid1.Coords) : BitVec 32 :=
  let c2040_i32_1657 : BitVec 32 := 2040#32
  let c1024_i32_1656 : BitVec 32 := 1024#32
  let arg1 : BitVec 32 := BitVec.ofNat 32 (i 1).val
  let v2905 : BitVec 32 := Scalar.muli c1024_i32_1656 arg1
  let v2906 : BitVec 32 := Scalar.subi c2040_i32_1657 v2905
  let c664_i32 : BitVec 32 := 664#32
  let v2907 : BitVec 32 := Scalar.subi v2906 c664_i32
  let c0_i32_1659 : BitVec 32 := 0#32
  let v2909 : BitVec 1 := Scalar.cmpi .sgt v2907 c0_i32_1659
  let v2910 : BitVec 32 := Scalar.extui v2909
  let c0_i32_1660 : BitVec 32 := 0#32
  let v2911 : BitVec 1 := Scalar.cmpi .slt v2907 c0_i32_1660
  let v2912 : BitVec 32 := Scalar.extui v2911
  let v2913 : BitVec 32 := Scalar.subi v2910 v2912
  let c128_i32_1658 : BitVec 32 := 128#32
  let c0_i32_1661 : BitVec 32 := 0#32
  let v2914 : BitVec 1 := Scalar.cmpi .sgt c128_i32_1658 c0_i32_1661
  let v2915 : BitVec 32 := Scalar.extui v2914
  let c0_i32_1662 : BitVec 32 := 0#32
  let v2916 : BitVec 1 := Scalar.cmpi .slt c128_i32_1658 c0_i32_1662
  let v2917 : BitVec 32 := Scalar.extui v2916
  let v2918 : BitVec 32 := Scalar.subi v2915 v2917
  let v2919 : BitVec 1 := Scalar.cmpi .ne v2913 v2918
  let v2920 : BitVec 32 := Scalar.remsi v2907 c128_i32_1658
  let c0_i32_1663 : BitVec 32 := 0#32
  let v2921 : BitVec 1 := Scalar.cmpi .ne v2920 c0_i32_1663
  let v2922 : BitVec 1 := Scalar.andi v2919 v2921
  let v2908 : BitVec 32 := Scalar.divsi v2907 c128_i32_1658
  let c1_i32_1664 : BitVec 32 := 1#32
  let v2923 : BitVec 32 := Scalar.subi v2908 c1_i32_1664
  let v2924 : BitVec 32 := Scalar.select v2922 v2923 v2908
  let c128_i32_1665 : BitVec 32 := 128#32
  let v2925 : BitVec 32 := Scalar.muli v2924 c128_i32_1665
  v2925
def k1_mult85 (i : grid1.Coords) : BitVec 32 :=
  let c2040_i32_1677 : BitVec 32 := 2040#32
  let c1024_i32_1676 : BitVec 32 := 1024#32
  let arg1 : BitVec 32 := BitVec.ofNat 32 (i 1).val
  let v2940 : BitVec 32 := Scalar.muli c1024_i32_1676 arg1
  let v2941 : BitVec 32 := Scalar.subi c2040_i32_1677 v2940
  let c672_i32 : BitVec 32 := 672#32
  let v2942 : BitVec 32 := Scalar.subi v2941 c672_i32
  let c0_i32_1679 : BitVec 32 := 0#32
  let v2944 : BitVec 1 := Scalar.cmpi .sgt v2942 c0_i32_1679
  let v2945 : BitVec 32 := Scalar.extui v2944
  let c0_i32_1680 : BitVec 32 := 0#32
  let v2946 : BitVec 1 := Scalar.cmpi .slt v2942 c0_i32_1680
  let v2947 : BitVec 32 := Scalar.extui v2946
  let v2948 : BitVec 32 := Scalar.subi v2945 v2947
  let c128_i32_1678 : BitVec 32 := 128#32
  let c0_i32_1681 : BitVec 32 := 0#32
  let v2949 : BitVec 1 := Scalar.cmpi .sgt c128_i32_1678 c0_i32_1681
  let v2950 : BitVec 32 := Scalar.extui v2949
  let c0_i32_1682 : BitVec 32 := 0#32
  let v2951 : BitVec 1 := Scalar.cmpi .slt c128_i32_1678 c0_i32_1682
  let v2952 : BitVec 32 := Scalar.extui v2951
  let v2953 : BitVec 32 := Scalar.subi v2950 v2952
  let v2954 : BitVec 1 := Scalar.cmpi .ne v2948 v2953
  let v2955 : BitVec 32 := Scalar.remsi v2942 c128_i32_1678
  let c0_i32_1683 : BitVec 32 := 0#32
  let v2956 : BitVec 1 := Scalar.cmpi .ne v2955 c0_i32_1683
  let v2957 : BitVec 1 := Scalar.andi v2954 v2956
  let v2943 : BitVec 32 := Scalar.divsi v2942 c128_i32_1678
  let c1_i32_1684 : BitVec 32 := 1#32
  let v2958 : BitVec 32 := Scalar.subi v2943 c1_i32_1684
  let v2959 : BitVec 32 := Scalar.select v2957 v2958 v2943
  let c128_i32_1685 : BitVec 32 := 128#32
  let v2960 : BitVec 32 := Scalar.muli v2959 c128_i32_1685
  v2960
def k1_mult86 (i : grid1.Coords) : BitVec 32 :=
  let c2040_i32_1697 : BitVec 32 := 2040#32
  let c1024_i32_1696 : BitVec 32 := 1024#32
  let arg1 : BitVec 32 := BitVec.ofNat 32 (i 1).val
  let v2975 : BitVec 32 := Scalar.muli c1024_i32_1696 arg1
  let v2976 : BitVec 32 := Scalar.subi c2040_i32_1697 v2975
  let c680_i32 : BitVec 32 := 680#32
  let v2977 : BitVec 32 := Scalar.subi v2976 c680_i32
  let c0_i32_1699 : BitVec 32 := 0#32
  let v2979 : BitVec 1 := Scalar.cmpi .sgt v2977 c0_i32_1699
  let v2980 : BitVec 32 := Scalar.extui v2979
  let c0_i32_1700 : BitVec 32 := 0#32
  let v2981 : BitVec 1 := Scalar.cmpi .slt v2977 c0_i32_1700
  let v2982 : BitVec 32 := Scalar.extui v2981
  let v2983 : BitVec 32 := Scalar.subi v2980 v2982
  let c128_i32_1698 : BitVec 32 := 128#32
  let c0_i32_1701 : BitVec 32 := 0#32
  let v2984 : BitVec 1 := Scalar.cmpi .sgt c128_i32_1698 c0_i32_1701
  let v2985 : BitVec 32 := Scalar.extui v2984
  let c0_i32_1702 : BitVec 32 := 0#32
  let v2986 : BitVec 1 := Scalar.cmpi .slt c128_i32_1698 c0_i32_1702
  let v2987 : BitVec 32 := Scalar.extui v2986
  let v2988 : BitVec 32 := Scalar.subi v2985 v2987
  let v2989 : BitVec 1 := Scalar.cmpi .ne v2983 v2988
  let v2990 : BitVec 32 := Scalar.remsi v2977 c128_i32_1698
  let c0_i32_1703 : BitVec 32 := 0#32
  let v2991 : BitVec 1 := Scalar.cmpi .ne v2990 c0_i32_1703
  let v2992 : BitVec 1 := Scalar.andi v2989 v2991
  let v2978 : BitVec 32 := Scalar.divsi v2977 c128_i32_1698
  let c1_i32_1704 : BitVec 32 := 1#32
  let v2993 : BitVec 32 := Scalar.subi v2978 c1_i32_1704
  let v2994 : BitVec 32 := Scalar.select v2992 v2993 v2978
  let c128_i32_1705 : BitVec 32 := 128#32
  let v2995 : BitVec 32 := Scalar.muli v2994 c128_i32_1705
  v2995
def k1_mult87 (i : grid1.Coords) : BitVec 32 :=
  let c2040_i32_1717 : BitVec 32 := 2040#32
  let c1024_i32_1716 : BitVec 32 := 1024#32
  let arg1 : BitVec 32 := BitVec.ofNat 32 (i 1).val
  let v3010 : BitVec 32 := Scalar.muli c1024_i32_1716 arg1
  let v3011 : BitVec 32 := Scalar.subi c2040_i32_1717 v3010
  let c688_i32 : BitVec 32 := 688#32
  let v3012 : BitVec 32 := Scalar.subi v3011 c688_i32
  let c0_i32_1719 : BitVec 32 := 0#32
  let v3014 : BitVec 1 := Scalar.cmpi .sgt v3012 c0_i32_1719
  let v3015 : BitVec 32 := Scalar.extui v3014
  let c0_i32_1720 : BitVec 32 := 0#32
  let v3016 : BitVec 1 := Scalar.cmpi .slt v3012 c0_i32_1720
  let v3017 : BitVec 32 := Scalar.extui v3016
  let v3018 : BitVec 32 := Scalar.subi v3015 v3017
  let c128_i32_1718 : BitVec 32 := 128#32
  let c0_i32_1721 : BitVec 32 := 0#32
  let v3019 : BitVec 1 := Scalar.cmpi .sgt c128_i32_1718 c0_i32_1721
  let v3020 : BitVec 32 := Scalar.extui v3019
  let c0_i32_1722 : BitVec 32 := 0#32
  let v3021 : BitVec 1 := Scalar.cmpi .slt c128_i32_1718 c0_i32_1722
  let v3022 : BitVec 32 := Scalar.extui v3021
  let v3023 : BitVec 32 := Scalar.subi v3020 v3022
  let v3024 : BitVec 1 := Scalar.cmpi .ne v3018 v3023
  let v3025 : BitVec 32 := Scalar.remsi v3012 c128_i32_1718
  let c0_i32_1723 : BitVec 32 := 0#32
  let v3026 : BitVec 1 := Scalar.cmpi .ne v3025 c0_i32_1723
  let v3027 : BitVec 1 := Scalar.andi v3024 v3026
  let v3013 : BitVec 32 := Scalar.divsi v3012 c128_i32_1718
  let c1_i32_1724 : BitVec 32 := 1#32
  let v3028 : BitVec 32 := Scalar.subi v3013 c1_i32_1724
  let v3029 : BitVec 32 := Scalar.select v3027 v3028 v3013
  let c128_i32_1725 : BitVec 32 := 128#32
  let v3030 : BitVec 32 := Scalar.muli v3029 c128_i32_1725
  v3030
def k1_mult88 (i : grid1.Coords) : BitVec 32 :=
  let c2040_i32_1737 : BitVec 32 := 2040#32
  let c1024_i32_1736 : BitVec 32 := 1024#32
  let arg1 : BitVec 32 := BitVec.ofNat 32 (i 1).val
  let v3045 : BitVec 32 := Scalar.muli c1024_i32_1736 arg1
  let v3046 : BitVec 32 := Scalar.subi c2040_i32_1737 v3045
  let c696_i32 : BitVec 32 := 696#32
  let v3047 : BitVec 32 := Scalar.subi v3046 c696_i32
  let c0_i32_1739 : BitVec 32 := 0#32
  let v3049 : BitVec 1 := Scalar.cmpi .sgt v3047 c0_i32_1739
  let v3050 : BitVec 32 := Scalar.extui v3049
  let c0_i32_1740 : BitVec 32 := 0#32
  let v3051 : BitVec 1 := Scalar.cmpi .slt v3047 c0_i32_1740
  let v3052 : BitVec 32 := Scalar.extui v3051
  let v3053 : BitVec 32 := Scalar.subi v3050 v3052
  let c128_i32_1738 : BitVec 32 := 128#32
  let c0_i32_1741 : BitVec 32 := 0#32
  let v3054 : BitVec 1 := Scalar.cmpi .sgt c128_i32_1738 c0_i32_1741
  let v3055 : BitVec 32 := Scalar.extui v3054
  let c0_i32_1742 : BitVec 32 := 0#32
  let v3056 : BitVec 1 := Scalar.cmpi .slt c128_i32_1738 c0_i32_1742
  let v3057 : BitVec 32 := Scalar.extui v3056
  let v3058 : BitVec 32 := Scalar.subi v3055 v3057
  let v3059 : BitVec 1 := Scalar.cmpi .ne v3053 v3058
  let v3060 : BitVec 32 := Scalar.remsi v3047 c128_i32_1738
  let c0_i32_1743 : BitVec 32 := 0#32
  let v3061 : BitVec 1 := Scalar.cmpi .ne v3060 c0_i32_1743
  let v3062 : BitVec 1 := Scalar.andi v3059 v3061
  let v3048 : BitVec 32 := Scalar.divsi v3047 c128_i32_1738
  let c1_i32_1744 : BitVec 32 := 1#32
  let v3063 : BitVec 32 := Scalar.subi v3048 c1_i32_1744
  let v3064 : BitVec 32 := Scalar.select v3062 v3063 v3048
  let c128_i32_1745 : BitVec 32 := 128#32
  let v3065 : BitVec 32 := Scalar.muli v3064 c128_i32_1745
  v3065
def k1_mult89 (i : grid1.Coords) : BitVec 32 :=
  let c2040_i32_1757 : BitVec 32 := 2040#32
  let c1024_i32_1756 : BitVec 32 := 1024#32
  let arg1 : BitVec 32 := BitVec.ofNat 32 (i 1).val
  let v3080 : BitVec 32 := Scalar.muli c1024_i32_1756 arg1
  let v3081 : BitVec 32 := Scalar.subi c2040_i32_1757 v3080
  let c704_i32 : BitVec 32 := 704#32
  let v3082 : BitVec 32 := Scalar.subi v3081 c704_i32
  let c0_i32_1759 : BitVec 32 := 0#32
  let v3084 : BitVec 1 := Scalar.cmpi .sgt v3082 c0_i32_1759
  let v3085 : BitVec 32 := Scalar.extui v3084
  let c0_i32_1760 : BitVec 32 := 0#32
  let v3086 : BitVec 1 := Scalar.cmpi .slt v3082 c0_i32_1760
  let v3087 : BitVec 32 := Scalar.extui v3086
  let v3088 : BitVec 32 := Scalar.subi v3085 v3087
  let c128_i32_1758 : BitVec 32 := 128#32
  let c0_i32_1761 : BitVec 32 := 0#32
  let v3089 : BitVec 1 := Scalar.cmpi .sgt c128_i32_1758 c0_i32_1761
  let v3090 : BitVec 32 := Scalar.extui v3089
  let c0_i32_1762 : BitVec 32 := 0#32
  let v3091 : BitVec 1 := Scalar.cmpi .slt c128_i32_1758 c0_i32_1762
  let v3092 : BitVec 32 := Scalar.extui v3091
  let v3093 : BitVec 32 := Scalar.subi v3090 v3092
  let v3094 : BitVec 1 := Scalar.cmpi .ne v3088 v3093
  let v3095 : BitVec 32 := Scalar.remsi v3082 c128_i32_1758
  let c0_i32_1763 : BitVec 32 := 0#32
  let v3096 : BitVec 1 := Scalar.cmpi .ne v3095 c0_i32_1763
  let v3097 : BitVec 1 := Scalar.andi v3094 v3096
  let v3083 : BitVec 32 := Scalar.divsi v3082 c128_i32_1758
  let c1_i32_1764 : BitVec 32 := 1#32
  let v3098 : BitVec 32 := Scalar.subi v3083 c1_i32_1764
  let v3099 : BitVec 32 := Scalar.select v3097 v3098 v3083
  let c128_i32_1765 : BitVec 32 := 128#32
  let v3100 : BitVec 32 := Scalar.muli v3099 c128_i32_1765
  v3100
def k1_mult90 (i : grid1.Coords) : BitVec 32 :=
  let c2040_i32_1777 : BitVec 32 := 2040#32
  let c1024_i32_1776 : BitVec 32 := 1024#32
  let arg1 : BitVec 32 := BitVec.ofNat 32 (i 1).val
  let v3115 : BitVec 32 := Scalar.muli c1024_i32_1776 arg1
  let v3116 : BitVec 32 := Scalar.subi c2040_i32_1777 v3115
  let c712_i32 : BitVec 32 := 712#32
  let v3117 : BitVec 32 := Scalar.subi v3116 c712_i32
  let c0_i32_1779 : BitVec 32 := 0#32
  let v3119 : BitVec 1 := Scalar.cmpi .sgt v3117 c0_i32_1779
  let v3120 : BitVec 32 := Scalar.extui v3119
  let c0_i32_1780 : BitVec 32 := 0#32
  let v3121 : BitVec 1 := Scalar.cmpi .slt v3117 c0_i32_1780
  let v3122 : BitVec 32 := Scalar.extui v3121
  let v3123 : BitVec 32 := Scalar.subi v3120 v3122
  let c128_i32_1778 : BitVec 32 := 128#32
  let c0_i32_1781 : BitVec 32 := 0#32
  let v3124 : BitVec 1 := Scalar.cmpi .sgt c128_i32_1778 c0_i32_1781
  let v3125 : BitVec 32 := Scalar.extui v3124
  let c0_i32_1782 : BitVec 32 := 0#32
  let v3126 : BitVec 1 := Scalar.cmpi .slt c128_i32_1778 c0_i32_1782
  let v3127 : BitVec 32 := Scalar.extui v3126
  let v3128 : BitVec 32 := Scalar.subi v3125 v3127
  let v3129 : BitVec 1 := Scalar.cmpi .ne v3123 v3128
  let v3130 : BitVec 32 := Scalar.remsi v3117 c128_i32_1778
  let c0_i32_1783 : BitVec 32 := 0#32
  let v3131 : BitVec 1 := Scalar.cmpi .ne v3130 c0_i32_1783
  let v3132 : BitVec 1 := Scalar.andi v3129 v3131
  let v3118 : BitVec 32 := Scalar.divsi v3117 c128_i32_1778
  let c1_i32_1784 : BitVec 32 := 1#32
  let v3133 : BitVec 32 := Scalar.subi v3118 c1_i32_1784
  let v3134 : BitVec 32 := Scalar.select v3132 v3133 v3118
  let c128_i32_1785 : BitVec 32 := 128#32
  let v3135 : BitVec 32 := Scalar.muli v3134 c128_i32_1785
  v3135
def k1_mult91 (i : grid1.Coords) : BitVec 32 :=
  let c2040_i32_1797 : BitVec 32 := 2040#32
  let c1024_i32_1796 : BitVec 32 := 1024#32
  let arg1 : BitVec 32 := BitVec.ofNat 32 (i 1).val
  let v3150 : BitVec 32 := Scalar.muli c1024_i32_1796 arg1
  let v3151 : BitVec 32 := Scalar.subi c2040_i32_1797 v3150
  let c720_i32 : BitVec 32 := 720#32
  let v3152 : BitVec 32 := Scalar.subi v3151 c720_i32
  let c0_i32_1799 : BitVec 32 := 0#32
  let v3154 : BitVec 1 := Scalar.cmpi .sgt v3152 c0_i32_1799
  let v3155 : BitVec 32 := Scalar.extui v3154
  let c0_i32_1800 : BitVec 32 := 0#32
  let v3156 : BitVec 1 := Scalar.cmpi .slt v3152 c0_i32_1800
  let v3157 : BitVec 32 := Scalar.extui v3156
  let v3158 : BitVec 32 := Scalar.subi v3155 v3157
  let c128_i32_1798 : BitVec 32 := 128#32
  let c0_i32_1801 : BitVec 32 := 0#32
  let v3159 : BitVec 1 := Scalar.cmpi .sgt c128_i32_1798 c0_i32_1801
  let v3160 : BitVec 32 := Scalar.extui v3159
  let c0_i32_1802 : BitVec 32 := 0#32
  let v3161 : BitVec 1 := Scalar.cmpi .slt c128_i32_1798 c0_i32_1802
  let v3162 : BitVec 32 := Scalar.extui v3161
  let v3163 : BitVec 32 := Scalar.subi v3160 v3162
  let v3164 : BitVec 1 := Scalar.cmpi .ne v3158 v3163
  let v3165 : BitVec 32 := Scalar.remsi v3152 c128_i32_1798
  let c0_i32_1803 : BitVec 32 := 0#32
  let v3166 : BitVec 1 := Scalar.cmpi .ne v3165 c0_i32_1803
  let v3167 : BitVec 1 := Scalar.andi v3164 v3166
  let v3153 : BitVec 32 := Scalar.divsi v3152 c128_i32_1798
  let c1_i32_1804 : BitVec 32 := 1#32
  let v3168 : BitVec 32 := Scalar.subi v3153 c1_i32_1804
  let v3169 : BitVec 32 := Scalar.select v3167 v3168 v3153
  let c128_i32_1805 : BitVec 32 := 128#32
  let v3170 : BitVec 32 := Scalar.muli v3169 c128_i32_1805
  v3170
def k1_mult92 (i : grid1.Coords) : BitVec 32 :=
  let c2040_i32_1817 : BitVec 32 := 2040#32
  let c1024_i32_1816 : BitVec 32 := 1024#32
  let arg1 : BitVec 32 := BitVec.ofNat 32 (i 1).val
  let v3185 : BitVec 32 := Scalar.muli c1024_i32_1816 arg1
  let v3186 : BitVec 32 := Scalar.subi c2040_i32_1817 v3185
  let c728_i32 : BitVec 32 := 728#32
  let v3187 : BitVec 32 := Scalar.subi v3186 c728_i32
  let c0_i32_1819 : BitVec 32 := 0#32
  let v3189 : BitVec 1 := Scalar.cmpi .sgt v3187 c0_i32_1819
  let v3190 : BitVec 32 := Scalar.extui v3189
  let c0_i32_1820 : BitVec 32 := 0#32
  let v3191 : BitVec 1 := Scalar.cmpi .slt v3187 c0_i32_1820
  let v3192 : BitVec 32 := Scalar.extui v3191
  let v3193 : BitVec 32 := Scalar.subi v3190 v3192
  let c128_i32_1818 : BitVec 32 := 128#32
  let c0_i32_1821 : BitVec 32 := 0#32
  let v3194 : BitVec 1 := Scalar.cmpi .sgt c128_i32_1818 c0_i32_1821
  let v3195 : BitVec 32 := Scalar.extui v3194
  let c0_i32_1822 : BitVec 32 := 0#32
  let v3196 : BitVec 1 := Scalar.cmpi .slt c128_i32_1818 c0_i32_1822
  let v3197 : BitVec 32 := Scalar.extui v3196
  let v3198 : BitVec 32 := Scalar.subi v3195 v3197
  let v3199 : BitVec 1 := Scalar.cmpi .ne v3193 v3198
  let v3200 : BitVec 32 := Scalar.remsi v3187 c128_i32_1818
  let c0_i32_1823 : BitVec 32 := 0#32
  let v3201 : BitVec 1 := Scalar.cmpi .ne v3200 c0_i32_1823
  let v3202 : BitVec 1 := Scalar.andi v3199 v3201
  let v3188 : BitVec 32 := Scalar.divsi v3187 c128_i32_1818
  let c1_i32_1824 : BitVec 32 := 1#32
  let v3203 : BitVec 32 := Scalar.subi v3188 c1_i32_1824
  let v3204 : BitVec 32 := Scalar.select v3202 v3203 v3188
  let c128_i32_1825 : BitVec 32 := 128#32
  let v3205 : BitVec 32 := Scalar.muli v3204 c128_i32_1825
  v3205
def k1_mult93 (i : grid1.Coords) : BitVec 32 :=
  let c2040_i32_1837 : BitVec 32 := 2040#32
  let c1024_i32_1836 : BitVec 32 := 1024#32
  let arg1 : BitVec 32 := BitVec.ofNat 32 (i 1).val
  let v3220 : BitVec 32 := Scalar.muli c1024_i32_1836 arg1
  let v3221 : BitVec 32 := Scalar.subi c2040_i32_1837 v3220
  let c736_i32 : BitVec 32 := 736#32
  let v3222 : BitVec 32 := Scalar.subi v3221 c736_i32
  let c0_i32_1839 : BitVec 32 := 0#32
  let v3224 : BitVec 1 := Scalar.cmpi .sgt v3222 c0_i32_1839
  let v3225 : BitVec 32 := Scalar.extui v3224
  let c0_i32_1840 : BitVec 32 := 0#32
  let v3226 : BitVec 1 := Scalar.cmpi .slt v3222 c0_i32_1840
  let v3227 : BitVec 32 := Scalar.extui v3226
  let v3228 : BitVec 32 := Scalar.subi v3225 v3227
  let c128_i32_1838 : BitVec 32 := 128#32
  let c0_i32_1841 : BitVec 32 := 0#32
  let v3229 : BitVec 1 := Scalar.cmpi .sgt c128_i32_1838 c0_i32_1841
  let v3230 : BitVec 32 := Scalar.extui v3229
  let c0_i32_1842 : BitVec 32 := 0#32
  let v3231 : BitVec 1 := Scalar.cmpi .slt c128_i32_1838 c0_i32_1842
  let v3232 : BitVec 32 := Scalar.extui v3231
  let v3233 : BitVec 32 := Scalar.subi v3230 v3232
  let v3234 : BitVec 1 := Scalar.cmpi .ne v3228 v3233
  let v3235 : BitVec 32 := Scalar.remsi v3222 c128_i32_1838
  let c0_i32_1843 : BitVec 32 := 0#32
  let v3236 : BitVec 1 := Scalar.cmpi .ne v3235 c0_i32_1843
  let v3237 : BitVec 1 := Scalar.andi v3234 v3236
  let v3223 : BitVec 32 := Scalar.divsi v3222 c128_i32_1838
  let c1_i32_1844 : BitVec 32 := 1#32
  let v3238 : BitVec 32 := Scalar.subi v3223 c1_i32_1844
  let v3239 : BitVec 32 := Scalar.select v3237 v3238 v3223
  let c128_i32_1845 : BitVec 32 := 128#32
  let v3240 : BitVec 32 := Scalar.muli v3239 c128_i32_1845
  v3240
def k1_mult94 (i : grid1.Coords) : BitVec 32 :=
  let c2040_i32_1857 : BitVec 32 := 2040#32
  let c1024_i32_1856 : BitVec 32 := 1024#32
  let arg1 : BitVec 32 := BitVec.ofNat 32 (i 1).val
  let v3255 : BitVec 32 := Scalar.muli c1024_i32_1856 arg1
  let v3256 : BitVec 32 := Scalar.subi c2040_i32_1857 v3255
  let c744_i32 : BitVec 32 := 744#32
  let v3257 : BitVec 32 := Scalar.subi v3256 c744_i32
  let c0_i32_1859 : BitVec 32 := 0#32
  let v3259 : BitVec 1 := Scalar.cmpi .sgt v3257 c0_i32_1859
  let v3260 : BitVec 32 := Scalar.extui v3259
  let c0_i32_1860 : BitVec 32 := 0#32
  let v3261 : BitVec 1 := Scalar.cmpi .slt v3257 c0_i32_1860
  let v3262 : BitVec 32 := Scalar.extui v3261
  let v3263 : BitVec 32 := Scalar.subi v3260 v3262
  let c128_i32_1858 : BitVec 32 := 128#32
  let c0_i32_1861 : BitVec 32 := 0#32
  let v3264 : BitVec 1 := Scalar.cmpi .sgt c128_i32_1858 c0_i32_1861
  let v3265 : BitVec 32 := Scalar.extui v3264
  let c0_i32_1862 : BitVec 32 := 0#32
  let v3266 : BitVec 1 := Scalar.cmpi .slt c128_i32_1858 c0_i32_1862
  let v3267 : BitVec 32 := Scalar.extui v3266
  let v3268 : BitVec 32 := Scalar.subi v3265 v3267
  let v3269 : BitVec 1 := Scalar.cmpi .ne v3263 v3268
  let v3270 : BitVec 32 := Scalar.remsi v3257 c128_i32_1858
  let c0_i32_1863 : BitVec 32 := 0#32
  let v3271 : BitVec 1 := Scalar.cmpi .ne v3270 c0_i32_1863
  let v3272 : BitVec 1 := Scalar.andi v3269 v3271
  let v3258 : BitVec 32 := Scalar.divsi v3257 c128_i32_1858
  let c1_i32_1864 : BitVec 32 := 1#32
  let v3273 : BitVec 32 := Scalar.subi v3258 c1_i32_1864
  let v3274 : BitVec 32 := Scalar.select v3272 v3273 v3258
  let c128_i32_1865 : BitVec 32 := 128#32
  let v3275 : BitVec 32 := Scalar.muli v3274 c128_i32_1865
  v3275
def k1_mult95 (i : grid1.Coords) : BitVec 32 :=
  let c2040_i32_1877 : BitVec 32 := 2040#32
  let c1024_i32_1876 : BitVec 32 := 1024#32
  let arg1 : BitVec 32 := BitVec.ofNat 32 (i 1).val
  let v3290 : BitVec 32 := Scalar.muli c1024_i32_1876 arg1
  let v3291 : BitVec 32 := Scalar.subi c2040_i32_1877 v3290
  let c752_i32 : BitVec 32 := 752#32
  let v3292 : BitVec 32 := Scalar.subi v3291 c752_i32
  let c0_i32_1879 : BitVec 32 := 0#32
  let v3294 : BitVec 1 := Scalar.cmpi .sgt v3292 c0_i32_1879
  let v3295 : BitVec 32 := Scalar.extui v3294
  let c0_i32_1880 : BitVec 32 := 0#32
  let v3296 : BitVec 1 := Scalar.cmpi .slt v3292 c0_i32_1880
  let v3297 : BitVec 32 := Scalar.extui v3296
  let v3298 : BitVec 32 := Scalar.subi v3295 v3297
  let c128_i32_1878 : BitVec 32 := 128#32
  let c0_i32_1881 : BitVec 32 := 0#32
  let v3299 : BitVec 1 := Scalar.cmpi .sgt c128_i32_1878 c0_i32_1881
  let v3300 : BitVec 32 := Scalar.extui v3299
  let c0_i32_1882 : BitVec 32 := 0#32
  let v3301 : BitVec 1 := Scalar.cmpi .slt c128_i32_1878 c0_i32_1882
  let v3302 : BitVec 32 := Scalar.extui v3301
  let v3303 : BitVec 32 := Scalar.subi v3300 v3302
  let v3304 : BitVec 1 := Scalar.cmpi .ne v3298 v3303
  let v3305 : BitVec 32 := Scalar.remsi v3292 c128_i32_1878
  let c0_i32_1883 : BitVec 32 := 0#32
  let v3306 : BitVec 1 := Scalar.cmpi .ne v3305 c0_i32_1883
  let v3307 : BitVec 1 := Scalar.andi v3304 v3306
  let v3293 : BitVec 32 := Scalar.divsi v3292 c128_i32_1878
  let c1_i32_1884 : BitVec 32 := 1#32
  let v3308 : BitVec 32 := Scalar.subi v3293 c1_i32_1884
  let v3309 : BitVec 32 := Scalar.select v3307 v3308 v3293
  let c128_i32_1885 : BitVec 32 := 128#32
  let v3310 : BitVec 32 := Scalar.muli v3309 c128_i32_1885
  v3310
def k1_mult96 (i : grid1.Coords) : BitVec 32 :=
  let c2040_i32_1897 : BitVec 32 := 2040#32
  let c1024_i32_1896 : BitVec 32 := 1024#32
  let arg1 : BitVec 32 := BitVec.ofNat 32 (i 1).val
  let v3325 : BitVec 32 := Scalar.muli c1024_i32_1896 arg1
  let v3326 : BitVec 32 := Scalar.subi c2040_i32_1897 v3325
  let c760_i32 : BitVec 32 := 760#32
  let v3327 : BitVec 32 := Scalar.subi v3326 c760_i32
  let c0_i32_1899 : BitVec 32 := 0#32
  let v3329 : BitVec 1 := Scalar.cmpi .sgt v3327 c0_i32_1899
  let v3330 : BitVec 32 := Scalar.extui v3329
  let c0_i32_1900 : BitVec 32 := 0#32
  let v3331 : BitVec 1 := Scalar.cmpi .slt v3327 c0_i32_1900
  let v3332 : BitVec 32 := Scalar.extui v3331
  let v3333 : BitVec 32 := Scalar.subi v3330 v3332
  let c128_i32_1898 : BitVec 32 := 128#32
  let c0_i32_1901 : BitVec 32 := 0#32
  let v3334 : BitVec 1 := Scalar.cmpi .sgt c128_i32_1898 c0_i32_1901
  let v3335 : BitVec 32 := Scalar.extui v3334
  let c0_i32_1902 : BitVec 32 := 0#32
  let v3336 : BitVec 1 := Scalar.cmpi .slt c128_i32_1898 c0_i32_1902
  let v3337 : BitVec 32 := Scalar.extui v3336
  let v3338 : BitVec 32 := Scalar.subi v3335 v3337
  let v3339 : BitVec 1 := Scalar.cmpi .ne v3333 v3338
  let v3340 : BitVec 32 := Scalar.remsi v3327 c128_i32_1898
  let c0_i32_1903 : BitVec 32 := 0#32
  let v3341 : BitVec 1 := Scalar.cmpi .ne v3340 c0_i32_1903
  let v3342 : BitVec 1 := Scalar.andi v3339 v3341
  let v3328 : BitVec 32 := Scalar.divsi v3327 c128_i32_1898
  let c1_i32_1904 : BitVec 32 := 1#32
  let v3343 : BitVec 32 := Scalar.subi v3328 c1_i32_1904
  let v3344 : BitVec 32 := Scalar.select v3342 v3343 v3328
  let c128_i32_1905 : BitVec 32 := 128#32
  let v3345 : BitVec 32 := Scalar.muli v3344 c128_i32_1905
  v3345
def k1_mult97 (i : grid1.Coords) : BitVec 32 :=
  let c2040_i32_1917 : BitVec 32 := 2040#32
  let c1024_i32_1916 : BitVec 32 := 1024#32
  let arg1 : BitVec 32 := BitVec.ofNat 32 (i 1).val
  let v3360 : BitVec 32 := Scalar.muli c1024_i32_1916 arg1
  let v3361 : BitVec 32 := Scalar.subi c2040_i32_1917 v3360
  let c768_i32 : BitVec 32 := 768#32
  let v3362 : BitVec 32 := Scalar.subi v3361 c768_i32
  let c0_i32_1919 : BitVec 32 := 0#32
  let v3364 : BitVec 1 := Scalar.cmpi .sgt v3362 c0_i32_1919
  let v3365 : BitVec 32 := Scalar.extui v3364
  let c0_i32_1920 : BitVec 32 := 0#32
  let v3366 : BitVec 1 := Scalar.cmpi .slt v3362 c0_i32_1920
  let v3367 : BitVec 32 := Scalar.extui v3366
  let v3368 : BitVec 32 := Scalar.subi v3365 v3367
  let c128_i32_1918 : BitVec 32 := 128#32
  let c0_i32_1921 : BitVec 32 := 0#32
  let v3369 : BitVec 1 := Scalar.cmpi .sgt c128_i32_1918 c0_i32_1921
  let v3370 : BitVec 32 := Scalar.extui v3369
  let c0_i32_1922 : BitVec 32 := 0#32
  let v3371 : BitVec 1 := Scalar.cmpi .slt c128_i32_1918 c0_i32_1922
  let v3372 : BitVec 32 := Scalar.extui v3371
  let v3373 : BitVec 32 := Scalar.subi v3370 v3372
  let v3374 : BitVec 1 := Scalar.cmpi .ne v3368 v3373
  let v3375 : BitVec 32 := Scalar.remsi v3362 c128_i32_1918
  let c0_i32_1923 : BitVec 32 := 0#32
  let v3376 : BitVec 1 := Scalar.cmpi .ne v3375 c0_i32_1923
  let v3377 : BitVec 1 := Scalar.andi v3374 v3376
  let v3363 : BitVec 32 := Scalar.divsi v3362 c128_i32_1918
  let c1_i32_1924 : BitVec 32 := 1#32
  let v3378 : BitVec 32 := Scalar.subi v3363 c1_i32_1924
  let v3379 : BitVec 32 := Scalar.select v3377 v3378 v3363
  let c128_i32_1925 : BitVec 32 := 128#32
  let v3380 : BitVec 32 := Scalar.muli v3379 c128_i32_1925
  v3380
def k1_mult98 (i : grid1.Coords) : BitVec 32 :=
  let c2040_i32_1937 : BitVec 32 := 2040#32
  let c1024_i32_1936 : BitVec 32 := 1024#32
  let arg1 : BitVec 32 := BitVec.ofNat 32 (i 1).val
  let v3395 : BitVec 32 := Scalar.muli c1024_i32_1936 arg1
  let v3396 : BitVec 32 := Scalar.subi c2040_i32_1937 v3395
  let c776_i32 : BitVec 32 := 776#32
  let v3397 : BitVec 32 := Scalar.subi v3396 c776_i32
  let c0_i32_1939 : BitVec 32 := 0#32
  let v3399 : BitVec 1 := Scalar.cmpi .sgt v3397 c0_i32_1939
  let v3400 : BitVec 32 := Scalar.extui v3399
  let c0_i32_1940 : BitVec 32 := 0#32
  let v3401 : BitVec 1 := Scalar.cmpi .slt v3397 c0_i32_1940
  let v3402 : BitVec 32 := Scalar.extui v3401
  let v3403 : BitVec 32 := Scalar.subi v3400 v3402
  let c128_i32_1938 : BitVec 32 := 128#32
  let c0_i32_1941 : BitVec 32 := 0#32
  let v3404 : BitVec 1 := Scalar.cmpi .sgt c128_i32_1938 c0_i32_1941
  let v3405 : BitVec 32 := Scalar.extui v3404
  let c0_i32_1942 : BitVec 32 := 0#32
  let v3406 : BitVec 1 := Scalar.cmpi .slt c128_i32_1938 c0_i32_1942
  let v3407 : BitVec 32 := Scalar.extui v3406
  let v3408 : BitVec 32 := Scalar.subi v3405 v3407
  let v3409 : BitVec 1 := Scalar.cmpi .ne v3403 v3408
  let v3410 : BitVec 32 := Scalar.remsi v3397 c128_i32_1938
  let c0_i32_1943 : BitVec 32 := 0#32
  let v3411 : BitVec 1 := Scalar.cmpi .ne v3410 c0_i32_1943
  let v3412 : BitVec 1 := Scalar.andi v3409 v3411
  let v3398 : BitVec 32 := Scalar.divsi v3397 c128_i32_1938
  let c1_i32_1944 : BitVec 32 := 1#32
  let v3413 : BitVec 32 := Scalar.subi v3398 c1_i32_1944
  let v3414 : BitVec 32 := Scalar.select v3412 v3413 v3398
  let c128_i32_1945 : BitVec 32 := 128#32
  let v3415 : BitVec 32 := Scalar.muli v3414 c128_i32_1945
  v3415
def k1_mult99 (i : grid1.Coords) : BitVec 32 :=
  let c2040_i32_1957 : BitVec 32 := 2040#32
  let c1024_i32_1956 : BitVec 32 := 1024#32
  let arg1 : BitVec 32 := BitVec.ofNat 32 (i 1).val
  let v3430 : BitVec 32 := Scalar.muli c1024_i32_1956 arg1
  let v3431 : BitVec 32 := Scalar.subi c2040_i32_1957 v3430
  let c784_i32 : BitVec 32 := 784#32
  let v3432 : BitVec 32 := Scalar.subi v3431 c784_i32
  let c0_i32_1959 : BitVec 32 := 0#32
  let v3434 : BitVec 1 := Scalar.cmpi .sgt v3432 c0_i32_1959
  let v3435 : BitVec 32 := Scalar.extui v3434
  let c0_i32_1960 : BitVec 32 := 0#32
  let v3436 : BitVec 1 := Scalar.cmpi .slt v3432 c0_i32_1960
  let v3437 : BitVec 32 := Scalar.extui v3436
  let v3438 : BitVec 32 := Scalar.subi v3435 v3437
  let c128_i32_1958 : BitVec 32 := 128#32
  let c0_i32_1961 : BitVec 32 := 0#32
  let v3439 : BitVec 1 := Scalar.cmpi .sgt c128_i32_1958 c0_i32_1961
  let v3440 : BitVec 32 := Scalar.extui v3439
  let c0_i32_1962 : BitVec 32 := 0#32
  let v3441 : BitVec 1 := Scalar.cmpi .slt c128_i32_1958 c0_i32_1962
  let v3442 : BitVec 32 := Scalar.extui v3441
  let v3443 : BitVec 32 := Scalar.subi v3440 v3442
  let v3444 : BitVec 1 := Scalar.cmpi .ne v3438 v3443
  let v3445 : BitVec 32 := Scalar.remsi v3432 c128_i32_1958
  let c0_i32_1963 : BitVec 32 := 0#32
  let v3446 : BitVec 1 := Scalar.cmpi .ne v3445 c0_i32_1963
  let v3447 : BitVec 1 := Scalar.andi v3444 v3446
  let v3433 : BitVec 32 := Scalar.divsi v3432 c128_i32_1958
  let c1_i32_1964 : BitVec 32 := 1#32
  let v3448 : BitVec 32 := Scalar.subi v3433 c1_i32_1964
  let v3449 : BitVec 32 := Scalar.select v3447 v3448 v3433
  let c128_i32_1965 : BitVec 32 := 128#32
  let v3450 : BitVec 32 := Scalar.muli v3449 c128_i32_1965
  v3450
def k1_mult100 (i : grid1.Coords) : BitVec 32 :=
  let c2040_i32_1977 : BitVec 32 := 2040#32
  let c1024_i32_1976 : BitVec 32 := 1024#32
  let arg1 : BitVec 32 := BitVec.ofNat 32 (i 1).val
  let v3465 : BitVec 32 := Scalar.muli c1024_i32_1976 arg1
  let v3466 : BitVec 32 := Scalar.subi c2040_i32_1977 v3465
  let c792_i32 : BitVec 32 := 792#32
  let v3467 : BitVec 32 := Scalar.subi v3466 c792_i32
  let c0_i32_1979 : BitVec 32 := 0#32
  let v3469 : BitVec 1 := Scalar.cmpi .sgt v3467 c0_i32_1979
  let v3470 : BitVec 32 := Scalar.extui v3469
  let c0_i32_1980 : BitVec 32 := 0#32
  let v3471 : BitVec 1 := Scalar.cmpi .slt v3467 c0_i32_1980
  let v3472 : BitVec 32 := Scalar.extui v3471
  let v3473 : BitVec 32 := Scalar.subi v3470 v3472
  let c128_i32_1978 : BitVec 32 := 128#32
  let c0_i32_1981 : BitVec 32 := 0#32
  let v3474 : BitVec 1 := Scalar.cmpi .sgt c128_i32_1978 c0_i32_1981
  let v3475 : BitVec 32 := Scalar.extui v3474
  let c0_i32_1982 : BitVec 32 := 0#32
  let v3476 : BitVec 1 := Scalar.cmpi .slt c128_i32_1978 c0_i32_1982
  let v3477 : BitVec 32 := Scalar.extui v3476
  let v3478 : BitVec 32 := Scalar.subi v3475 v3477
  let v3479 : BitVec 1 := Scalar.cmpi .ne v3473 v3478
  let v3480 : BitVec 32 := Scalar.remsi v3467 c128_i32_1978
  let c0_i32_1983 : BitVec 32 := 0#32
  let v3481 : BitVec 1 := Scalar.cmpi .ne v3480 c0_i32_1983
  let v3482 : BitVec 1 := Scalar.andi v3479 v3481
  let v3468 : BitVec 32 := Scalar.divsi v3467 c128_i32_1978
  let c1_i32_1984 : BitVec 32 := 1#32
  let v3483 : BitVec 32 := Scalar.subi v3468 c1_i32_1984
  let v3484 : BitVec 32 := Scalar.select v3482 v3483 v3468
  let c128_i32_1985 : BitVec 32 := 128#32
  let v3485 : BitVec 32 := Scalar.muli v3484 c128_i32_1985
  v3485
def k1_mult101 (i : grid1.Coords) : BitVec 32 :=
  let c2040_i32_1997 : BitVec 32 := 2040#32
  let c1024_i32_1996 : BitVec 32 := 1024#32
  let arg1 : BitVec 32 := BitVec.ofNat 32 (i 1).val
  let v3500 : BitVec 32 := Scalar.muli c1024_i32_1996 arg1
  let v3501 : BitVec 32 := Scalar.subi c2040_i32_1997 v3500
  let c800_i32 : BitVec 32 := 800#32
  let v3502 : BitVec 32 := Scalar.subi v3501 c800_i32
  let c0_i32_1999 : BitVec 32 := 0#32
  let v3504 : BitVec 1 := Scalar.cmpi .sgt v3502 c0_i32_1999
  let v3505 : BitVec 32 := Scalar.extui v3504
  let c0_i32_2000 : BitVec 32 := 0#32
  let v3506 : BitVec 1 := Scalar.cmpi .slt v3502 c0_i32_2000
  let v3507 : BitVec 32 := Scalar.extui v3506
  let v3508 : BitVec 32 := Scalar.subi v3505 v3507
  let c128_i32_1998 : BitVec 32 := 128#32
  let c0_i32_2001 : BitVec 32 := 0#32
  let v3509 : BitVec 1 := Scalar.cmpi .sgt c128_i32_1998 c0_i32_2001
  let v3510 : BitVec 32 := Scalar.extui v3509
  let c0_i32_2002 : BitVec 32 := 0#32
  let v3511 : BitVec 1 := Scalar.cmpi .slt c128_i32_1998 c0_i32_2002
  let v3512 : BitVec 32 := Scalar.extui v3511
  let v3513 : BitVec 32 := Scalar.subi v3510 v3512
  let v3514 : BitVec 1 := Scalar.cmpi .ne v3508 v3513
  let v3515 : BitVec 32 := Scalar.remsi v3502 c128_i32_1998
  let c0_i32_2003 : BitVec 32 := 0#32
  let v3516 : BitVec 1 := Scalar.cmpi .ne v3515 c0_i32_2003
  let v3517 : BitVec 1 := Scalar.andi v3514 v3516
  let v3503 : BitVec 32 := Scalar.divsi v3502 c128_i32_1998
  let c1_i32_2004 : BitVec 32 := 1#32
  let v3518 : BitVec 32 := Scalar.subi v3503 c1_i32_2004
  let v3519 : BitVec 32 := Scalar.select v3517 v3518 v3503
  let c128_i32_2005 : BitVec 32 := 128#32
  let v3520 : BitVec 32 := Scalar.muli v3519 c128_i32_2005
  v3520
def k1_mult102 (i : grid1.Coords) : BitVec 32 :=
  let c2040_i32_2017 : BitVec 32 := 2040#32
  let c1024_i32_2016 : BitVec 32 := 1024#32
  let arg1 : BitVec 32 := BitVec.ofNat 32 (i 1).val
  let v3535 : BitVec 32 := Scalar.muli c1024_i32_2016 arg1
  let v3536 : BitVec 32 := Scalar.subi c2040_i32_2017 v3535
  let c808_i32 : BitVec 32 := 808#32
  let v3537 : BitVec 32 := Scalar.subi v3536 c808_i32
  let c0_i32_2019 : BitVec 32 := 0#32
  let v3539 : BitVec 1 := Scalar.cmpi .sgt v3537 c0_i32_2019
  let v3540 : BitVec 32 := Scalar.extui v3539
  let c0_i32_2020 : BitVec 32 := 0#32
  let v3541 : BitVec 1 := Scalar.cmpi .slt v3537 c0_i32_2020
  let v3542 : BitVec 32 := Scalar.extui v3541
  let v3543 : BitVec 32 := Scalar.subi v3540 v3542
  let c128_i32_2018 : BitVec 32 := 128#32
  let c0_i32_2021 : BitVec 32 := 0#32
  let v3544 : BitVec 1 := Scalar.cmpi .sgt c128_i32_2018 c0_i32_2021
  let v3545 : BitVec 32 := Scalar.extui v3544
  let c0_i32_2022 : BitVec 32 := 0#32
  let v3546 : BitVec 1 := Scalar.cmpi .slt c128_i32_2018 c0_i32_2022
  let v3547 : BitVec 32 := Scalar.extui v3546
  let v3548 : BitVec 32 := Scalar.subi v3545 v3547
  let v3549 : BitVec 1 := Scalar.cmpi .ne v3543 v3548
  let v3550 : BitVec 32 := Scalar.remsi v3537 c128_i32_2018
  let c0_i32_2023 : BitVec 32 := 0#32
  let v3551 : BitVec 1 := Scalar.cmpi .ne v3550 c0_i32_2023
  let v3552 : BitVec 1 := Scalar.andi v3549 v3551
  let v3538 : BitVec 32 := Scalar.divsi v3537 c128_i32_2018
  let c1_i32_2024 : BitVec 32 := 1#32
  let v3553 : BitVec 32 := Scalar.subi v3538 c1_i32_2024
  let v3554 : BitVec 32 := Scalar.select v3552 v3553 v3538
  let c128_i32_2025 : BitVec 32 := 128#32
  let v3555 : BitVec 32 := Scalar.muli v3554 c128_i32_2025
  v3555
def k1_mult103 (i : grid1.Coords) : BitVec 32 :=
  let c2040_i32_2037 : BitVec 32 := 2040#32
  let c1024_i32_2036 : BitVec 32 := 1024#32
  let arg1 : BitVec 32 := BitVec.ofNat 32 (i 1).val
  let v3570 : BitVec 32 := Scalar.muli c1024_i32_2036 arg1
  let v3571 : BitVec 32 := Scalar.subi c2040_i32_2037 v3570
  let c816_i32 : BitVec 32 := 816#32
  let v3572 : BitVec 32 := Scalar.subi v3571 c816_i32
  let c0_i32_2039 : BitVec 32 := 0#32
  let v3574 : BitVec 1 := Scalar.cmpi .sgt v3572 c0_i32_2039
  let v3575 : BitVec 32 := Scalar.extui v3574
  let c0_i32_2040 : BitVec 32 := 0#32
  let v3576 : BitVec 1 := Scalar.cmpi .slt v3572 c0_i32_2040
  let v3577 : BitVec 32 := Scalar.extui v3576
  let v3578 : BitVec 32 := Scalar.subi v3575 v3577
  let c128_i32_2038 : BitVec 32 := 128#32
  let c0_i32_2041 : BitVec 32 := 0#32
  let v3579 : BitVec 1 := Scalar.cmpi .sgt c128_i32_2038 c0_i32_2041
  let v3580 : BitVec 32 := Scalar.extui v3579
  let c0_i32_2042 : BitVec 32 := 0#32
  let v3581 : BitVec 1 := Scalar.cmpi .slt c128_i32_2038 c0_i32_2042
  let v3582 : BitVec 32 := Scalar.extui v3581
  let v3583 : BitVec 32 := Scalar.subi v3580 v3582
  let v3584 : BitVec 1 := Scalar.cmpi .ne v3578 v3583
  let v3585 : BitVec 32 := Scalar.remsi v3572 c128_i32_2038
  let c0_i32_2043 : BitVec 32 := 0#32
  let v3586 : BitVec 1 := Scalar.cmpi .ne v3585 c0_i32_2043
  let v3587 : BitVec 1 := Scalar.andi v3584 v3586
  let v3573 : BitVec 32 := Scalar.divsi v3572 c128_i32_2038
  let c1_i32_2044 : BitVec 32 := 1#32
  let v3588 : BitVec 32 := Scalar.subi v3573 c1_i32_2044
  let v3589 : BitVec 32 := Scalar.select v3587 v3588 v3573
  let c128_i32_2045 : BitVec 32 := 128#32
  let v3590 : BitVec 32 := Scalar.muli v3589 c128_i32_2045
  v3590
def k1_mult104 (i : grid1.Coords) : BitVec 32 :=
  let c2040_i32_2057 : BitVec 32 := 2040#32
  let c1024_i32_2056 : BitVec 32 := 1024#32
  let arg1 : BitVec 32 := BitVec.ofNat 32 (i 1).val
  let v3605 : BitVec 32 := Scalar.muli c1024_i32_2056 arg1
  let v3606 : BitVec 32 := Scalar.subi c2040_i32_2057 v3605
  let c824_i32 : BitVec 32 := 824#32
  let v3607 : BitVec 32 := Scalar.subi v3606 c824_i32
  let c0_i32_2059 : BitVec 32 := 0#32
  let v3609 : BitVec 1 := Scalar.cmpi .sgt v3607 c0_i32_2059
  let v3610 : BitVec 32 := Scalar.extui v3609
  let c0_i32_2060 : BitVec 32 := 0#32
  let v3611 : BitVec 1 := Scalar.cmpi .slt v3607 c0_i32_2060
  let v3612 : BitVec 32 := Scalar.extui v3611
  let v3613 : BitVec 32 := Scalar.subi v3610 v3612
  let c128_i32_2058 : BitVec 32 := 128#32
  let c0_i32_2061 : BitVec 32 := 0#32
  let v3614 : BitVec 1 := Scalar.cmpi .sgt c128_i32_2058 c0_i32_2061
  let v3615 : BitVec 32 := Scalar.extui v3614
  let c0_i32_2062 : BitVec 32 := 0#32
  let v3616 : BitVec 1 := Scalar.cmpi .slt c128_i32_2058 c0_i32_2062
  let v3617 : BitVec 32 := Scalar.extui v3616
  let v3618 : BitVec 32 := Scalar.subi v3615 v3617
  let v3619 : BitVec 1 := Scalar.cmpi .ne v3613 v3618
  let v3620 : BitVec 32 := Scalar.remsi v3607 c128_i32_2058
  let c0_i32_2063 : BitVec 32 := 0#32
  let v3621 : BitVec 1 := Scalar.cmpi .ne v3620 c0_i32_2063
  let v3622 : BitVec 1 := Scalar.andi v3619 v3621
  let v3608 : BitVec 32 := Scalar.divsi v3607 c128_i32_2058
  let c1_i32_2064 : BitVec 32 := 1#32
  let v3623 : BitVec 32 := Scalar.subi v3608 c1_i32_2064
  let v3624 : BitVec 32 := Scalar.select v3622 v3623 v3608
  let c128_i32_2065 : BitVec 32 := 128#32
  let v3625 : BitVec 32 := Scalar.muli v3624 c128_i32_2065
  v3625
def k1_mult105 (i : grid1.Coords) : BitVec 32 :=
  let c2040_i32_2077 : BitVec 32 := 2040#32
  let c1024_i32_2076 : BitVec 32 := 1024#32
  let arg1 : BitVec 32 := BitVec.ofNat 32 (i 1).val
  let v3640 : BitVec 32 := Scalar.muli c1024_i32_2076 arg1
  let v3641 : BitVec 32 := Scalar.subi c2040_i32_2077 v3640
  let c832_i32 : BitVec 32 := 832#32
  let v3642 : BitVec 32 := Scalar.subi v3641 c832_i32
  let c0_i32_2079 : BitVec 32 := 0#32
  let v3644 : BitVec 1 := Scalar.cmpi .sgt v3642 c0_i32_2079
  let v3645 : BitVec 32 := Scalar.extui v3644
  let c0_i32_2080 : BitVec 32 := 0#32
  let v3646 : BitVec 1 := Scalar.cmpi .slt v3642 c0_i32_2080
  let v3647 : BitVec 32 := Scalar.extui v3646
  let v3648 : BitVec 32 := Scalar.subi v3645 v3647
  let c128_i32_2078 : BitVec 32 := 128#32
  let c0_i32_2081 : BitVec 32 := 0#32
  let v3649 : BitVec 1 := Scalar.cmpi .sgt c128_i32_2078 c0_i32_2081
  let v3650 : BitVec 32 := Scalar.extui v3649
  let c0_i32_2082 : BitVec 32 := 0#32
  let v3651 : BitVec 1 := Scalar.cmpi .slt c128_i32_2078 c0_i32_2082
  let v3652 : BitVec 32 := Scalar.extui v3651
  let v3653 : BitVec 32 := Scalar.subi v3650 v3652
  let v3654 : BitVec 1 := Scalar.cmpi .ne v3648 v3653
  let v3655 : BitVec 32 := Scalar.remsi v3642 c128_i32_2078
  let c0_i32_2083 : BitVec 32 := 0#32
  let v3656 : BitVec 1 := Scalar.cmpi .ne v3655 c0_i32_2083
  let v3657 : BitVec 1 := Scalar.andi v3654 v3656
  let v3643 : BitVec 32 := Scalar.divsi v3642 c128_i32_2078
  let c1_i32_2084 : BitVec 32 := 1#32
  let v3658 : BitVec 32 := Scalar.subi v3643 c1_i32_2084
  let v3659 : BitVec 32 := Scalar.select v3657 v3658 v3643
  let c128_i32_2085 : BitVec 32 := 128#32
  let v3660 : BitVec 32 := Scalar.muli v3659 c128_i32_2085
  v3660
def k1_mult106 (i : grid1.Coords) : BitVec 32 :=
  let c2040_i32_2097 : BitVec 32 := 2040#32
  let c1024_i32_2096 : BitVec 32 := 1024#32
  let arg1 : BitVec 32 := BitVec.ofNat 32 (i 1).val
  let v3675 : BitVec 32 := Scalar.muli c1024_i32_2096 arg1
  let v3676 : BitVec 32 := Scalar.subi c2040_i32_2097 v3675
  let c840_i32 : BitVec 32 := 840#32
  let v3677 : BitVec 32 := Scalar.subi v3676 c840_i32
  let c0_i32_2099 : BitVec 32 := 0#32
  let v3679 : BitVec 1 := Scalar.cmpi .sgt v3677 c0_i32_2099
  let v3680 : BitVec 32 := Scalar.extui v3679
  let c0_i32_2100 : BitVec 32 := 0#32
  let v3681 : BitVec 1 := Scalar.cmpi .slt v3677 c0_i32_2100
  let v3682 : BitVec 32 := Scalar.extui v3681
  let v3683 : BitVec 32 := Scalar.subi v3680 v3682
  let c128_i32_2098 : BitVec 32 := 128#32
  let c0_i32_2101 : BitVec 32 := 0#32
  let v3684 : BitVec 1 := Scalar.cmpi .sgt c128_i32_2098 c0_i32_2101
  let v3685 : BitVec 32 := Scalar.extui v3684
  let c0_i32_2102 : BitVec 32 := 0#32
  let v3686 : BitVec 1 := Scalar.cmpi .slt c128_i32_2098 c0_i32_2102
  let v3687 : BitVec 32 := Scalar.extui v3686
  let v3688 : BitVec 32 := Scalar.subi v3685 v3687
  let v3689 : BitVec 1 := Scalar.cmpi .ne v3683 v3688
  let v3690 : BitVec 32 := Scalar.remsi v3677 c128_i32_2098
  let c0_i32_2103 : BitVec 32 := 0#32
  let v3691 : BitVec 1 := Scalar.cmpi .ne v3690 c0_i32_2103
  let v3692 : BitVec 1 := Scalar.andi v3689 v3691
  let v3678 : BitVec 32 := Scalar.divsi v3677 c128_i32_2098
  let c1_i32_2104 : BitVec 32 := 1#32
  let v3693 : BitVec 32 := Scalar.subi v3678 c1_i32_2104
  let v3694 : BitVec 32 := Scalar.select v3692 v3693 v3678
  let c128_i32_2105 : BitVec 32 := 128#32
  let v3695 : BitVec 32 := Scalar.muli v3694 c128_i32_2105
  v3695
def k1_mult107 (i : grid1.Coords) : BitVec 32 :=
  let c2040_i32_2117 : BitVec 32 := 2040#32
  let c1024_i32_2116 : BitVec 32 := 1024#32
  let arg1 : BitVec 32 := BitVec.ofNat 32 (i 1).val
  let v3710 : BitVec 32 := Scalar.muli c1024_i32_2116 arg1
  let v3711 : BitVec 32 := Scalar.subi c2040_i32_2117 v3710
  let c848_i32 : BitVec 32 := 848#32
  let v3712 : BitVec 32 := Scalar.subi v3711 c848_i32
  let c0_i32_2119 : BitVec 32 := 0#32
  let v3714 : BitVec 1 := Scalar.cmpi .sgt v3712 c0_i32_2119
  let v3715 : BitVec 32 := Scalar.extui v3714
  let c0_i32_2120 : BitVec 32 := 0#32
  let v3716 : BitVec 1 := Scalar.cmpi .slt v3712 c0_i32_2120
  let v3717 : BitVec 32 := Scalar.extui v3716
  let v3718 : BitVec 32 := Scalar.subi v3715 v3717
  let c128_i32_2118 : BitVec 32 := 128#32
  let c0_i32_2121 : BitVec 32 := 0#32
  let v3719 : BitVec 1 := Scalar.cmpi .sgt c128_i32_2118 c0_i32_2121
  let v3720 : BitVec 32 := Scalar.extui v3719
  let c0_i32_2122 : BitVec 32 := 0#32
  let v3721 : BitVec 1 := Scalar.cmpi .slt c128_i32_2118 c0_i32_2122
  let v3722 : BitVec 32 := Scalar.extui v3721
  let v3723 : BitVec 32 := Scalar.subi v3720 v3722
  let v3724 : BitVec 1 := Scalar.cmpi .ne v3718 v3723
  let v3725 : BitVec 32 := Scalar.remsi v3712 c128_i32_2118
  let c0_i32_2123 : BitVec 32 := 0#32
  let v3726 : BitVec 1 := Scalar.cmpi .ne v3725 c0_i32_2123
  let v3727 : BitVec 1 := Scalar.andi v3724 v3726
  let v3713 : BitVec 32 := Scalar.divsi v3712 c128_i32_2118
  let c1_i32_2124 : BitVec 32 := 1#32
  let v3728 : BitVec 32 := Scalar.subi v3713 c1_i32_2124
  let v3729 : BitVec 32 := Scalar.select v3727 v3728 v3713
  let c128_i32_2125 : BitVec 32 := 128#32
  let v3730 : BitVec 32 := Scalar.muli v3729 c128_i32_2125
  v3730
def k1_mult108 (i : grid1.Coords) : BitVec 32 :=
  let c2040_i32_2137 : BitVec 32 := 2040#32
  let c1024_i32_2136 : BitVec 32 := 1024#32
  let arg1 : BitVec 32 := BitVec.ofNat 32 (i 1).val
  let v3745 : BitVec 32 := Scalar.muli c1024_i32_2136 arg1
  let v3746 : BitVec 32 := Scalar.subi c2040_i32_2137 v3745
  let c856_i32 : BitVec 32 := 856#32
  let v3747 : BitVec 32 := Scalar.subi v3746 c856_i32
  let c0_i32_2139 : BitVec 32 := 0#32
  let v3749 : BitVec 1 := Scalar.cmpi .sgt v3747 c0_i32_2139
  let v3750 : BitVec 32 := Scalar.extui v3749
  let c0_i32_2140 : BitVec 32 := 0#32
  let v3751 : BitVec 1 := Scalar.cmpi .slt v3747 c0_i32_2140
  let v3752 : BitVec 32 := Scalar.extui v3751
  let v3753 : BitVec 32 := Scalar.subi v3750 v3752
  let c128_i32_2138 : BitVec 32 := 128#32
  let c0_i32_2141 : BitVec 32 := 0#32
  let v3754 : BitVec 1 := Scalar.cmpi .sgt c128_i32_2138 c0_i32_2141
  let v3755 : BitVec 32 := Scalar.extui v3754
  let c0_i32_2142 : BitVec 32 := 0#32
  let v3756 : BitVec 1 := Scalar.cmpi .slt c128_i32_2138 c0_i32_2142
  let v3757 : BitVec 32 := Scalar.extui v3756
  let v3758 : BitVec 32 := Scalar.subi v3755 v3757
  let v3759 : BitVec 1 := Scalar.cmpi .ne v3753 v3758
  let v3760 : BitVec 32 := Scalar.remsi v3747 c128_i32_2138
  let c0_i32_2143 : BitVec 32 := 0#32
  let v3761 : BitVec 1 := Scalar.cmpi .ne v3760 c0_i32_2143
  let v3762 : BitVec 1 := Scalar.andi v3759 v3761
  let v3748 : BitVec 32 := Scalar.divsi v3747 c128_i32_2138
  let c1_i32_2144 : BitVec 32 := 1#32
  let v3763 : BitVec 32 := Scalar.subi v3748 c1_i32_2144
  let v3764 : BitVec 32 := Scalar.select v3762 v3763 v3748
  let c128_i32_2145 : BitVec 32 := 128#32
  let v3765 : BitVec 32 := Scalar.muli v3764 c128_i32_2145
  v3765
def k1_mult109 (i : grid1.Coords) : BitVec 32 :=
  let c2040_i32_2157 : BitVec 32 := 2040#32
  let c1024_i32_2156 : BitVec 32 := 1024#32
  let arg1 : BitVec 32 := BitVec.ofNat 32 (i 1).val
  let v3780 : BitVec 32 := Scalar.muli c1024_i32_2156 arg1
  let v3781 : BitVec 32 := Scalar.subi c2040_i32_2157 v3780
  let c864_i32 : BitVec 32 := 864#32
  let v3782 : BitVec 32 := Scalar.subi v3781 c864_i32
  let c0_i32_2159 : BitVec 32 := 0#32
  let v3784 : BitVec 1 := Scalar.cmpi .sgt v3782 c0_i32_2159
  let v3785 : BitVec 32 := Scalar.extui v3784
  let c0_i32_2160 : BitVec 32 := 0#32
  let v3786 : BitVec 1 := Scalar.cmpi .slt v3782 c0_i32_2160
  let v3787 : BitVec 32 := Scalar.extui v3786
  let v3788 : BitVec 32 := Scalar.subi v3785 v3787
  let c128_i32_2158 : BitVec 32 := 128#32
  let c0_i32_2161 : BitVec 32 := 0#32
  let v3789 : BitVec 1 := Scalar.cmpi .sgt c128_i32_2158 c0_i32_2161
  let v3790 : BitVec 32 := Scalar.extui v3789
  let c0_i32_2162 : BitVec 32 := 0#32
  let v3791 : BitVec 1 := Scalar.cmpi .slt c128_i32_2158 c0_i32_2162
  let v3792 : BitVec 32 := Scalar.extui v3791
  let v3793 : BitVec 32 := Scalar.subi v3790 v3792
  let v3794 : BitVec 1 := Scalar.cmpi .ne v3788 v3793
  let v3795 : BitVec 32 := Scalar.remsi v3782 c128_i32_2158
  let c0_i32_2163 : BitVec 32 := 0#32
  let v3796 : BitVec 1 := Scalar.cmpi .ne v3795 c0_i32_2163
  let v3797 : BitVec 1 := Scalar.andi v3794 v3796
  let v3783 : BitVec 32 := Scalar.divsi v3782 c128_i32_2158
  let c1_i32_2164 : BitVec 32 := 1#32
  let v3798 : BitVec 32 := Scalar.subi v3783 c1_i32_2164
  let v3799 : BitVec 32 := Scalar.select v3797 v3798 v3783
  let c128_i32_2165 : BitVec 32 := 128#32
  let v3800 : BitVec 32 := Scalar.muli v3799 c128_i32_2165
  v3800
def k1_mult110 (i : grid1.Coords) : BitVec 32 :=
  let c2040_i32_2177 : BitVec 32 := 2040#32
  let c1024_i32_2176 : BitVec 32 := 1024#32
  let arg1 : BitVec 32 := BitVec.ofNat 32 (i 1).val
  let v3815 : BitVec 32 := Scalar.muli c1024_i32_2176 arg1
  let v3816 : BitVec 32 := Scalar.subi c2040_i32_2177 v3815
  let c872_i32 : BitVec 32 := 872#32
  let v3817 : BitVec 32 := Scalar.subi v3816 c872_i32
  let c0_i32_2179 : BitVec 32 := 0#32
  let v3819 : BitVec 1 := Scalar.cmpi .sgt v3817 c0_i32_2179
  let v3820 : BitVec 32 := Scalar.extui v3819
  let c0_i32_2180 : BitVec 32 := 0#32
  let v3821 : BitVec 1 := Scalar.cmpi .slt v3817 c0_i32_2180
  let v3822 : BitVec 32 := Scalar.extui v3821
  let v3823 : BitVec 32 := Scalar.subi v3820 v3822
  let c128_i32_2178 : BitVec 32 := 128#32
  let c0_i32_2181 : BitVec 32 := 0#32
  let v3824 : BitVec 1 := Scalar.cmpi .sgt c128_i32_2178 c0_i32_2181
  let v3825 : BitVec 32 := Scalar.extui v3824
  let c0_i32_2182 : BitVec 32 := 0#32
  let v3826 : BitVec 1 := Scalar.cmpi .slt c128_i32_2178 c0_i32_2182
  let v3827 : BitVec 32 := Scalar.extui v3826
  let v3828 : BitVec 32 := Scalar.subi v3825 v3827
  let v3829 : BitVec 1 := Scalar.cmpi .ne v3823 v3828
  let v3830 : BitVec 32 := Scalar.remsi v3817 c128_i32_2178
  let c0_i32_2183 : BitVec 32 := 0#32
  let v3831 : BitVec 1 := Scalar.cmpi .ne v3830 c0_i32_2183
  let v3832 : BitVec 1 := Scalar.andi v3829 v3831
  let v3818 : BitVec 32 := Scalar.divsi v3817 c128_i32_2178
  let c1_i32_2184 : BitVec 32 := 1#32
  let v3833 : BitVec 32 := Scalar.subi v3818 c1_i32_2184
  let v3834 : BitVec 32 := Scalar.select v3832 v3833 v3818
  let c128_i32_2185 : BitVec 32 := 128#32
  let v3835 : BitVec 32 := Scalar.muli v3834 c128_i32_2185
  v3835
def k1_mult111 (i : grid1.Coords) : BitVec 32 :=
  let c2040_i32_2197 : BitVec 32 := 2040#32
  let c1024_i32_2196 : BitVec 32 := 1024#32
  let arg1 : BitVec 32 := BitVec.ofNat 32 (i 1).val
  let v3850 : BitVec 32 := Scalar.muli c1024_i32_2196 arg1
  let v3851 : BitVec 32 := Scalar.subi c2040_i32_2197 v3850
  let c880_i32 : BitVec 32 := 880#32
  let v3852 : BitVec 32 := Scalar.subi v3851 c880_i32
  let c0_i32_2199 : BitVec 32 := 0#32
  let v3854 : BitVec 1 := Scalar.cmpi .sgt v3852 c0_i32_2199
  let v3855 : BitVec 32 := Scalar.extui v3854
  let c0_i32_2200 : BitVec 32 := 0#32
  let v3856 : BitVec 1 := Scalar.cmpi .slt v3852 c0_i32_2200
  let v3857 : BitVec 32 := Scalar.extui v3856
  let v3858 : BitVec 32 := Scalar.subi v3855 v3857
  let c128_i32_2198 : BitVec 32 := 128#32
  let c0_i32_2201 : BitVec 32 := 0#32
  let v3859 : BitVec 1 := Scalar.cmpi .sgt c128_i32_2198 c0_i32_2201
  let v3860 : BitVec 32 := Scalar.extui v3859
  let c0_i32_2202 : BitVec 32 := 0#32
  let v3861 : BitVec 1 := Scalar.cmpi .slt c128_i32_2198 c0_i32_2202
  let v3862 : BitVec 32 := Scalar.extui v3861
  let v3863 : BitVec 32 := Scalar.subi v3860 v3862
  let v3864 : BitVec 1 := Scalar.cmpi .ne v3858 v3863
  let v3865 : BitVec 32 := Scalar.remsi v3852 c128_i32_2198
  let c0_i32_2203 : BitVec 32 := 0#32
  let v3866 : BitVec 1 := Scalar.cmpi .ne v3865 c0_i32_2203
  let v3867 : BitVec 1 := Scalar.andi v3864 v3866
  let v3853 : BitVec 32 := Scalar.divsi v3852 c128_i32_2198
  let c1_i32_2204 : BitVec 32 := 1#32
  let v3868 : BitVec 32 := Scalar.subi v3853 c1_i32_2204
  let v3869 : BitVec 32 := Scalar.select v3867 v3868 v3853
  let c128_i32_2205 : BitVec 32 := 128#32
  let v3870 : BitVec 32 := Scalar.muli v3869 c128_i32_2205
  v3870
def k1_mult112 (i : grid1.Coords) : BitVec 32 :=
  let c2040_i32_2217 : BitVec 32 := 2040#32
  let c1024_i32_2216 : BitVec 32 := 1024#32
  let arg1 : BitVec 32 := BitVec.ofNat 32 (i 1).val
  let v3885 : BitVec 32 := Scalar.muli c1024_i32_2216 arg1
  let v3886 : BitVec 32 := Scalar.subi c2040_i32_2217 v3885
  let c888_i32 : BitVec 32 := 888#32
  let v3887 : BitVec 32 := Scalar.subi v3886 c888_i32
  let c0_i32_2219 : BitVec 32 := 0#32
  let v3889 : BitVec 1 := Scalar.cmpi .sgt v3887 c0_i32_2219
  let v3890 : BitVec 32 := Scalar.extui v3889
  let c0_i32_2220 : BitVec 32 := 0#32
  let v3891 : BitVec 1 := Scalar.cmpi .slt v3887 c0_i32_2220
  let v3892 : BitVec 32 := Scalar.extui v3891
  let v3893 : BitVec 32 := Scalar.subi v3890 v3892
  let c128_i32_2218 : BitVec 32 := 128#32
  let c0_i32_2221 : BitVec 32 := 0#32
  let v3894 : BitVec 1 := Scalar.cmpi .sgt c128_i32_2218 c0_i32_2221
  let v3895 : BitVec 32 := Scalar.extui v3894
  let c0_i32_2222 : BitVec 32 := 0#32
  let v3896 : BitVec 1 := Scalar.cmpi .slt c128_i32_2218 c0_i32_2222
  let v3897 : BitVec 32 := Scalar.extui v3896
  let v3898 : BitVec 32 := Scalar.subi v3895 v3897
  let v3899 : BitVec 1 := Scalar.cmpi .ne v3893 v3898
  let v3900 : BitVec 32 := Scalar.remsi v3887 c128_i32_2218
  let c0_i32_2223 : BitVec 32 := 0#32
  let v3901 : BitVec 1 := Scalar.cmpi .ne v3900 c0_i32_2223
  let v3902 : BitVec 1 := Scalar.andi v3899 v3901
  let v3888 : BitVec 32 := Scalar.divsi v3887 c128_i32_2218
  let c1_i32_2224 : BitVec 32 := 1#32
  let v3903 : BitVec 32 := Scalar.subi v3888 c1_i32_2224
  let v3904 : BitVec 32 := Scalar.select v3902 v3903 v3888
  let c128_i32_2225 : BitVec 32 := 128#32
  let v3905 : BitVec 32 := Scalar.muli v3904 c128_i32_2225
  v3905
def k1_mult113 (i : grid1.Coords) : BitVec 32 :=
  let c2040_i32_2237 : BitVec 32 := 2040#32
  let c1024_i32_2236 : BitVec 32 := 1024#32
  let arg1 : BitVec 32 := BitVec.ofNat 32 (i 1).val
  let v3920 : BitVec 32 := Scalar.muli c1024_i32_2236 arg1
  let v3921 : BitVec 32 := Scalar.subi c2040_i32_2237 v3920
  let c896_i32 : BitVec 32 := 896#32
  let v3922 : BitVec 32 := Scalar.subi v3921 c896_i32
  let c0_i32_2239 : BitVec 32 := 0#32
  let v3924 : BitVec 1 := Scalar.cmpi .sgt v3922 c0_i32_2239
  let v3925 : BitVec 32 := Scalar.extui v3924
  let c0_i32_2240 : BitVec 32 := 0#32
  let v3926 : BitVec 1 := Scalar.cmpi .slt v3922 c0_i32_2240
  let v3927 : BitVec 32 := Scalar.extui v3926
  let v3928 : BitVec 32 := Scalar.subi v3925 v3927
  let c128_i32_2238 : BitVec 32 := 128#32
  let c0_i32_2241 : BitVec 32 := 0#32
  let v3929 : BitVec 1 := Scalar.cmpi .sgt c128_i32_2238 c0_i32_2241
  let v3930 : BitVec 32 := Scalar.extui v3929
  let c0_i32_2242 : BitVec 32 := 0#32
  let v3931 : BitVec 1 := Scalar.cmpi .slt c128_i32_2238 c0_i32_2242
  let v3932 : BitVec 32 := Scalar.extui v3931
  let v3933 : BitVec 32 := Scalar.subi v3930 v3932
  let v3934 : BitVec 1 := Scalar.cmpi .ne v3928 v3933
  let v3935 : BitVec 32 := Scalar.remsi v3922 c128_i32_2238
  let c0_i32_2243 : BitVec 32 := 0#32
  let v3936 : BitVec 1 := Scalar.cmpi .ne v3935 c0_i32_2243
  let v3937 : BitVec 1 := Scalar.andi v3934 v3936
  let v3923 : BitVec 32 := Scalar.divsi v3922 c128_i32_2238
  let c1_i32_2244 : BitVec 32 := 1#32
  let v3938 : BitVec 32 := Scalar.subi v3923 c1_i32_2244
  let v3939 : BitVec 32 := Scalar.select v3937 v3938 v3923
  let c128_i32_2245 : BitVec 32 := 128#32
  let v3940 : BitVec 32 := Scalar.muli v3939 c128_i32_2245
  v3940
def k1_mult114 (i : grid1.Coords) : BitVec 32 :=
  let c2040_i32_2257 : BitVec 32 := 2040#32
  let c1024_i32_2256 : BitVec 32 := 1024#32
  let arg1 : BitVec 32 := BitVec.ofNat 32 (i 1).val
  let v3955 : BitVec 32 := Scalar.muli c1024_i32_2256 arg1
  let v3956 : BitVec 32 := Scalar.subi c2040_i32_2257 v3955
  let c904_i32 : BitVec 32 := 904#32
  let v3957 : BitVec 32 := Scalar.subi v3956 c904_i32
  let c0_i32_2259 : BitVec 32 := 0#32
  let v3959 : BitVec 1 := Scalar.cmpi .sgt v3957 c0_i32_2259
  let v3960 : BitVec 32 := Scalar.extui v3959
  let c0_i32_2260 : BitVec 32 := 0#32
  let v3961 : BitVec 1 := Scalar.cmpi .slt v3957 c0_i32_2260
  let v3962 : BitVec 32 := Scalar.extui v3961
  let v3963 : BitVec 32 := Scalar.subi v3960 v3962
  let c128_i32_2258 : BitVec 32 := 128#32
  let c0_i32_2261 : BitVec 32 := 0#32
  let v3964 : BitVec 1 := Scalar.cmpi .sgt c128_i32_2258 c0_i32_2261
  let v3965 : BitVec 32 := Scalar.extui v3964
  let c0_i32_2262 : BitVec 32 := 0#32
  let v3966 : BitVec 1 := Scalar.cmpi .slt c128_i32_2258 c0_i32_2262
  let v3967 : BitVec 32 := Scalar.extui v3966
  let v3968 : BitVec 32 := Scalar.subi v3965 v3967
  let v3969 : BitVec 1 := Scalar.cmpi .ne v3963 v3968
  let v3970 : BitVec 32 := Scalar.remsi v3957 c128_i32_2258
  let c0_i32_2263 : BitVec 32 := 0#32
  let v3971 : BitVec 1 := Scalar.cmpi .ne v3970 c0_i32_2263
  let v3972 : BitVec 1 := Scalar.andi v3969 v3971
  let v3958 : BitVec 32 := Scalar.divsi v3957 c128_i32_2258
  let c1_i32_2264 : BitVec 32 := 1#32
  let v3973 : BitVec 32 := Scalar.subi v3958 c1_i32_2264
  let v3974 : BitVec 32 := Scalar.select v3972 v3973 v3958
  let c128_i32_2265 : BitVec 32 := 128#32
  let v3975 : BitVec 32 := Scalar.muli v3974 c128_i32_2265
  v3975
def k1_mult115 (i : grid1.Coords) : BitVec 32 :=
  let c2040_i32_2277 : BitVec 32 := 2040#32
  let c1024_i32_2276 : BitVec 32 := 1024#32
  let arg1 : BitVec 32 := BitVec.ofNat 32 (i 1).val
  let v3990 : BitVec 32 := Scalar.muli c1024_i32_2276 arg1
  let v3991 : BitVec 32 := Scalar.subi c2040_i32_2277 v3990
  let c912_i32 : BitVec 32 := 912#32
  let v3992 : BitVec 32 := Scalar.subi v3991 c912_i32
  let c0_i32_2279 : BitVec 32 := 0#32
  let v3994 : BitVec 1 := Scalar.cmpi .sgt v3992 c0_i32_2279
  let v3995 : BitVec 32 := Scalar.extui v3994
  let c0_i32_2280 : BitVec 32 := 0#32
  let v3996 : BitVec 1 := Scalar.cmpi .slt v3992 c0_i32_2280
  let v3997 : BitVec 32 := Scalar.extui v3996
  let v3998 : BitVec 32 := Scalar.subi v3995 v3997
  let c128_i32_2278 : BitVec 32 := 128#32
  let c0_i32_2281 : BitVec 32 := 0#32
  let v3999 : BitVec 1 := Scalar.cmpi .sgt c128_i32_2278 c0_i32_2281
  let v4000 : BitVec 32 := Scalar.extui v3999
  let c0_i32_2282 : BitVec 32 := 0#32
  let v4001 : BitVec 1 := Scalar.cmpi .slt c128_i32_2278 c0_i32_2282
  let v4002 : BitVec 32 := Scalar.extui v4001
  let v4003 : BitVec 32 := Scalar.subi v4000 v4002
  let v4004 : BitVec 1 := Scalar.cmpi .ne v3998 v4003
  let v4005 : BitVec 32 := Scalar.remsi v3992 c128_i32_2278
  let c0_i32_2283 : BitVec 32 := 0#32
  let v4006 : BitVec 1 := Scalar.cmpi .ne v4005 c0_i32_2283
  let v4007 : BitVec 1 := Scalar.andi v4004 v4006
  let v3993 : BitVec 32 := Scalar.divsi v3992 c128_i32_2278
  let c1_i32_2284 : BitVec 32 := 1#32
  let v4008 : BitVec 32 := Scalar.subi v3993 c1_i32_2284
  let v4009 : BitVec 32 := Scalar.select v4007 v4008 v3993
  let c128_i32_2285 : BitVec 32 := 128#32
  let v4010 : BitVec 32 := Scalar.muli v4009 c128_i32_2285
  v4010
def k1_mult116 (i : grid1.Coords) : BitVec 32 :=
  let c2040_i32_2297 : BitVec 32 := 2040#32
  let c1024_i32_2296 : BitVec 32 := 1024#32
  let arg1 : BitVec 32 := BitVec.ofNat 32 (i 1).val
  let v4025 : BitVec 32 := Scalar.muli c1024_i32_2296 arg1
  let v4026 : BitVec 32 := Scalar.subi c2040_i32_2297 v4025
  let c920_i32 : BitVec 32 := 920#32
  let v4027 : BitVec 32 := Scalar.subi v4026 c920_i32
  let c0_i32_2299 : BitVec 32 := 0#32
  let v4029 : BitVec 1 := Scalar.cmpi .sgt v4027 c0_i32_2299
  let v4030 : BitVec 32 := Scalar.extui v4029
  let c0_i32_2300 : BitVec 32 := 0#32
  let v4031 : BitVec 1 := Scalar.cmpi .slt v4027 c0_i32_2300
  let v4032 : BitVec 32 := Scalar.extui v4031
  let v4033 : BitVec 32 := Scalar.subi v4030 v4032
  let c128_i32_2298 : BitVec 32 := 128#32
  let c0_i32_2301 : BitVec 32 := 0#32
  let v4034 : BitVec 1 := Scalar.cmpi .sgt c128_i32_2298 c0_i32_2301
  let v4035 : BitVec 32 := Scalar.extui v4034
  let c0_i32_2302 : BitVec 32 := 0#32
  let v4036 : BitVec 1 := Scalar.cmpi .slt c128_i32_2298 c0_i32_2302
  let v4037 : BitVec 32 := Scalar.extui v4036
  let v4038 : BitVec 32 := Scalar.subi v4035 v4037
  let v4039 : BitVec 1 := Scalar.cmpi .ne v4033 v4038
  let v4040 : BitVec 32 := Scalar.remsi v4027 c128_i32_2298
  let c0_i32_2303 : BitVec 32 := 0#32
  let v4041 : BitVec 1 := Scalar.cmpi .ne v4040 c0_i32_2303
  let v4042 : BitVec 1 := Scalar.andi v4039 v4041
  let v4028 : BitVec 32 := Scalar.divsi v4027 c128_i32_2298
  let c1_i32_2304 : BitVec 32 := 1#32
  let v4043 : BitVec 32 := Scalar.subi v4028 c1_i32_2304
  let v4044 : BitVec 32 := Scalar.select v4042 v4043 v4028
  let c128_i32_2305 : BitVec 32 := 128#32
  let v4045 : BitVec 32 := Scalar.muli v4044 c128_i32_2305
  v4045
def k1_mult117 (i : grid1.Coords) : BitVec 32 :=
  let c2040_i32_2317 : BitVec 32 := 2040#32
  let c1024_i32_2316 : BitVec 32 := 1024#32
  let arg1 : BitVec 32 := BitVec.ofNat 32 (i 1).val
  let v4060 : BitVec 32 := Scalar.muli c1024_i32_2316 arg1
  let v4061 : BitVec 32 := Scalar.subi c2040_i32_2317 v4060
  let c928_i32 : BitVec 32 := 928#32
  let v4062 : BitVec 32 := Scalar.subi v4061 c928_i32
  let c0_i32_2319 : BitVec 32 := 0#32
  let v4064 : BitVec 1 := Scalar.cmpi .sgt v4062 c0_i32_2319
  let v4065 : BitVec 32 := Scalar.extui v4064
  let c0_i32_2320 : BitVec 32 := 0#32
  let v4066 : BitVec 1 := Scalar.cmpi .slt v4062 c0_i32_2320
  let v4067 : BitVec 32 := Scalar.extui v4066
  let v4068 : BitVec 32 := Scalar.subi v4065 v4067
  let c128_i32_2318 : BitVec 32 := 128#32
  let c0_i32_2321 : BitVec 32 := 0#32
  let v4069 : BitVec 1 := Scalar.cmpi .sgt c128_i32_2318 c0_i32_2321
  let v4070 : BitVec 32 := Scalar.extui v4069
  let c0_i32_2322 : BitVec 32 := 0#32
  let v4071 : BitVec 1 := Scalar.cmpi .slt c128_i32_2318 c0_i32_2322
  let v4072 : BitVec 32 := Scalar.extui v4071
  let v4073 : BitVec 32 := Scalar.subi v4070 v4072
  let v4074 : BitVec 1 := Scalar.cmpi .ne v4068 v4073
  let v4075 : BitVec 32 := Scalar.remsi v4062 c128_i32_2318
  let c0_i32_2323 : BitVec 32 := 0#32
  let v4076 : BitVec 1 := Scalar.cmpi .ne v4075 c0_i32_2323
  let v4077 : BitVec 1 := Scalar.andi v4074 v4076
  let v4063 : BitVec 32 := Scalar.divsi v4062 c128_i32_2318
  let c1_i32_2324 : BitVec 32 := 1#32
  let v4078 : BitVec 32 := Scalar.subi v4063 c1_i32_2324
  let v4079 : BitVec 32 := Scalar.select v4077 v4078 v4063
  let c128_i32_2325 : BitVec 32 := 128#32
  let v4080 : BitVec 32 := Scalar.muli v4079 c128_i32_2325
  v4080
def k1_mult118 (i : grid1.Coords) : BitVec 32 :=
  let c2040_i32_2337 : BitVec 32 := 2040#32
  let c1024_i32_2336 : BitVec 32 := 1024#32
  let arg1 : BitVec 32 := BitVec.ofNat 32 (i 1).val
  let v4095 : BitVec 32 := Scalar.muli c1024_i32_2336 arg1
  let v4096 : BitVec 32 := Scalar.subi c2040_i32_2337 v4095
  let c936_i32 : BitVec 32 := 936#32
  let v4097 : BitVec 32 := Scalar.subi v4096 c936_i32
  let c0_i32_2339 : BitVec 32 := 0#32
  let v4099 : BitVec 1 := Scalar.cmpi .sgt v4097 c0_i32_2339
  let v4100 : BitVec 32 := Scalar.extui v4099
  let c0_i32_2340 : BitVec 32 := 0#32
  let v4101 : BitVec 1 := Scalar.cmpi .slt v4097 c0_i32_2340
  let v4102 : BitVec 32 := Scalar.extui v4101
  let v4103 : BitVec 32 := Scalar.subi v4100 v4102
  let c128_i32_2338 : BitVec 32 := 128#32
  let c0_i32_2341 : BitVec 32 := 0#32
  let v4104 : BitVec 1 := Scalar.cmpi .sgt c128_i32_2338 c0_i32_2341
  let v4105 : BitVec 32 := Scalar.extui v4104
  let c0_i32_2342 : BitVec 32 := 0#32
  let v4106 : BitVec 1 := Scalar.cmpi .slt c128_i32_2338 c0_i32_2342
  let v4107 : BitVec 32 := Scalar.extui v4106
  let v4108 : BitVec 32 := Scalar.subi v4105 v4107
  let v4109 : BitVec 1 := Scalar.cmpi .ne v4103 v4108
  let v4110 : BitVec 32 := Scalar.remsi v4097 c128_i32_2338
  let c0_i32_2343 : BitVec 32 := 0#32
  let v4111 : BitVec 1 := Scalar.cmpi .ne v4110 c0_i32_2343
  let v4112 : BitVec 1 := Scalar.andi v4109 v4111
  let v4098 : BitVec 32 := Scalar.divsi v4097 c128_i32_2338
  let c1_i32_2344 : BitVec 32 := 1#32
  let v4113 : BitVec 32 := Scalar.subi v4098 c1_i32_2344
  let v4114 : BitVec 32 := Scalar.select v4112 v4113 v4098
  let c128_i32_2345 : BitVec 32 := 128#32
  let v4115 : BitVec 32 := Scalar.muli v4114 c128_i32_2345
  v4115
def k1_mult119 (i : grid1.Coords) : BitVec 32 :=
  let c2040_i32_2357 : BitVec 32 := 2040#32
  let c1024_i32_2356 : BitVec 32 := 1024#32
  let arg1 : BitVec 32 := BitVec.ofNat 32 (i 1).val
  let v4130 : BitVec 32 := Scalar.muli c1024_i32_2356 arg1
  let v4131 : BitVec 32 := Scalar.subi c2040_i32_2357 v4130
  let c944_i32 : BitVec 32 := 944#32
  let v4132 : BitVec 32 := Scalar.subi v4131 c944_i32
  let c0_i32_2359 : BitVec 32 := 0#32
  let v4134 : BitVec 1 := Scalar.cmpi .sgt v4132 c0_i32_2359
  let v4135 : BitVec 32 := Scalar.extui v4134
  let c0_i32_2360 : BitVec 32 := 0#32
  let v4136 : BitVec 1 := Scalar.cmpi .slt v4132 c0_i32_2360
  let v4137 : BitVec 32 := Scalar.extui v4136
  let v4138 : BitVec 32 := Scalar.subi v4135 v4137
  let c128_i32_2358 : BitVec 32 := 128#32
  let c0_i32_2361 : BitVec 32 := 0#32
  let v4139 : BitVec 1 := Scalar.cmpi .sgt c128_i32_2358 c0_i32_2361
  let v4140 : BitVec 32 := Scalar.extui v4139
  let c0_i32_2362 : BitVec 32 := 0#32
  let v4141 : BitVec 1 := Scalar.cmpi .slt c128_i32_2358 c0_i32_2362
  let v4142 : BitVec 32 := Scalar.extui v4141
  let v4143 : BitVec 32 := Scalar.subi v4140 v4142
  let v4144 : BitVec 1 := Scalar.cmpi .ne v4138 v4143
  let v4145 : BitVec 32 := Scalar.remsi v4132 c128_i32_2358
  let c0_i32_2363 : BitVec 32 := 0#32
  let v4146 : BitVec 1 := Scalar.cmpi .ne v4145 c0_i32_2363
  let v4147 : BitVec 1 := Scalar.andi v4144 v4146
  let v4133 : BitVec 32 := Scalar.divsi v4132 c128_i32_2358
  let c1_i32_2364 : BitVec 32 := 1#32
  let v4148 : BitVec 32 := Scalar.subi v4133 c1_i32_2364
  let v4149 : BitVec 32 := Scalar.select v4147 v4148 v4133
  let c128_i32_2365 : BitVec 32 := 128#32
  let v4150 : BitVec 32 := Scalar.muli v4149 c128_i32_2365
  v4150
def k1_mult120 (i : grid1.Coords) : BitVec 32 :=
  let c2040_i32_2377 : BitVec 32 := 2040#32
  let c1024_i32_2376 : BitVec 32 := 1024#32
  let arg1 : BitVec 32 := BitVec.ofNat 32 (i 1).val
  let v4165 : BitVec 32 := Scalar.muli c1024_i32_2376 arg1
  let v4166 : BitVec 32 := Scalar.subi c2040_i32_2377 v4165
  let c952_i32 : BitVec 32 := 952#32
  let v4167 : BitVec 32 := Scalar.subi v4166 c952_i32
  let c0_i32_2379 : BitVec 32 := 0#32
  let v4169 : BitVec 1 := Scalar.cmpi .sgt v4167 c0_i32_2379
  let v4170 : BitVec 32 := Scalar.extui v4169
  let c0_i32_2380 : BitVec 32 := 0#32
  let v4171 : BitVec 1 := Scalar.cmpi .slt v4167 c0_i32_2380
  let v4172 : BitVec 32 := Scalar.extui v4171
  let v4173 : BitVec 32 := Scalar.subi v4170 v4172
  let c128_i32_2378 : BitVec 32 := 128#32
  let c0_i32_2381 : BitVec 32 := 0#32
  let v4174 : BitVec 1 := Scalar.cmpi .sgt c128_i32_2378 c0_i32_2381
  let v4175 : BitVec 32 := Scalar.extui v4174
  let c0_i32_2382 : BitVec 32 := 0#32
  let v4176 : BitVec 1 := Scalar.cmpi .slt c128_i32_2378 c0_i32_2382
  let v4177 : BitVec 32 := Scalar.extui v4176
  let v4178 : BitVec 32 := Scalar.subi v4175 v4177
  let v4179 : BitVec 1 := Scalar.cmpi .ne v4173 v4178
  let v4180 : BitVec 32 := Scalar.remsi v4167 c128_i32_2378
  let c0_i32_2383 : BitVec 32 := 0#32
  let v4181 : BitVec 1 := Scalar.cmpi .ne v4180 c0_i32_2383
  let v4182 : BitVec 1 := Scalar.andi v4179 v4181
  let v4168 : BitVec 32 := Scalar.divsi v4167 c128_i32_2378
  let c1_i32_2384 : BitVec 32 := 1#32
  let v4183 : BitVec 32 := Scalar.subi v4168 c1_i32_2384
  let v4184 : BitVec 32 := Scalar.select v4182 v4183 v4168
  let c128_i32_2385 : BitVec 32 := 128#32
  let v4185 : BitVec 32 := Scalar.muli v4184 c128_i32_2385
  v4185
def k1_mult121 (i : grid1.Coords) : BitVec 32 :=
  let c2040_i32_2397 : BitVec 32 := 2040#32
  let c1024_i32_2396 : BitVec 32 := 1024#32
  let arg1 : BitVec 32 := BitVec.ofNat 32 (i 1).val
  let v4200 : BitVec 32 := Scalar.muli c1024_i32_2396 arg1
  let v4201 : BitVec 32 := Scalar.subi c2040_i32_2397 v4200
  let c960_i32 : BitVec 32 := 960#32
  let v4202 : BitVec 32 := Scalar.subi v4201 c960_i32
  let c0_i32_2399 : BitVec 32 := 0#32
  let v4204 : BitVec 1 := Scalar.cmpi .sgt v4202 c0_i32_2399
  let v4205 : BitVec 32 := Scalar.extui v4204
  let c0_i32_2400 : BitVec 32 := 0#32
  let v4206 : BitVec 1 := Scalar.cmpi .slt v4202 c0_i32_2400
  let v4207 : BitVec 32 := Scalar.extui v4206
  let v4208 : BitVec 32 := Scalar.subi v4205 v4207
  let c128_i32_2398 : BitVec 32 := 128#32
  let c0_i32_2401 : BitVec 32 := 0#32
  let v4209 : BitVec 1 := Scalar.cmpi .sgt c128_i32_2398 c0_i32_2401
  let v4210 : BitVec 32 := Scalar.extui v4209
  let c0_i32_2402 : BitVec 32 := 0#32
  let v4211 : BitVec 1 := Scalar.cmpi .slt c128_i32_2398 c0_i32_2402
  let v4212 : BitVec 32 := Scalar.extui v4211
  let v4213 : BitVec 32 := Scalar.subi v4210 v4212
  let v4214 : BitVec 1 := Scalar.cmpi .ne v4208 v4213
  let v4215 : BitVec 32 := Scalar.remsi v4202 c128_i32_2398
  let c0_i32_2403 : BitVec 32 := 0#32
  let v4216 : BitVec 1 := Scalar.cmpi .ne v4215 c0_i32_2403
  let v4217 : BitVec 1 := Scalar.andi v4214 v4216
  let v4203 : BitVec 32 := Scalar.divsi v4202 c128_i32_2398
  let c1_i32_2404 : BitVec 32 := 1#32
  let v4218 : BitVec 32 := Scalar.subi v4203 c1_i32_2404
  let v4219 : BitVec 32 := Scalar.select v4217 v4218 v4203
  let c128_i32_2405 : BitVec 32 := 128#32
  let v4220 : BitVec 32 := Scalar.muli v4219 c128_i32_2405
  v4220
def k1_mult122 (i : grid1.Coords) : BitVec 32 :=
  let c2040_i32_2417 : BitVec 32 := 2040#32
  let c1024_i32_2416 : BitVec 32 := 1024#32
  let arg1 : BitVec 32 := BitVec.ofNat 32 (i 1).val
  let v4235 : BitVec 32 := Scalar.muli c1024_i32_2416 arg1
  let v4236 : BitVec 32 := Scalar.subi c2040_i32_2417 v4235
  let c968_i32 : BitVec 32 := 968#32
  let v4237 : BitVec 32 := Scalar.subi v4236 c968_i32
  let c0_i32_2419 : BitVec 32 := 0#32
  let v4239 : BitVec 1 := Scalar.cmpi .sgt v4237 c0_i32_2419
  let v4240 : BitVec 32 := Scalar.extui v4239
  let c0_i32_2420 : BitVec 32 := 0#32
  let v4241 : BitVec 1 := Scalar.cmpi .slt v4237 c0_i32_2420
  let v4242 : BitVec 32 := Scalar.extui v4241
  let v4243 : BitVec 32 := Scalar.subi v4240 v4242
  let c128_i32_2418 : BitVec 32 := 128#32
  let c0_i32_2421 : BitVec 32 := 0#32
  let v4244 : BitVec 1 := Scalar.cmpi .sgt c128_i32_2418 c0_i32_2421
  let v4245 : BitVec 32 := Scalar.extui v4244
  let c0_i32_2422 : BitVec 32 := 0#32
  let v4246 : BitVec 1 := Scalar.cmpi .slt c128_i32_2418 c0_i32_2422
  let v4247 : BitVec 32 := Scalar.extui v4246
  let v4248 : BitVec 32 := Scalar.subi v4245 v4247
  let v4249 : BitVec 1 := Scalar.cmpi .ne v4243 v4248
  let v4250 : BitVec 32 := Scalar.remsi v4237 c128_i32_2418
  let c0_i32_2423 : BitVec 32 := 0#32
  let v4251 : BitVec 1 := Scalar.cmpi .ne v4250 c0_i32_2423
  let v4252 : BitVec 1 := Scalar.andi v4249 v4251
  let v4238 : BitVec 32 := Scalar.divsi v4237 c128_i32_2418
  let c1_i32_2424 : BitVec 32 := 1#32
  let v4253 : BitVec 32 := Scalar.subi v4238 c1_i32_2424
  let v4254 : BitVec 32 := Scalar.select v4252 v4253 v4238
  let c128_i32_2425 : BitVec 32 := 128#32
  let v4255 : BitVec 32 := Scalar.muli v4254 c128_i32_2425
  v4255
def k1_mult123 (i : grid1.Coords) : BitVec 32 :=
  let c2040_i32_2437 : BitVec 32 := 2040#32
  let c1024_i32_2436 : BitVec 32 := 1024#32
  let arg1 : BitVec 32 := BitVec.ofNat 32 (i 1).val
  let v4270 : BitVec 32 := Scalar.muli c1024_i32_2436 arg1
  let v4271 : BitVec 32 := Scalar.subi c2040_i32_2437 v4270
  let c976_i32 : BitVec 32 := 976#32
  let v4272 : BitVec 32 := Scalar.subi v4271 c976_i32
  let c0_i32_2439 : BitVec 32 := 0#32
  let v4274 : BitVec 1 := Scalar.cmpi .sgt v4272 c0_i32_2439
  let v4275 : BitVec 32 := Scalar.extui v4274
  let c0_i32_2440 : BitVec 32 := 0#32
  let v4276 : BitVec 1 := Scalar.cmpi .slt v4272 c0_i32_2440
  let v4277 : BitVec 32 := Scalar.extui v4276
  let v4278 : BitVec 32 := Scalar.subi v4275 v4277
  let c128_i32_2438 : BitVec 32 := 128#32
  let c0_i32_2441 : BitVec 32 := 0#32
  let v4279 : BitVec 1 := Scalar.cmpi .sgt c128_i32_2438 c0_i32_2441
  let v4280 : BitVec 32 := Scalar.extui v4279
  let c0_i32_2442 : BitVec 32 := 0#32
  let v4281 : BitVec 1 := Scalar.cmpi .slt c128_i32_2438 c0_i32_2442
  let v4282 : BitVec 32 := Scalar.extui v4281
  let v4283 : BitVec 32 := Scalar.subi v4280 v4282
  let v4284 : BitVec 1 := Scalar.cmpi .ne v4278 v4283
  let v4285 : BitVec 32 := Scalar.remsi v4272 c128_i32_2438
  let c0_i32_2443 : BitVec 32 := 0#32
  let v4286 : BitVec 1 := Scalar.cmpi .ne v4285 c0_i32_2443
  let v4287 : BitVec 1 := Scalar.andi v4284 v4286
  let v4273 : BitVec 32 := Scalar.divsi v4272 c128_i32_2438
  let c1_i32_2444 : BitVec 32 := 1#32
  let v4288 : BitVec 32 := Scalar.subi v4273 c1_i32_2444
  let v4289 : BitVec 32 := Scalar.select v4287 v4288 v4273
  let c128_i32_2445 : BitVec 32 := 128#32
  let v4290 : BitVec 32 := Scalar.muli v4289 c128_i32_2445
  v4290
def k1_mult124 (i : grid1.Coords) : BitVec 32 :=
  let c2040_i32_2457 : BitVec 32 := 2040#32
  let c1024_i32_2456 : BitVec 32 := 1024#32
  let arg1 : BitVec 32 := BitVec.ofNat 32 (i 1).val
  let v4305 : BitVec 32 := Scalar.muli c1024_i32_2456 arg1
  let v4306 : BitVec 32 := Scalar.subi c2040_i32_2457 v4305
  let c984_i32 : BitVec 32 := 984#32
  let v4307 : BitVec 32 := Scalar.subi v4306 c984_i32
  let c0_i32_2459 : BitVec 32 := 0#32
  let v4309 : BitVec 1 := Scalar.cmpi .sgt v4307 c0_i32_2459
  let v4310 : BitVec 32 := Scalar.extui v4309
  let c0_i32_2460 : BitVec 32 := 0#32
  let v4311 : BitVec 1 := Scalar.cmpi .slt v4307 c0_i32_2460
  let v4312 : BitVec 32 := Scalar.extui v4311
  let v4313 : BitVec 32 := Scalar.subi v4310 v4312
  let c128_i32_2458 : BitVec 32 := 128#32
  let c0_i32_2461 : BitVec 32 := 0#32
  let v4314 : BitVec 1 := Scalar.cmpi .sgt c128_i32_2458 c0_i32_2461
  let v4315 : BitVec 32 := Scalar.extui v4314
  let c0_i32_2462 : BitVec 32 := 0#32
  let v4316 : BitVec 1 := Scalar.cmpi .slt c128_i32_2458 c0_i32_2462
  let v4317 : BitVec 32 := Scalar.extui v4316
  let v4318 : BitVec 32 := Scalar.subi v4315 v4317
  let v4319 : BitVec 1 := Scalar.cmpi .ne v4313 v4318
  let v4320 : BitVec 32 := Scalar.remsi v4307 c128_i32_2458
  let c0_i32_2463 : BitVec 32 := 0#32
  let v4321 : BitVec 1 := Scalar.cmpi .ne v4320 c0_i32_2463
  let v4322 : BitVec 1 := Scalar.andi v4319 v4321
  let v4308 : BitVec 32 := Scalar.divsi v4307 c128_i32_2458
  let c1_i32_2464 : BitVec 32 := 1#32
  let v4323 : BitVec 32 := Scalar.subi v4308 c1_i32_2464
  let v4324 : BitVec 32 := Scalar.select v4322 v4323 v4308
  let c128_i32_2465 : BitVec 32 := 128#32
  let v4325 : BitVec 32 := Scalar.muli v4324 c128_i32_2465
  v4325
def k1_mult125 (i : grid1.Coords) : BitVec 32 :=
  let c2040_i32_2477 : BitVec 32 := 2040#32
  let c1024_i32_2476 : BitVec 32 := 1024#32
  let arg1 : BitVec 32 := BitVec.ofNat 32 (i 1).val
  let v4340 : BitVec 32 := Scalar.muli c1024_i32_2476 arg1
  let v4341 : BitVec 32 := Scalar.subi c2040_i32_2477 v4340
  let c992_i32 : BitVec 32 := 992#32
  let v4342 : BitVec 32 := Scalar.subi v4341 c992_i32
  let c0_i32_2479 : BitVec 32 := 0#32
  let v4344 : BitVec 1 := Scalar.cmpi .sgt v4342 c0_i32_2479
  let v4345 : BitVec 32 := Scalar.extui v4344
  let c0_i32_2480 : BitVec 32 := 0#32
  let v4346 : BitVec 1 := Scalar.cmpi .slt v4342 c0_i32_2480
  let v4347 : BitVec 32 := Scalar.extui v4346
  let v4348 : BitVec 32 := Scalar.subi v4345 v4347
  let c128_i32_2478 : BitVec 32 := 128#32
  let c0_i32_2481 : BitVec 32 := 0#32
  let v4349 : BitVec 1 := Scalar.cmpi .sgt c128_i32_2478 c0_i32_2481
  let v4350 : BitVec 32 := Scalar.extui v4349
  let c0_i32_2482 : BitVec 32 := 0#32
  let v4351 : BitVec 1 := Scalar.cmpi .slt c128_i32_2478 c0_i32_2482
  let v4352 : BitVec 32 := Scalar.extui v4351
  let v4353 : BitVec 32 := Scalar.subi v4350 v4352
  let v4354 : BitVec 1 := Scalar.cmpi .ne v4348 v4353
  let v4355 : BitVec 32 := Scalar.remsi v4342 c128_i32_2478
  let c0_i32_2483 : BitVec 32 := 0#32
  let v4356 : BitVec 1 := Scalar.cmpi .ne v4355 c0_i32_2483
  let v4357 : BitVec 1 := Scalar.andi v4354 v4356
  let v4343 : BitVec 32 := Scalar.divsi v4342 c128_i32_2478
  let c1_i32_2484 : BitVec 32 := 1#32
  let v4358 : BitVec 32 := Scalar.subi v4343 c1_i32_2484
  let v4359 : BitVec 32 := Scalar.select v4357 v4358 v4343
  let c128_i32_2485 : BitVec 32 := 128#32
  let v4360 : BitVec 32 := Scalar.muli v4359 c128_i32_2485
  v4360
def k1_mult126 (i : grid1.Coords) : BitVec 32 :=
  let c2040_i32_2497 : BitVec 32 := 2040#32
  let c1024_i32_2496 : BitVec 32 := 1024#32
  let arg1 : BitVec 32 := BitVec.ofNat 32 (i 1).val
  let v4375 : BitVec 32 := Scalar.muli c1024_i32_2496 arg1
  let v4376 : BitVec 32 := Scalar.subi c2040_i32_2497 v4375
  let c1000_i32 : BitVec 32 := 1000#32
  let v4377 : BitVec 32 := Scalar.subi v4376 c1000_i32
  let c0_i32_2499 : BitVec 32 := 0#32
  let v4379 : BitVec 1 := Scalar.cmpi .sgt v4377 c0_i32_2499
  let v4380 : BitVec 32 := Scalar.extui v4379
  let c0_i32_2500 : BitVec 32 := 0#32
  let v4381 : BitVec 1 := Scalar.cmpi .slt v4377 c0_i32_2500
  let v4382 : BitVec 32 := Scalar.extui v4381
  let v4383 : BitVec 32 := Scalar.subi v4380 v4382
  let c128_i32_2498 : BitVec 32 := 128#32
  let c0_i32_2501 : BitVec 32 := 0#32
  let v4384 : BitVec 1 := Scalar.cmpi .sgt c128_i32_2498 c0_i32_2501
  let v4385 : BitVec 32 := Scalar.extui v4384
  let c0_i32_2502 : BitVec 32 := 0#32
  let v4386 : BitVec 1 := Scalar.cmpi .slt c128_i32_2498 c0_i32_2502
  let v4387 : BitVec 32 := Scalar.extui v4386
  let v4388 : BitVec 32 := Scalar.subi v4385 v4387
  let v4389 : BitVec 1 := Scalar.cmpi .ne v4383 v4388
  let v4390 : BitVec 32 := Scalar.remsi v4377 c128_i32_2498
  let c0_i32_2503 : BitVec 32 := 0#32
  let v4391 : BitVec 1 := Scalar.cmpi .ne v4390 c0_i32_2503
  let v4392 : BitVec 1 := Scalar.andi v4389 v4391
  let v4378 : BitVec 32 := Scalar.divsi v4377 c128_i32_2498
  let c1_i32_2504 : BitVec 32 := 1#32
  let v4393 : BitVec 32 := Scalar.subi v4378 c1_i32_2504
  let v4394 : BitVec 32 := Scalar.select v4392 v4393 v4378
  let c128_i32_2505 : BitVec 32 := 128#32
  let v4395 : BitVec 32 := Scalar.muli v4394 c128_i32_2505
  v4395
def k1_mult127 (i : grid1.Coords) : BitVec 32 :=
  let c2040_i32_2517 : BitVec 32 := 2040#32
  let c1024_i32_2516 : BitVec 32 := 1024#32
  let arg1 : BitVec 32 := BitVec.ofNat 32 (i 1).val
  let v4410 : BitVec 32 := Scalar.muli c1024_i32_2516 arg1
  let v4411 : BitVec 32 := Scalar.subi c2040_i32_2517 v4410
  let c1008_i32 : BitVec 32 := 1008#32
  let v4412 : BitVec 32 := Scalar.subi v4411 c1008_i32
  let c0_i32_2519 : BitVec 32 := 0#32
  let v4414 : BitVec 1 := Scalar.cmpi .sgt v4412 c0_i32_2519
  let v4415 : BitVec 32 := Scalar.extui v4414
  let c0_i32_2520 : BitVec 32 := 0#32
  let v4416 : BitVec 1 := Scalar.cmpi .slt v4412 c0_i32_2520
  let v4417 : BitVec 32 := Scalar.extui v4416
  let v4418 : BitVec 32 := Scalar.subi v4415 v4417
  let c128_i32_2518 : BitVec 32 := 128#32
  let c0_i32_2521 : BitVec 32 := 0#32
  let v4419 : BitVec 1 := Scalar.cmpi .sgt c128_i32_2518 c0_i32_2521
  let v4420 : BitVec 32 := Scalar.extui v4419
  let c0_i32_2522 : BitVec 32 := 0#32
  let v4421 : BitVec 1 := Scalar.cmpi .slt c128_i32_2518 c0_i32_2522
  let v4422 : BitVec 32 := Scalar.extui v4421
  let v4423 : BitVec 32 := Scalar.subi v4420 v4422
  let v4424 : BitVec 1 := Scalar.cmpi .ne v4418 v4423
  let v4425 : BitVec 32 := Scalar.remsi v4412 c128_i32_2518
  let c0_i32_2523 : BitVec 32 := 0#32
  let v4426 : BitVec 1 := Scalar.cmpi .ne v4425 c0_i32_2523
  let v4427 : BitVec 1 := Scalar.andi v4424 v4426
  let v4413 : BitVec 32 := Scalar.divsi v4412 c128_i32_2518
  let c1_i32_2524 : BitVec 32 := 1#32
  let v4428 : BitVec 32 := Scalar.subi v4413 c1_i32_2524
  let v4429 : BitVec 32 := Scalar.select v4427 v4428 v4413
  let c128_i32_2525 : BitVec 32 := 128#32
  let v4430 : BitVec 32 := Scalar.muli v4429 c128_i32_2525
  v4430
def k1_mult128 (i : grid1.Coords) : BitVec 32 :=
  let c2040_i32_2537 : BitVec 32 := 2040#32
  let c1024_i32_2536 : BitVec 32 := 1024#32
  let arg1 : BitVec 32 := BitVec.ofNat 32 (i 1).val
  let v4445 : BitVec 32 := Scalar.muli c1024_i32_2536 arg1
  let v4446 : BitVec 32 := Scalar.subi c2040_i32_2537 v4445
  let c1016_i32 : BitVec 32 := 1016#32
  let v4447 : BitVec 32 := Scalar.subi v4446 c1016_i32
  let c0_i32_2539 : BitVec 32 := 0#32
  let v4449 : BitVec 1 := Scalar.cmpi .sgt v4447 c0_i32_2539
  let v4450 : BitVec 32 := Scalar.extui v4449
  let c0_i32_2540 : BitVec 32 := 0#32
  let v4451 : BitVec 1 := Scalar.cmpi .slt v4447 c0_i32_2540
  let v4452 : BitVec 32 := Scalar.extui v4451
  let v4453 : BitVec 32 := Scalar.subi v4450 v4452
  let c128_i32_2538 : BitVec 32 := 128#32
  let c0_i32_2541 : BitVec 32 := 0#32
  let v4454 : BitVec 1 := Scalar.cmpi .sgt c128_i32_2538 c0_i32_2541
  let v4455 : BitVec 32 := Scalar.extui v4454
  let c0_i32_2542 : BitVec 32 := 0#32
  let v4456 : BitVec 1 := Scalar.cmpi .slt c128_i32_2538 c0_i32_2542
  let v4457 : BitVec 32 := Scalar.extui v4456
  let v4458 : BitVec 32 := Scalar.subi v4455 v4457
  let v4459 : BitVec 1 := Scalar.cmpi .ne v4453 v4458
  let v4460 : BitVec 32 := Scalar.remsi v4447 c128_i32_2538
  let c0_i32_2543 : BitVec 32 := 0#32
  let v4461 : BitVec 1 := Scalar.cmpi .ne v4460 c0_i32_2543
  let v4462 : BitVec 1 := Scalar.andi v4459 v4461
  let v4448 : BitVec 32 := Scalar.divsi v4447 c128_i32_2538
  let c1_i32_2544 : BitVec 32 := 1#32
  let v4463 : BitVec 32 := Scalar.subi v4448 c1_i32_2544
  let v4464 : BitVec 32 := Scalar.select v4462 v4463 v4448
  let c128_i32_2545 : BitVec 32 := 128#32
  let v4465 : BitVec 32 := Scalar.muli v4464 c128_i32_2545
  v4465
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage1_0 : Fin 2 → Memref sig .tc .vmem S1x8x4224 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1x1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== ReferenceIdeal.lean ====
abbrev S1x16x2048x2048 : Shape := ⟨4, ![1, 16, 2048, 2048]⟩
abbrev S16x4194304 : Shape := ⟨2, ![16, 4194304]⟩
abbrev S4194304 : Shape := ⟨1, ![4194304]⟩
abbrev S_ : Shape := ⟨0, ![]⟩
abbrev S4194304x1 : Shape := ⟨2, ![4194304, 1]⟩
abbrev S1 : Shape := ⟨1, ![1]⟩
abbrev S1x1 : Shape := ⟨2, ![1, 1]⟩
abbrev S16x2048x2048 : Shape := ⟨3, ![16, 2048, 2048]⟩

abbrev nBuf : Space → Nat
  | .hbm => 29
  | .vmem => 0
  | .smem => 0
  | _ => 0

abbrev bufTy : (tb : Table) → Fin (tcTables nBuf tb) → BufTy
  | .hbm, ⟨0, _⟩ => ⟨S1x16x2048x2048, .f32⟩
  | .hbm, ⟨1, _⟩ => ⟨S16x4194304, .f32⟩
  | .hbm, ⟨2, _⟩ => ⟨S4194304, .i32⟩
  | .hbm, ⟨3, _⟩ => ⟨S_, .i32⟩
  | .hbm, ⟨4, _⟩ => ⟨S4194304, .i32⟩
  | .hbm, ⟨5, _⟩ => ⟨S4194304, .i1⟩
  | .hbm, ⟨6, _⟩ => ⟨S_, .i32⟩
  | .hbm, ⟨7, _⟩ => ⟨S4194304, .i32⟩
  | .hbm, ⟨8, _⟩ => ⟨S4194304, .i32⟩
  | .hbm, ⟨9, _⟩ => ⟨S4194304, .i32⟩
  | .hbm, ⟨10, _⟩ => ⟨S4194304x1, .i32⟩
  | .hbm, ⟨11, _⟩ => ⟨S1, .i32⟩
  | .hbm, ⟨12, _⟩ => ⟨S_, .i32⟩
  | .hbm, ⟨13, _⟩ => ⟨S4194304x1, .i32⟩
  | .hbm, ⟨14, _⟩ => ⟨S4194304x1, .i1⟩
  | .hbm, ⟨15, _⟩ => ⟨S1x1, .i32⟩
  | .hbm, ⟨16, _⟩ => ⟨S4194304x1, .i32⟩
  | .hbm, ⟨17, _⟩ => ⟨S4194304x1, .i1⟩
  | .hbm, ⟨18, _⟩ => ⟨S4194304x1, .i1⟩
  | .hbm, ⟨19, _⟩ => ⟨S_, .i1⟩
  | .hbm, ⟨20, _⟩ => ⟨S4194304, .i1⟩
  | .hbm, ⟨21, _⟩ => ⟨S16x4194304, .f32⟩
  | .hbm, ⟨22, _⟩ => ⟨S16x4194304, .i1⟩
  | .hbm, ⟨23, _⟩ => ⟨S_, .f32⟩
  | .hbm, ⟨24, _⟩ => ⟨S16x4194304, .f32⟩
  | .hbm, ⟨25, _⟩ => ⟨S16x4194304, .f32⟩
  | .hbm, ⟨26, _⟩ => ⟨S16x2048x2048, .f32⟩
  | .hbm, ⟨27, _⟩ => ⟨S1x16x2048x2048, .f32⟩
  | .hbm, ⟨28, _⟩ => ⟨S1x16x2048x2048, .f32⟩
  | _, _ => ⟨S1x16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩

abbrev nD : Nat := 1
abbrev τ : Topo := Topo.v7x

variable {F : FTy → Type} [FloatOps F]
-- ==== Proof.KernelIdeal.Slabs.lean ====
/-
  The add kernel's body as a loop over the 128 slabs of eight rows that its Python source unrolls.
  `slab` is one turn: read a window of the table, rotate it, add the eight rows of `x`, write the eight rows of the
  result. `addBody_eq` says that the printed body is the 128 turns in order.
-/
module

public import proofs.«01_k».proof.Proof.Gen.KernelIdeal.Skeleton
public import proofs.«01_k».proof.Proof.Gen.KernelIdeal.Launch

@[expose] public section

noncomputable section

namespace Cert.KernelIdeal.Hand

open Idealize.ShloMosaic Idealize.SL.Sem
open Cert.KernelIdeal.Gen

variable {F : FTy → Type} [FloatOps F]

/-- Slab `u` holds the rows `8 u ..< 8 u + 8` of a block of 1024 rows. -/
theorem slab_inb (u : Fin 128) : ∀ a, (![0, 0, 8 * u.val, 0] : Fin 4 → Nat) a + S1x1x8x2048.size a ≤ S1x1x1024x2048.size a := by
  intro a
  have := u.isLt
  fin_cases a <;> simp [S1x1x8x2048, S1x1x1024x2048]
  omega

/-- The rows of slab `u`. -/
abbrev rows (u : Fin 128) :=
  Rect.unit (s := S1x1x1024x2048) ![0, 0, 8 * u.val, 0] S1x1x8x2048.size (slab_inb u)

/-- The columns of the table block that slab `u` reads. -/
abbrev cols (i : grid1.Coords) (u : Fin 128) :=
  Rect.unit (s := S1x8x4224) (k1_off1 i (BitVec.ofNat 32 (8 * u.val))) S1x8x2176.size (k1_off1_inb i u)

/-- The least index of the band that slab `k / 8` needs, less the eight shifted copies' own offset: `2040 - 1024 g - k`. -/
def first (i : grid1.Coords) (k : BitVec 32) : BitVec 32 :=
  Scalar.subi (Scalar.subi 2040#32 (Scalar.muli 1024#32 (BitVec.ofNat 32 (i 1).val))) k

/-- `first` rounded down to a multiple of 128, in the kernel's own integer operations. -/
def aligned (i : grid1.Coords) (k : BitVec 32) : BitVec 32 :=
  Scalar.muli (Scalar.select
    (Scalar.andi
      (Scalar.cmpi .ne
        (Scalar.subi (Scalar.extui (Scalar.cmpi .sgt (first i k) 0#32)) (Scalar.extui (Scalar.cmpi .slt (first i k) 0#32)))
        (Scalar.subi (Scalar.extui (Scalar.cmpi .sgt 128#32 0#32)) (Scalar.extui (Scalar.cmpi .slt 128#32 0#32))))
      (Scalar.cmpi .ne (Scalar.remsi (first i k) 128#32) 0#32))
    (Scalar.subi (Scalar.divsi (first i k) 128#32) 1#32) (Scalar.divsi (first i k) 128#32)) 128#32

/-- What slab `k / 8` writes, from the window of the table and the rows of `x` it reads. -/
def slabValue (i : grid1.Coords) (k : BitVec 32) (wide : Vec F S1x8x2176 .f32) (xs : Vec F S1x1x8x2048 .f32) : FVec F S1x1x8x2048 .f32 :=
  shapeCast S1x1x8x2048
    (addf (shapeCast S8x2048 xs shapeCasts_S1x1x8x2048_S8x2048)
      (extractStridedSlice S8x2048 ![0, 0]
        (dynamicRotate 1 (Scalar.subi 2176#32 (Scalar.subi (first i k) (aligned i k))) none (shapeCast S8x2176 wide shapeCasts_S1x8x2176_S8x2176)
          rotates_S8x2176_d1)
        slices_S8x2176_o0_0_S8x2048))
    shapeCasts_S8x2048_S1x1x8x2048

/-- One turn of the loop, followed by `rest`. -/
def slab (i : grid1.Coords) (arg2 : Memref sig .tc .vmem S1x8x4224 .f32) (arg3 : Memref sig .tc .vmem S1x1x1024x2048 .f32)
    (arg4 : Memref sig .tc .vmem S1x1x1024x2048 .f32) (u : Fin 128) (rest : Prog (TpuEff nD τ sig (Elt F) Λ₀ .tc) PUnit) :
    Prog (TpuEff nD τ sig (Elt F) Λ₀ .tc) PUnit :=
  .op (.load arg2 (cols i u).toLoadRect (View.loadsAt_vmem h_S1x8x2176)) fun wide =>
  .op (.load arg3 (rows u).toLoadRect (View.loadsAt_vmem h_S1x1x8x2048)) fun xs =>
  .op (.load arg4 (rows u).toLoadRect (View.loadsAt_vmem h_S1x1x8x2048)) fun _ =>
  .op (.store arg4 (rows u) (slabValue i (BitVec.ofNat 32 (8 * u.val)) wide xs) Finset.univ (View.stores_vmem_bits_univ h_S1x1x8x2048 rfl) (.inl rfl)) fun _ =>
  rest

/-- The last `n` turns of the loop. -/
def slabs (i : grid1.Coords) (arg2 : Memref sig .tc .vmem S1x8x4224 .f32) (arg3 : Memref sig .tc .vmem S1x1x1024x2048 .f32)
    (arg4 : Memref sig .tc .vmem S1x1x1024x2048 .f32) : (n : Nat) → n ≤ 128 → Prog (TpuEff nD τ sig (Elt F) Λ₀ .tc) PUnit
  | 0, _ => .ret ⟨⟩
  | n + 1, h => slab i arg2 arg3 arg4 ⟨127 - n, by omega⟩ (slabs i arg2 arg3 arg4 n (by omega))

/-- The printed body is the 128 turns in order. -/
theorem addBody_eq (i : grid1.Coords) (arg2 : Memref sig .tc .vmem S1x8x4224 .f32) (harg2 : arg2.IsWhole) (arg3 : Memref sig .tc .vmem S1x1x1024x2048 .f32) (harg3 : arg3.IsWhole)
    (arg4 : Memref sig .tc .vmem S1x1x1024x2048 .f32) (harg4 : arg4.IsWhole) :
    cc1__add_body (F := F) i arg2 harg2 arg3 harg3 arg4 harg4 = slabs i arg2 arg3 arg4 128 (le_refl _) := by
  chain_rfl

end Cert.KernelIdeal.Hand

end
-- ==== Proof.KernelIdeal.AddBody.lean ====
/-
  What the add kernel's body does to its three staging buffers: the table block and the block of `x` stay, and the
  output block ends at `addOut`, whatever it held. One turn of the loop (`slab_run`) is proved for any slab, the loop
  (`slabs_run`) by induction on the turns left.
-/
module

public import proofs.«01_k».proof.Proof.KernelIdeal.Slabs
public import Idealize.ShloMosaic.Lib.Pipeline.FrameBody
public import Idealize.ShloMosaic.Lib.Pointwise
public import Idealize.ShloMosaic.Lib.Ring
public import Idealize.ShloMosaic.Lib.Tactic
public import Idealize.ShloMosaic.Lib.WordCmp
public import Idealize.ShloMosaic.Lib.WritesUnit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The eight rows that slab `u` writes, from the table block and the block of `x`. -/
def slabOut (i : grid1.Coords) (tab : Vec F S1x8x4224 .f32) (x : Vec F S1x1x1024x2048 .f32) (u : Fin 128) : FVec F S1x1x8x2048 .f32 :=
  slabValue i (BitVec.ofNat 32 (8 * u.val)) (fun y => tab ((cols i u).idx y)) (fun y => x ((rows u).idx y))

/-- The output block that the body leaves: row `k` is row `k % 8` of what slab `k / 8` writes. -/
def addOut (i : grid1.Coords) (tab : Vec F S1x8x4224 .f32) (x : Vec F S1x1x1024x2048 .f32) : FVec F S1x1x1024x2048 .f32 := fun j =>
  slabOut i tab x ⟨(j 2).val / 8, by have : (j 2).val < 1024 := (j 2).isLt; omega⟩
    (ix4 0 0 ⟨(j 2).val % 8, Nat.mod_lt _ (by norm_num)⟩ (j 3))

/-- The first `n` slabs of the output block `y` are written. -/
def Done (i : grid1.Coords) (tab : Vec F S1x8x4224 .f32) (x : Vec F S1x1x1024x2048 .f32) (n : Nat) (y : Vec F S1x1x1024x2048 .f32) : Prop :=
  ∀ j : S1x1x1024x2048.Idx, (j 2).val < 8 * n → y j = addOut i tab x j

/-- Writing slab `u` over a block whose earlier slabs are written. -/
theorem done_step (i : grid1.Coords) (tab : Vec F S1x8x4224 .f32) (x : Vec F S1x1x1024x2048 .f32) (u : Fin 128)
    (arg4 : Memref sig .tc .vmem S1x1x1024x2048 .f32) (f : BufTy.Contents (Elt F) arg4.view.ty)
    (h : Done i tab x u.val (View.read (Elt F) arg4.view f)) :
    Done i tab x (u.val + 1) (View.read (Elt F) arg4.view (arg4.view.writes (Elt F) f [⟨rows u, slabOut i tab x u⟩])) := by
  intro j hj
  have h0 : (j 0).val < 1 := (j 0).isLt
  have h1 : (j 1).val < 1 := (j 1).isLt
  have h2 : (j 2).val < 1024 := (j 2).isLt
  have h3 : (j 3).val < 2048 := (j 3).isLt
  by_cases hu : (j 2).val < 8 * u.val
  · rw [View.read_writes_cons_unit_of_not_mem arg4.view f (slab_inb u) _ [] j rfl 2 (.inl hu)]
    exact h j hu
  · have hdiv : (j 2).val / 8 = u.val := by omega
    rw [View.read_writes_cons_unit_of_mem arg4.view f (slab_inb u) _ [] j
      (ix4 (0 : Fin 1) (0 : Fin 1) (⟨(j 2).val % 8, Nat.mod_lt _ (by norm_num)⟩ : Fin 8) (⟨(j 3).val, h3⟩ : Fin 2048)) rfl
      (fun a => by
        fin_cases a
        · show (j 0).val = 0 + 0; omega
        · show (j 1).val = 0 + 0; omega
        · show (j 2).val = 8 * u.val + (j 2).val % 8; omega
        · show (j 3).val = 0 + (j 3).val; omega)]
    unfold addOut
    have : (⟨(j 2).val / 8, by omega⟩ : Fin 128) = u := Fin.ext hdiv
    rw [this]
    rfl

/-- One turn: it writes slab `u`, reads the two inputs, and goes on with `rest`. -/
theorem slab_run (c : Dev nD) (i : grid1.Coords) (arg2 : Memref sig .tc .vmem S1x8x4224 .f32) (arg3 : Memref sig .tc .vmem S1x1x1024x2048 .f32)
    (arg4 : Memref sig .tc .vmem S1x1x1024x2048 .f32) (u : Fin 128) (rest : Prog (TpuEff nD τ sig (Elt F) Λ₀ .tc) PUnit)
    (tab : Vec F S1x8x4224 .f32) (x y : Vec F S1x1x1024x2048 .f32) (hy : Done i tab x u.val y) (E : Set ℕ) (K : PUnit → sProp 𝕄) :
    iprop(owns (c : Thread nD τ) arg2 fullShare tab ∗ owns (c : Thread nD τ) arg3 fullShare x ∗ owns (c : Thread nD τ) arg4 fullShare y
        ∗ (iprop(owns (c : Thread nD τ) arg2 fullShare tab ∗ owns (c : Thread nD τ) arg3 fullShare x
            ∗ ∃ y', ⌜Done i tab x (u.val + 1) y'⌝ ∗ owns (c : Thread nD τ) arg4 fullShare y')
          -∗ wp frame (wpE (defs₀ (F := F)) Variants.none c none) E rest K))
      ⊢ wp frame (wpE (defs₀ (F := F)) Variants.none c none) E (slab i arg2 arg3 arg4 u rest) K := by
  unfold slab
  unfold owns
  iintro ⟨⟨%f0, %hf0, H0⟩, ⟨%f1, %hf1, H1⟩, ⟨%f2, %hf2, H2⟩, Hk⟩
  sl_exec
  iapply Hk
  isplitl [H0]
  · iexists f0; isplitr; · ipureintro; exact hf0
    iexact H0
  isplitl [H1]
  · iexists f1; isplitr; · ipureintro; exact hf1
    iexact H1
  iexists _; isplitr; swap
  · iexists _; isplitr; swap; · iexact H2
    ipureintro; rfl
  ipureintro
  subst hf0 hf1 hf2
  exact done_step i _ _ u arg4 f2 hy

/-- The last `n` turns: given the slabs before them written, they leave the whole block at `addOut`. -/
theorem slabs_run (c : Dev nD) (i : grid1.Coords) (arg2 : Memref sig .tc .vmem S1x8x4224 .f32) (arg3 : Memref sig .tc .vmem S1x1x1024x2048 .f32)
    (arg4 : Memref sig .tc .vmem S1x1x1024x2048 .f32) (tab : Vec F S1x8x4224 .f32) (x : Vec F S1x1x1024x2048 .f32) (E : Set ℕ) (K : PUnit → sProp 𝕄) :
    ∀ (n : Nat) (hn : n ≤ 128) (y : Vec F S1x1x1024x2048 .f32), Done i tab x (128 - n) y →
    iprop(owns (c : Thread nD τ) arg2 fullShare tab ∗ owns (c : Thread nD τ) arg3 fullShare x ∗ owns (c : Thread nD τ) arg4 fullShare y
        ∗ (iprop(owns (c : Thread nD τ) arg2 fullShare tab ∗ owns (c : Thread nD τ) arg3 fullShare x
            ∗ owns (c : Thread nD τ) arg4 fullShare (addOut i tab x)) -∗ K ⟨⟩))
      ⊢ wp frame (wpE (defs₀ (F := F)) Variants.none c none) E (slabs i arg2 arg3 arg4 n hn) K
  | 0, _, y, hy => by
    have : y = addOut i tab x := funext fun j => hy j (by have : (j 2).val < 1024 := (j 2).isLt; omega)
    subst this
    unfold slabs
    iintro ⟨H0, H1, H2, Hk⟩
    sl_step
    iapply Hk
    isplitl [H0]; · iexact H0
    isplitl [H1]; · iexact H1
    iexact H2
  | n + 1, hn, y, hy => by
    unfold slabs
    iintro ⟨H0, H1, H2, Hk⟩
    iapply (slab_run c i arg2 arg3 arg4 ⟨127 - n, _⟩ _ tab x y (by
      rw [show 128 - (n + 1) = 127 - n by omega] at hy; exact hy) E K)
    isplitl [H0]; · iexact H0
    isplitl [H1]; · iexact H1
    isplitl [H2]; · iexact H2
    iintro ⟨H0, H1, %y', %hy', H2⟩
    iapply (slabs_run c i arg2 arg3 arg4 tab x E K n _ y' (by
      rw [show 128 - n = 127 - n + 1 by omega]; exact hy'))
    isplitl [H0]; · iexact H0
    isplitl [H1]; · iexact H1
    isplitl [H2]; · iexact H2
    iexact Hk

/-- The body's triple. -/
theorem addBody_run (c : Dev nD) (i : grid1.Coords) (arg2 : Memref sig .tc .vmem S1x8x4224 .f32) (harg2 : arg2.IsWhole) (arg3 : Memref sig .tc .vmem S1x1x1024x2048 .f32) (harg3 : arg3.IsWhole)
    (arg4 : Memref sig .tc .vmem S1x1x1024x2048 .f32) (harg4 : arg4.IsWhole) (tab : Vec F S1x8x4224 .f32) (x : Vec F S1x1x1024x2048 .f32) (E : Set ℕ) (K : PUnit → sProp 𝕄) :
    iprop(owns (c : Thread nD τ) arg2 fullShare tab ∗ owns (c : Thread nD τ) arg3 fullShare x ∗ (∃ d, owns (c : Thread nD τ) arg4 fullShare d)
        ∗ (iprop(owns (c : Thread nD τ) arg2 fullShare tab ∗ owns (c : Thread nD τ) arg3 fullShare x
            ∗ owns (c : Thread nD τ) arg4 fullShare (addOut i tab x)) -∗ K ⟨⟩))
      ⊢ wp frame (wpE (defs₀ (F := F)) Variants.none c none) E (cc1__add_body i arg2 harg2 arg3 harg3 arg4 harg4) K := by
  rw [addBody_eq]
  iintro ⟨H0, H1, ⟨%y, H2⟩, Hk⟩
  iapply (slabs_run c i arg2 arg3 arg4 tab x E K 128 (le_refl _) y (fun j hj => absurd hj (by omega)))
  isplitl [H0]; · iexact H0
  isplitl [H1]; · iexact H1
  isplitl [H2]; · iexact H2
  iexact Hk

end Cert.KernelIdeal.Hand

end
-- ==== Proof.KernelIdeal.BuildBody.lean ====
/-
  What the table kernel's body does to its two staging buffers: it stores `buildOut` of the rows it loads. `buildOut` is
  the printed value with its 33 chunks named once (`chunk`): each is a block of 128 columns times the reversal matrix.
-/
module

public import proofs.«01_k».proof.Proof.Gen.KernelIdeal.Skeleton
public import proofs.«01_k».proof.Proof.Gen.KernelIdeal.Launch
public import Idealize.ShloMosaic.Lib.Pipeline.FrameBody
public import Idealize.ShloMosaic.Lib.Ring
public import Idealize.ShloMosaic.Lib.Tactic
public import Idealize.ShloMosaic.Lib.WordCmp
public import Idealize.ShloMosaic.Lib.WritesUnit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- Block `32 - n` of the 33 blocks of 128 columns lies inside the row. -/
theorem chunk_slices (n : Fin 33) : S8x4224.Slices ![0, 4096 - 128 * n.val] S8x128 := by
  revert n; decide

/-- Chunk `n` of the flipped rows: block `32 - n` of the rows times the reversal matrix. -/
def chunk (raw : Vec F S8x4224 .f32) (n : Fin 33) : FVec F S8x128 .f32 :=
  matmul dot_S8x128_S128x128_S8x128_1_0_0_1_n_n (some .fp32) (extractStridedSlice S8x128 ![0, 4096 - 128 * n.val] raw (chunk_slices n))
    (k0_pay2 (F := F)) (constant S8x128 .f32 0x00000000#32)

theorem chunks_concatenate (raw : Vec F S8x4224 .f32) :
    Shape.Concatenates ((List.ofFn fun n : Fin 33 => (⟨S8x128, chunk raw n⟩ : (s : Shape) × (s.Idx → F .f32))).map (·.1)) S8x4224 1 := by
  have : (List.ofFn fun n : Fin 33 => (⟨S8x128, chunk raw n⟩ : (s : Shape) × (s.Idx → F .f32))).map (·.1) = List.replicate 33 S8x128 := by
    simp [List.map_ofFn, Function.comp_def, List.ofFn_const]
  rw [this]; decide

/-- The rows flipped: the 33 chunks side by side. -/
def flipped (raw : Vec F S8x4224 .f32) : FVec F S8x4224 .f32 :=
  concatenate S8x4224 1 (List.ofFn fun n : Fin 33 => (⟨S8x128, chunk raw n⟩ : (s : Shape) × (s.Idx → F .f32))) (chunks_concatenate raw)

/-- The rows flipped, rotated and copied eight times. -/
def spread (raw : Vec F S8x4224 .f32) : FVec F S8x8x4224 .f32 :=
  broadcastTo S8x8x4224
    (shapeCast S8x1x4224
      (shapeCast S8x1x4224 (dynamicRotate 1 4095#32 none (flipped raw) rotates_S8x4224_d1) shapeCasts_S8x4224_S8x1x4224)
      shapeCasts_S8x1x4224_S8x1x4224)
    broadcasts_S8x1x4224_S8x8x4224

/-- The table block that the body stores: eight copies of each flipped row, copy `r` shifted by `7 - r` columns. -/
def buildOut (raw : Vec F S8x4224 .f32) : FVec F S8x8x4224 .f32 := k0_pay1 (spread raw)

/-- The printed value, chunk by chunk, is `spread`. -/
theorem pay18_eq (raw : Vec F S8x4224 .f32) :
    k0_pay18 raw (k0_pay2 (F := F)) (k0_pay3 raw) (k0_pay4 raw) (k0_pay5 raw) (k0_pay6 raw) (k0_pay7 raw) (k0_pay8 raw) (k0_pay9 raw)
      (k0_pay10 raw) (k0_pay11 raw) (k0_pay12 raw) (k0_pay13 raw) (k0_pay14 raw) (k0_pay15 raw) (k0_pay16 raw) (k0_pay17 raw)
      = spread raw := by
  chain_rfl

/-- The body's triple. -/
theorem buildBody_run (c : Dev nD) (i : grid0.Coords) (arg1 : Memref sig .tc .vmem S8x4224 .f32) (harg1 : arg1.IsWhole) (arg2 : Memref sig .tc .vmem S8x8x4224 .f32) (harg2 : arg2.IsWhole)
    (raw : Vec F S8x4224 .f32) (E : Set ℕ) (K : PUnit → sProp 𝕄) :
    iprop(owns (c : Thread nD τ) arg1 fullShare raw ∗ (∃ d, owns (c : Thread nD τ) arg2 fullShare d)
        ∗ (iprop(owns (c : Thread nD τ) arg1 fullShare raw ∗ owns (c : Thread nD τ) arg2 fullShare (buildOut raw)) -∗ K ⟨⟩))
      ⊢ wp frame (wpE (defs₀ (F := F)) Variants.none c none) E (cc0__build_body i arg1 harg1 arg2 harg2) K := by
  simp only [cc0__build_body_eq_skeleton]; unfold cc0__build_body_skel
  simp only [k0_part1_eq_skeleton, k0_part2_eq_skeleton]
  unfold owns
  iintro ⟨⟨%f0, %hf0, H0⟩, ⟨%d1, %f1, -, H1⟩, Hk⟩
  sl_exec
  sl_step
  iapply Hk
  isplitl [H0]
  · iexists f0; isplitr; · ipureintro; exact hf0
    iexact H0
  iexists _; isplitr; swap; · iexact H1
  ipureintro
  funext j
  rw [View.read_writes_cons_unit_of_mem arg2.view f1 inb_S8x8x4224_S8x8x4224_0_0_0 _ [] j j rfl
    (by intro a; fin_cases a <;> exact (Nat.zero_add _).symm)]
  subst hf0
  refine congrFun (congrArg k0_pay1 ?_) j
  refine Eq.trans ?_ (pay18_eq _)
  have hr : buildBody_run.sl.r c arg1 f0 = View.read (Elt F) arg1.view f0 := by
    funext y
    refine congrArg (View.read (Elt F) arg1.view f0) (funext fun a => Fin.ext ?_)
    fin_cases a
    · exact (Nat.zero_add _).trans (Nat.one_mul _)
    · exact (Nat.zero_add _).trans (Nat.one_mul _)
  rw [← hr]
  rfl

end Cert.KernelIdeal.Hand

end
-- ==== Proof.KernelIdeal.Data.lean ====
/-
  The proof data of the two regions: what each staging buffer holds when a body runs and after it, and the two bodies'
  obligations. Both regions are stated from any contents `V` of the buffers at the region's entry.
-/
module

public import proofs.«01_k».proof.Proof.KernelIdeal.AddBody
public import proofs.«01_k».proof.Proof.KernelIdeal.BuildBody
public import proofs.«01_k».proof.Proof.Gen.KernelIdeal.Points

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ (UR sig nD τ) ℕ

variable (V : Dev nD → Valuation τ sig (Elt F))

/-! ## The table's region -/

/-- Window `w`'s block at point `t`, read off its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- Every block of the table's input lies inside its array, so a fetch fills the whole buffer. -/
theorem whole0 : ∀ t : Fin cfg0.N, ∀ a, (cfg0.win 0).xsize (cfg0.grid.coords t) a = (cfg0.win 0).size a := by decide +kernel

theorem moved0 (t : Fin cfg0.N) (j : (cfg0.win 0).block.Idx) : (cfg0.win 0).moved (cfg0.grid.coords t) j = true :=
  ((cfg0.win 0).moved_iff _ j).mpr fun a => by rw [whole0 t a]; exact (j a).isLt

/-- Contents for the part of the buffer that a fetch leaves alone; there is none. -/
def unfetched : (cfg0.win 0).block.Idx → Elt F (cfg0.win 0).elt := fun _ => Classical.choice inferInstance

/-- The rows that the table's body loads at point `t`. -/
def raw (c : Dev nD) (t : Fin cfg0.N) : Vec F S8x4224 .f32 :=
  (cfg0.win 0).fill (cfg0.grid.coords t) unfetched (iblk0 V c 0 t)

/-- A fetch fills the buffer alike whatever it held. -/
theorem fill_eq (t : Fin cfg0.N) (d d' : (cfg0.win 0).block.Idx → Elt F (cfg0.win 0).elt) (g) :
    (cfg0.win 0).fill (cfg0.grid.coords t) d g = (cfg0.win 0).fill (cfg0.grid.coords t) d' g := by
  funext j; unfold Pipeline.Window.fill; rw [dif_pos (moved0 t j), dif_pos (moved0 t j)]

/-- The table's region: the input stays at its block, the output's buffer ends at `buildOut` of it. -/
def dat0 (c : Dev nD) : Dat τ (Elt F) Unit ℕ (UR sig nD τ) ℕ cfg0 c where
  A w := V c (Proc.devRef .tc (Pipeline.arrRef spec0 w))
  after w t := match w with
    | ⟨0, _⟩ => raw V c t
    | ⟨1, _⟩ => buildOut (raw V c t)
  Φ _ := Pipeline.ΦA spec0 c
  q _ := fullShare
  owed _ := 0

theorem dat0_in (c : Dev nD) (t : Fin cfg0.N) : (dat0 V c).after 0 t = raw V c t := by dsimp only [dat0]
theorem dat0_out (c : Dev nD) (t : Fin cfg0.N) : (dat0 V c).after 1 t = buildOut (raw V c t) := by dsimp only [dat0]

/-- The input's buffer holds its block when the body runs. -/
theorem dat0_before (c : Dev nD) (t : Fin cfg0.N) (d) : (dat0 V c).before 0 t d = raw V c t :=
  ((dat0 V c).before_in_eq_fetched 0 rfl (fun _ => rfl)
      (fun t t' h => funext fun a => congrArg (fun n => Pipeline.Clip.of n ((cfg0.win 0).size a) (S16x4194304.size a)) (congrFun h a))
      (fun t => by rw [dat0_in]; unfold raw; rw [Pipeline.Window.cut_fill]; rfl) t d).trans
    (by unfold Dat.fetched raw; exact fill_eq t _ _ _)

/-- What the table's body is called with at point `t`, and what it returns. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem run0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_before, dat0_in, dat0_out]
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩⟩
  iapply (buildBody_run c (grid0.coords t) _ _ _ _ (raw V c t) Set.univ _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem row0 (t : Fin cfg0.N) : defs₀ (F := F) .tc cfg0.body (cfg0.bodyArgs t (cfg0.slots t)) = bodyAt0 t := by
  unfold defs₀; rw [Defs.onTc_tc]

theorem body0 (c : Dev nD) : BodyObligation (dat0 V c) (defs₀ (F := F)) Variants.none () Set.univ := fun t => by
  rw [bigSep_W0, bigSep_W0, row0]
  exact triple_restated (run0 V c t) rfl .rfl fun _ => .rfl

/-! ## The addition's region -/

/-- Window `w`'s block at point `t`, read off its array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The block of the table and the block of `x` at point `t`. -/
def tabBlk (c : Dev nD) (t : Fin cfg1.N) : Vec F S1x8x4224 .f32 := iblk1 V c 0 t
def xBlk (c : Dev nD) (t : Fin cfg1.N) : Vec F S1x1x1024x2048 .f32 := iblk1 V c 1 t

/-- The addition's region: the inputs stay at their blocks, the output's buffer ends at `addOut` of them. -/
def dat1 (c : Dev nD) : Dat τ (Elt F) Unit ℕ (UR sig nD τ) ℕ cfg1 c where
  A w := V c (Proc.devRef .tc (Pipeline.arrRef spec1 w))
  after w t := match w with
    | ⟨0, _⟩ => tabBlk V c t
    | ⟨1, _⟩ => xBlk V c t
    | ⟨2, _⟩ => addOut (grid1.coords t) (tabBlk V c t) (xBlk V c t)
  Φ _ := Pipeline.ΦA spec1 c
  q _ := fullShare
  owed _ := 0

theorem dat1_tab (c : Dev nD) (t : Fin cfg1.N) : (dat1 V c).after 0 t = tabBlk V c t := by dsimp only [dat1]
theorem dat1_x (c : Dev nD) (t : Fin cfg1.N) : (dat1 V c).after 1 t = xBlk V c t := by dsimp only [dat1]
theorem dat1_out (c : Dev nD) (t : Fin cfg1.N) : (dat1 V c).after 2 t = addOut (grid1.coords t) (tabBlk V c t) (xBlk V c t) := by
  dsimp only [dat1]

/-- The inputs' buffers hold their blocks when the body runs. -/
theorem dat1_before_tab (c : Dev nD) (t : Fin cfg1.N) (d) : (dat1 V c).before 0 t d = tabBlk V c t :=
  ((dat1 V c).before_in_eq_fetched 0 rfl (fun _ => rfl) (fun _ _ _ => rfl) (fun t => by rw [dat1_tab]; rfl) t d).trans rfl
theorem dat1_before_x (c : Dev nD) (t : Fin cfg1.N) (d) : (dat1 V c).before 1 t d = xBlk V c t :=
  ((dat1 V c).before_in_eq_fetched 1 rfl (fun _ => rfl) (fun _ _ _ => rfl) (fun t => by rw [dat1_x]; rfl) t d).trans rfl

/-- What the addition's body is called with at point `t`, and what it returns. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem run1 (c : Dev nD) (t : Fin cfg1.N) :
    pre1 V c t ⊢ wp frame (wpE (defs₀ (F := F)) Variants.none c none) Set.univ (bodyAt1 t) (fun _ => post1 V c t) := by
  unfold pre1 post1 bodyAt1
  simp only [dat1_before_tab, dat1_before_x, dat1_tab, dat1_x, dat1_out]
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩⟩
  iapply (addBody_run c (grid1.coords t) _ _ _ _ _ _ (tabBlk V c t) (xBlk V c t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem row1 (t : Fin cfg1.N) : defs₀ (F := F) .tc cfg1.body (cfg1.bodyArgs t (cfg1.slots t)) = bodyAt1 t := by
  unfold defs₀; rw [Defs.onTc_tc]

theorem body1 (c : Dev nD) : BodyObligation (dat1 V c) (defs₀ (F := F)) Variants.none () Set.univ := fun t => by
  rw [bigSep_W1, bigSep_W1, row1]
  exact triple_restated (run1 V c t) rfl .rfl fun _ => .rfl

end Cert.KernelIdeal.Hand

end
-- ==== Proof.KernelIdeal.Run.lean ====
/-
  The whole program: the table's region, then the addition's. Every run ends, with every buffer that outlives the
  regions at `W2` of the launch memory and every semaphore counter at zero.
-/
module

public import proofs.«01_k».proof.Proof.KernelIdeal.Data
public import proofs.«01_k».proof.Proof.Gen.KernelIdeal.Regions
public import Idealize.ShloMosaic.Lib.Pipeline.RegionArraysS

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg RegionSeg)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers at launch, after the table's region, and after the addition's. -/
def W0 (c : Dev nD) : Valuation τ sig (Elt F) := fun b => m (c, b)
def W1 (c : Dev nD) : Valuation τ sig (Elt F) := Pipeline.afterRegion (dat0 (W0 m) c) (W0 m c)
def W2 (c : Dev nD) : Valuation τ sig (Elt F) := Pipeline.afterRegion (dat1 (W1 m) c) (W1 m c)

/-- Both regions' proof data. -/
def pdats : (p : Fin 2) → (c : Dev nD) → Dat τ (Elt F) Unit ℕ (UR sig nD τ) ℕ (cfgs p) c
  | ⟨0, _⟩ => dat0 (W0 m)
  | ⟨1, _⟩ => dat1 (W1 m)

/-- One level, and no core owes another anything. -/
abbrev L : GSem nD τ sig → Finset Unit := fun g => if g.1.2 = .tc then Finset.univ else ∅
abbrev lv : GSem nD τ sig → Unit → ℕ := fun _ _ => 0

theorem cut (p : Fin 2) :
    Pipeline.LevelCut (pcfgs (F := F)) adm () L lv p (fun _ => (0 : CellTallies nD τ sig Unit)) fun _ => 0 where
  hι _ _ _ := by simp [L]
  hιb _ _ _ := le_rfl
  hD _ _ _ h := absurd h (lt_irrefl _)

/-- What a core holds beside its buffers between the regions: it owes nothing, and it has its generator register. -/
abbrev rest (c : Dev nD) : sProp 𝕄 :=
  iprop((∃ Wd, owes (c : Thread nD τ) (0 : CellTallies nD τ sig Unit) Wd) ∗ (∃ r, prngReg c r) ∗ BI.emp)

/-- The table's region. -/
def region0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun c => iprop(∃ r, prngReg c r)) (fun c => iprop(∃ r, prngReg c r)) launch0.toP rfl
    (fun c => (body0 (W0 m) c).loose) (fun _ _ => rfl) (fun _ => rfl) (fun c => (dat0 (W0 m) c).share_full fun _ => rfl)
    (fun _ => .rfl) (fun _ => .rfl) (fun _ => 0) (cut 0) (fun _ => BI.emp) (W0 m) (fun _ _ => rfl)

/-- The addition's region. -/
def region1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun c => iprop(∃ r, prngReg c r)) (fun c => iprop(∃ r, prngReg c r)) launch1.toP rfl
    (fun c => (body1 (W1 m) c).loose) (fun _ _ => rfl) (fun _ => rfl) (fun c => (dat1 (W1 m) c).share_full fun _ => rfl)
    (fun _ => .rfl) (fun _ => .rfl) (fun _ => 0) (cut 1) (fun _ => BI.emp) (W1 m) (fun _ _ => rfl)

theorem arrs0 : Pipeline.arrRefs (pcfgs (F := F) 0).spec ⊆ Pipeline.ucRefs τ sig :=
  Pipeline.arrRefs_sub_ucRefs _ launch0.toP.win.arr_unscoped
theorem arrs1 : Pipeline.arrRefs (pcfgs (F := F) 1).spec ⊆ Pipeline.ucRefs τ sig :=
  Pipeline.arrRefs_sub_ucRefs _ launch1.toP.win.arr_unscoped

/-- A thread's state with its buffers at `W`. -/
abbrev at_ (W : Dev nD → Valuation τ sig (Elt F)) (c : Dev nD) : sProp 𝕄 :=
  iprop(StableHlo.held (c : Thread nD τ) (Pipeline.ucRefs τ sig) (W c) ∗ rest c)

theorem enter0 (c : Dev nD) : at_ (W0 m) c ⊢ (region0 m).pre c := by
  unfold region0
  refine BI.Entails.trans ?_ (RegionSeg.ofHeldIn_pre arrs0 c)
  exact BI.Entails.refl _
theorem leave0 (c : Dev nD) : (region0 m).post c ⊢ at_ (W1 m) c := by
  unfold region0
  exact RegionSeg.ofHeldIn_post arrs0 c
theorem enter1 (c : Dev nD) : at_ (W1 m) c ⊢ (region1 m).pre c := by
  unfold region1
  refine BI.Entails.trans ?_ (RegionSeg.ofHeldIn_pre arrs1 c)
  exact BI.Entails.refl _
theorem leave1 (c : Dev nD) : (region1 m).post c ⊢ at_ (W2 m) c := by
  unfold region1
  exact RegionSeg.ofHeldIn_post arrs1 c

-- the launch theorem's implicit arguments are found by unifying its conclusion with this one, which takes unfolding
-- plain definitions in a metavariable's type
set_option backward.isDefEq.respectTransparency.types false in
/-- The program's run. -/
theorem run : θ_run defs (onTc (τ := τ) (main (F := F))) ⟨m, fun _ => 0, ρ⟩ (fun r =>
    (∀ c : Dev nD, ∀ b ∈ Pipeline.ucRefs τ sig, r.2.mem ((c.tc : Thread nD τ).1, b) = W2 m c b) ∧ r.2.sem = fun _ => 0) := by
  refine Pipeline.θ_run_regions_kit_dev_sems (pcfgs (F := F)) adm (pdats m) () cellOf_inj emb₁ defs₀ Variants.none L lv m ρ main
    (fun _ => [.region (region0 m), .region (region1 m)])
    (fun c Q => by
      rewrite [main_chain c, Seg.run_eq_chain]
      exact .rfl)
    (fun c => by simp only [Seg.pipes_region, Seg.pipes_nil]; decide) (O₀ := 0)
    (hL := fun g h => by simp [L, h])
    (G := fun _ => iprop(emp)) (u₀ := initOf (Pipeline.cells cfgs cellOf_inj) (Pipeline.launchToks cfgs cellOf_inj))
    (hu₀ := ?_)
    (T₀ := at_ (W0 m))
    (Tₙ := fun c => StableHlo.held (c : Thread nD τ) (Pipeline.ucRefs τ sig) (W2 m c))
    (hch := fun c => ⟨enter0 m c, (leave0 m c).trans (enter1 m c), (leave1 m c).trans (sep_mono .rfl ?_)⟩)
    (hinit := ?_) (QY := fun c s => ∀ b ∈ Pipeline.ucRefs τ sig, s.mem ((c.tc : Thread nD τ).1, b) = W2 m c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · iintro ⟨HO, -, -⟩
    iexact HO
  · refine Pipeline.initEach L lv fun c => ?_
    rw [show unscopedBufs c (fun b => m ((c.tc : Thread nD τ).loc b)) = StableHlo.held (c.tc : Thread nD τ) (Pipeline.ucRefs τ sig) (W0 m c)
      from Pipeline.unscopedBufs_held (Ix := Unit) (Name := ℕ) (U := UR sig nD τ) (Lvl := ℕ) c (W0 m c)]
    iintro ⟨⟨Hh, -, HO, -, Hp, -⟩, -⟩
    imodintro
    isplitl [Hh]; · iexact Hh
    isplitl [HO]; · iexists _; iexact HO
    isplitl [Hp]; · iexists _; iexact Hp
    iempintro
  · unfold StableHlo.held
    iintro ⟨Hh, HSI⟩
    ihave Hr := (pointsTo_read_all (Pipeline.ucRefs τ sig) (fun b => ((c.tc : Thread nD τ).1, b)) (W2 m c) s') $$ [Hh HSI]
    · isplitl [Hh] <;> iassumption
    imodintro; iexact Hr

end Cert.KernelIdeal.Hand

end
-- ==== Proof.KernelIdeal.Frame.lean ====
/-
  What the program's run leaves: the three arguments as launched, and the result at the addition's region's output array.
-/
module

public import proofs.«01_k».proof.Proof.KernelIdeal.Run

@[expose] public section

noncomputable section

namespace Cert.KernelIdeal.Hand

open Idealize.ShloMosaic Idealize.ShloMosaic.TcCoe
open Idealize.SL Idealize.SL.Sem
open Cert.KernelIdeal.Gen

variable {F : FTy → Type} [FloatOps F]

variable (m : (ℓ : Loc nD τ sig) → Buf (Elt F) ℓ) (ρ : Dev nD → PrngReg)

/-- A buffer that the table's region does not write. -/
theorem W1_keeps (c : Dev nD) (r : Ref sig .tc) (h : ∀ w, Pipeline.arrRef spec0 w = r → (cfg0.win w).isOut = false) :
    W1 m c (Proc.devRef .tc r) = W0 m c (Proc.devRef .tc r) :=
  Pipeline.afterRegion_keeps (dat0 (W0 m) c) (W0 m c) launch0.win.arr_inj (fun _ => rfl) r h

/-- A buffer that the addition's region does not write. -/
theorem W2_keeps (c : Dev nD) (r : Ref sig .tc) (h : ∀ w, Pipeline.arrRef spec1 w = r → (cfg1.win w).isOut = false) :
    W2 m c (Proc.devRef .tc r) = W1 m c (Proc.devRef .tc r) :=
  Pipeline.afterRegion_keeps (dat1 (W1 m) c) (W1 m c) launch1.win.arr_inj (fun _ => rfl) r h

/-- The table after its region. -/
theorem W1_table (c : Dev nD) : W1 m c (Proc.devRef .tc main_v0) = (dat0 (W0 m) c).arrAt 1 cfg0.N :=
  Pipeline.afterRegion_arr (dat0 (W0 m) c) (W0 m c) launch0.win.arr_inj 1

/-- The result after the addition's region. -/
theorem W2_result (c : Dev nD) : W2 m c (Proc.devRef .tc main_v1) = (dat1 (W1 m) c).arrAt 2 cfg1.N :=
  Pipeline.afterRegion_arr (dat1 (W1 m) c) (W1 m c) launch1.win.arr_inj 2

theorem W2_arg0 (c : Dev nD) : W2 m c (Proc.devRef .tc main_arg0) = m ((c.tc : Thread nD τ).loc main_arg0) :=
  (W2_keeps m c main_arg0 (by decide)).trans (W1_keeps m c main_arg0 (by decide))
theorem W2_arg1 (c : Dev nD) : W2 m c (Proc.devRef .tc main_arg1) = m ((c.tc : Thread nD τ).loc main_arg1) :=
  (W2_keeps m c main_arg1 (by decide)).trans (W1_keeps m c main_arg1 (by decide))
theorem W2_arg2 (c : Dev nD) : W2 m c (Proc.devRef .tc main_arg2) = m ((c.tc : Thread nD τ).loc main_arg2) :=
  (W2_keeps m c main_arg2 (by decide)).trans (W1_keeps m c main_arg2 (by decide))

/-- Every run ends with the arguments as launched, the result at the output array, and no counter raised. -/
theorem result : θ_run defs (onTc (τ := τ) (main (F := F))) ⟨m, fun _ => 0, ρ⟩ (fun r =>
    ((∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)
    ∧ ∀ c : Dev nD, r.2.mem ((c.tc : Thread nD τ).loc main_v1) = (dat1 (W1 m) c).arrAt 2 cfg1.N) :=
  (θ_run defs _ _).mono (fun _ h => ⟨⟨fun c =>
      ⟨(h.1 c _ (Pipeline.devRef_mem_ucRefs rfl)).trans (W2_arg0 m c), (h.1 c _ (Pipeline.devRef_mem_ucRefs rfl)).trans (W2_arg1 m c),
        (h.1 c _ (Pipeline.devRef_mem_ucRefs rfl)).trans (W2_arg2 m c)⟩, h.2⟩,
    fun c => (h.1 c _ (Pipeline.devRef_mem_ucRefs rfl)).trans (W2_result m c)⟩) (run m ρ)

/-- The arguments end as launched, and no counter is raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => h.1) (result m ρ)

end Cert.KernelIdeal.Hand

end
-- ==== Proof.KernelIdeal.Table.lean ====
/-
  The table over the extended reals, read at an index: copy `r` of head `h` at column `c ≤ 4087` is the row's entry
  `4087 - c + r`. The 0/1 products of the reversal are exact (`x * 1 = x`, `x * 0 = 0` at every extended real).
-/
module

public import proofs.«01_k».proof.Proof.KernelIdeal.BuildBody
public import Idealize.ShloMosaic.Lib.Pointwise
public import Idealize.ShloMosaic.Lib.KernelVsHost
public import Idealize.ShloMosaic.Lib.Pipeline.Value

@[expose] public section

set_option maxRecDepth 16384

noncomputable section

namespace Cert.KernelIdeal.Hand

open Idealize.ShloMosaic Idealize.ShloMosaic.TcCoe
open Cert.KernelIdeal.Gen

/-- The reversal matrix at an index. -/
theorem reversal_at (k j : Fin 128) : k0_pay2 (F := Ideal) (ix2 k j) = if k.val + j.val = 127 then 1 else 0 := by
  pointwise [k0_pay2]
  have hk := k.isLt
  have hj := j.isLt
  have e : (BitVec.ofNat 32 k.val + BitVec.ofNat 32 j.val = 127#32) ↔ k.val + j.val = 127 := by
    rw [← BitVec.toNat_inj, BitVec.toNat_add, BitVec.toNat_ofNat, BitVec.toNat_ofNat, BitVec.toNat_ofNat]
    omega
  by_cases h : k.val + j.val = 127
  · rw [if_pos h]; simp [Scalar.select, IntOp.cmpi, IntOp.addi, e.mpr h]
  · rw [if_neg h]
    have e' : (BitVec.ofNat 32 k.val + BitVec.ofNat 32 j.val == 127#32) = false := beq_eq_false_iff_ne.mpr (mt e.mp h)
    simp [Scalar.select, IntOp.cmpi, IntOp.addi, e']

/-- A chunk at an index. -/
theorem chunk_at (raw : FVec Ideal S8x4224 .f32) (n : Fin 33) (h : Fin 8) (j : Fin 128) :
    chunk (F := Ideal) raw n (ix2 h j) = raw (ix2 h ⟨4096 - 128 * n.val + (127 - j.val), by omega⟩) := by
  pointwise [chunk]
  rw [Finset.sum_eq_single (⟨127 - j.val, by omega⟩ : Fin 128)]
  · rw [reversal_at, if_pos (by show 127 - j.val + j.val = 127; omega), mul_one]
  · intro k _ hk
    rw [reversal_at, if_neg (fun e => hk (Fin.ext (by show k.val = 127 - j.val; omega))), mul_zero]
  · exact fun h => absurd (Finset.mem_univ _) h

/-- The flipped rows at an index. -/
theorem flipped_at (raw : FVec Ideal S8x4224 .f32) (h : Fin 8) (c : Fin 4224) :
    flipped (F := Ideal) raw (ix2 h c) = raw (ix2 h ⟨4223 - c.val, by omega⟩) := by
  unfold flipped
  refine (concatenate_ofFn_apply (t := S8x4224) (s₁ := S8x128) 1 (chunk (F := Ideal) raw) _ rfl 128 rfl (ix2 h c) ⟨c.val / 128, by omega⟩ rfl
    (ix2 h ⟨c.val % 128, by omega⟩) rfl ?_).trans ?_
  · intro b hb
    fin_cases b
    · rfl
    · exact absurd rfl hb
  · refine (chunk_at raw _ h _).trans (congrArg raw ?_)
    refine congrArg (ix2 h) (Fin.ext ?_)
    show 4096 - 128 * (c.val / 128) + (127 - c.val % 128) = 4223 - c.val
    omega

/-- The rotated copies at an index short of the wrap. -/
theorem spread_at (raw : FVec Ideal S8x4224 .f32) (h r : Fin 8) (c : Fin 4224) (hc : c.val < 4095) :
    spread (F := Ideal) raw (ix3 h r c) = raw (ix2 h ⟨4094 - c.val, by omega⟩) := by
  have e : ∀ y : FVec Ideal S8x4224 .f32,
      broadcastTo S8x8x4224 (shapeCast S8x1x4224 (shapeCast S8x1x4224 y shapeCasts_S8x4224_S8x1x4224) shapeCasts_S8x1x4224_S8x1x4224)
        broadcasts_S8x1x4224_S8x8x4224 (ix3 h r c) = y (ix2 h c) := by
    intro y
    pointwise
  refine (e _).trans ?_
  have e' : ∀ y : FVec Ideal S8x4224 .f32,
      dynamicRotate 1 4095#32 none y rotates_S8x4224_d1 (ix2 h c) = y (ix2 h ⟨c.val + 129, by omega⟩) := by
    intro y
    refine dynamicRotate_apply 1 4095#32 y _ _ _ fun b => ?_
    fin_cases b
    · rfl
    · show c.val + 129 = (c.val + 4224 - 4095 % 4224) % 4224
      omega
  refine (e' _).trans ((flipped_at raw h _).trans (congrArg raw (congrArg (ix2 h) (Fin.ext ?_))))
  show 4223 - (c.val + 129) = 4094 - c.val
  omega

/-- Copy `r` is shifted by one when `7 - r` has its first bit. -/
theorem bit_one (r : Fin 8) (x y : EReal) :
    Scalar.select (IntOp.cmpi .ne (IntOp.andi (IntOp.subi 7#32 (BitVec.ofNat 32 r.val)) 1#32) 0#32) x y
      = if (7 - r.val) % 2 = 1 then x else y := by
  have e : ∀ r : Fin 8, IntOp.cmpi .ne (IntOp.andi (IntOp.subi 7#32 (BitVec.ofNat 32 r.val)) 1#32) 0#32
      = if (7 - r.val) % 2 = 1 then 1#1 else 0#1 := by decide
  rw [e]; split_ifs <;> rfl

/-- Copy `r` is shifted by two when `7 - r` has its second bit. -/
theorem bit_two (r : Fin 8) (x y : EReal) :
    Scalar.select (IntOp.cmpi .ne (IntOp.andi (IntOp.subi 7#32 (BitVec.ofNat 32 r.val)) 2#32) 0#32) x y
      = if (7 - r.val) / 2 % 2 = 1 then x else y := by
  have e : ∀ r : Fin 8, IntOp.cmpi .ne (IntOp.andi (IntOp.subi 7#32 (BitVec.ofNat 32 r.val)) 2#32) 0#32
      = if (7 - r.val) / 2 % 2 = 1 then 1#1 else 0#1 := by decide
  rw [e]; split_ifs <;> rfl

/-- Copy `r` is shifted by four when `7 - r` has its third bit. -/
theorem bit_four (r : Fin 8) (x y : EReal) :
    Scalar.select (IntOp.cmpi .ne (IntOp.andi (IntOp.subi 7#32 (BitVec.ofNat 32 r.val)) 4#32) 0#32) x y
      = if (7 - r.val) / 4 % 2 = 1 then x else y := by
  have e : ∀ r : Fin 8, IntOp.cmpi .ne (IntOp.andi (IntOp.subi 7#32 (BitVec.ofNat 32 r.val)) 4#32) 0#32
      = if (7 - r.val) / 4 % 2 = 1 then 1#1 else 0#1 := by decide
  rw [e]; split_ifs <;> rfl

/-- The three conditional shifts at an index: copy `r` is read `7 - r` further. -/
theorem shifts_at (v : FVec Ideal S8x8x4224 .f32) (h r : Fin 8) (c : Fin 4224) (hc : c.val ≤ 4087) :
    k0_pay1 (F := Ideal) v (ix3 h r c) = v (ix3 h r ⟨c.val + 7 - r.val, by omega⟩) := by
  pointwise [k0_pay1]
  simp only [show c.val < 4223 by omega, show 1 + c.val < 4222 by omega, show 2 + (1 + c.val) < 4220 by omega,
    show 1 + c.val < 4220 by omega, show c.val < 4222 by omega, show 2 + c.val < 4220 by omega,
    show c.val < 4220 by omega, ↓reduceDIte]
  simp only [bit_one, bit_two, bit_four]
  have hr := r.isLt
  split_ifs <;> refine congrArg v (congrArg (ix3 h r) (Fin.ext ?_)) <;> simp only [] <;> omega

/-- The table of one row block at an index. -/
theorem buildOut_at (raw : FVec Ideal S8x4224 .f32) (h r : Fin 8) (c : Fin 4224) (hc : c.val ≤ 4087) :
    buildOut (F := Ideal) raw (ix3 h r c) = raw (ix2 h ⟨4087 - c.val + r.val, by omega⟩) := by
  unfold buildOut
  refine (shifts_at _ h r c hc).trans ((spread_at raw h r _ (by show c.val + 7 - r.val < 4095; omega)).trans ?_)
  refine congrArg raw (congrArg (ix2 h) (Fin.ext ?_))
  show 4094 - (c.val + 7 - r.val) = 4087 - c.val + r.val
  omega

end Cert.KernelIdeal.Hand
-- ==== Proof.KernelIdeal.TableArray.lean ====
/-
  The table's array after its region: copy `r` of head `h` at column `c ≤ 4087` is `rel_pos` at `(h, 4087 - c + r)`.
-/
module

public import proofs.«01_k».proof.Proof.KernelIdeal.Frame
public import proofs.«01_k».proof.Proof.KernelIdeal.Table
public import Idealize.ShloMosaic.Lib.Pipeline.ValueKit

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal.Gen

variable (V : Dev nD → Valuation τ sig (Elt Ideal))

/-- Point `t` of the table's region reads and writes the heads `8 t ..< 8 t + 8`. -/
theorem idx0 : ∀ t : Fin cfg0.N, win0_0.index t = ![t.val, 0] ∧ win0_1.index t = ![t.val, 0, 0] :=
  (by decide +kernel : ∀ t : Fin grid0.N, _)

/-- The rows loaded at point `t`, at an index. -/
theorem raw_at (c : Dev nD) (t : Fin cfg0.N) (h : Fin 8) (n : Fin 4224) (k : Fin 16) (hk : k.val = 8 * t.val + h.val) :
    raw V c t (ix2 h n) = (V c (Proc.devRef .tc main_arg1) : FVec Ideal S16x4194304 .f32) (ix2 k ⟨n.val, by omega⟩) := by
  unfold raw Pipeline.Window.fill
  rw [dif_pos (moved0 t _)]
  blk_ext [iblk0, idx0 t]

/-- The table's array, block by block. -/
def table (c : Dev nD) : FVec Ideal S16x8x4224 .f32 := fun j =>
  buildOut (raw V c ⟨(j 0).val / 8, by have : (j 0).val < 16 := (j 0).isLt; rw [show cfg0.N = 2 from N_0]; omega⟩)
    (ix3 ⟨(j 0).val % 8, Nat.mod_lt _ (by norm_num)⟩ (j 1) (j 2))

/-- The table's array at an index, by its block and the index inside it. -/
theorem table_block (c : Dev nD) (t : Fin cfg0.N) (j : S16x8x4224.Idx) (y : S8x8x4224.Idx) (h0 : (j 0).val = 8 * t.val + (y 0).val)
    (h1 : (j 1).val = (y 1).val) (h2 : (j 2).val = (y 2).val) : table V c j = buildOut (raw V c t) y := by
  have hy : (y 0).val < 8 := (y 0).isLt
  have et : ∀ h, (⟨(j 0).val / 8, h⟩ : Fin cfg0.N) = t := fun h => Fin.ext (by show (j 0).val / 8 = t.val; omega)
  unfold table
  rw [et]
  refine congrArg (buildOut (raw V c t)) (funext fun a => ?_)
  fin_cases a
  · exact Fin.ext (by show (j 0).val % 8 = (y 0).val; omega)
  · exact Fin.ext h1
  · exact Fin.ext h2

/-- The table's array after its region. -/
theorem table_array (c : Dev nD) : (dat0 V c).arrAt 1 cfg0.N = table V c := by
  refine (dat0 V c).arrAt_eq_of_covers 1 _ (by decide +kernel) fun t _ y => ?_
  blk_simp
  rw [dat0_out]
  refine (table_block V c t _ y ?_ ?_ ?_).symm
  all_goals blk_simp [idx0 t]
  all_goals omega

/-- The table's array at an index that the addition reads. -/
theorem table_at (c : Dev nD) (h : Fin 16) (r : Fin 8) (n : Fin 4224) (hn : n.val ≤ 4087) :
    table V c (ix3 h r n) = (V c (Proc.devRef .tc main_arg1) : FVec Ideal S16x4194304 .f32) (ix2 h ⟨4087 - n.val + r.val, by omega⟩) := by
  refine (table_block V c ⟨h.val / 8, by rw [show cfg0.N = 2 from N_0]; omega⟩ _ (ix3 (⟨h.val % 8, by omega⟩ : Fin 8) r n) ?_ rfl rfl).trans
    ((buildOut_at _ _ r n hn).trans (raw_at V c _ _ _ h ?_))
  · show h.val = 8 * (h.val / 8) + h.val % 8; omega
  · show h.val = 8 * (h.val / 8) + h.val % 8; omega

end Cert.KernelIdeal.Hand

end
-- ==== Proof.KernelIdeal.Addition.lean ====
/-
  The addition over the extended reals, read at an index: row `k`, column `q` of a block is the entry of `x` there plus
  copy `k % 8` of the table at column `2040 - 1024 g - 8 (k / 8) + q`, where `g` is the block's place along the rows.
-/
module

public import proofs.«01_k».proof.Proof.KernelIdeal.AddBody
public import Idealize.ShloMosaic.Lib.KernelVsHost

@[expose] public section

set_option maxRecDepth 16384

noncomputable section

namespace Cert.KernelIdeal.Hand

open Idealize.ShloMosaic Idealize.ShloMosaic.TcCoe
open Cert.KernelIdeal.Gen

/-- The first column of slab `u`'s window, as a number. -/
abbrev start (i : grid1.Coords) (u : Fin 128) : Nat := 2040 - 1024 * (i 1).val - 8 * u.val

/-- The window's first column rounded down, in the kernel's 32-bit words. -/
theorem aligned_val (i : grid1.Coords) (u : Fin 128) : (aligned i (BitVec.ofNat 32 (8 * u.val))).toNat = start i u / 128 * 128 := by
  unfold aligned first start
  generalize i 1 = g
  revert g u
  decide +kernel

/-- The rotation that brings the window's first column to the front, in the kernel's 32-bit words. -/
theorem turn_val (i : grid1.Coords) (u : Fin 128) :
    (Scalar.subi 2176#32 (Scalar.subi (first i (BitVec.ofNat 32 (8 * u.val))) (aligned i (BitVec.ofNat 32 (8 * u.val))))).toNat
      = 2176 - start i u % 128 := by
  unfold aligned first start
  generalize i 1 = g
  revert g u
  decide +kernel

/-- What a slab writes, at an index. -/
theorem slabValue_at (i : grid1.Coords) (u : Fin 128) (wide : FVec Ideal S1x8x2176 .f32) (xs : FVec Ideal S1x1x8x2048 .f32) (r : Fin 8) (q : Fin 2048) :
    slabValue (F := Ideal) i (BitVec.ofNat 32 (8 * u.val)) wide xs (ix4 0 0 r q)
      = xs (ix4 0 0 r q) + wide (ix3 0 r ⟨q.val + start i u % 128, by omega⟩) := by
  have e : ∀ (b : BitVec 32), b.toNat = 2176 - start i u % 128 → ∀ y : FVec Ideal S8x2176 .f32,
      dynamicRotate 1 b none y rotates_S8x2176_d1 (ix2 r ⟨q.val, by omega⟩) = y (ix2 r ⟨q.val + start i u % 128, by omega⟩) := by
    intro b hb y
    refine dynamicRotate_apply 1 b y _ _ _ fun a => ?_
    fin_cases a
    · rfl
    · show q.val + start i u % 128 = (q.val + 2176 - b.toNat % 2176) % 2176
      rw [hb]; omega
  have e' : ∀ y : FVec Ideal S8x2176 .f32, (shapeCast S1x1x8x2048
      (addf (shapeCast S8x2048 xs shapeCasts_S1x1x8x2048_S8x2048) (extractStridedSlice S8x2048 ![0, 0] y slices_S8x2176_o0_0_S8x2048))
      shapeCasts_S8x2048_S1x1x8x2048 : FVec Ideal S1x1x8x2048 .f32) (ix4 0 0 r q) = xs (ix4 0 0 r q) + y (ix2 r ⟨q.val, by omega⟩) := by
    intro y
    pointwise
  have e'' : (shapeCast S8x2176 wide shapeCasts_S1x8x2176_S8x2176 : FVec Ideal S8x2176 .f32) (ix2 r ⟨q.val + start i u % 128, by omega⟩)
      = wide (ix3 0 r ⟨q.val + start i u % 128, by omega⟩) := by
    pointwise
  unfold slabValue
  exact (e' _).trans (congrArg (xs (ix4 0 0 r q) + ·) ((e _ (turn_val i u) _).trans e''))

/-- What the body leaves in the output block, at an index. -/
theorem addOut_at (i : grid1.Coords) (tab : FVec Ideal S1x8x4224 .f32) (x : FVec Ideal S1x1x1024x2048 .f32) (k : Fin 1024) (q : Fin 2048) :
    addOut (F := Ideal) i tab x (ix4 0 0 k q) = x (ix4 0 0 k q)
      + tab (ix3 0 ⟨k.val % 8, by omega⟩ ⟨start i ⟨k.val / 8, by omega⟩ + q.val, by unfold start; omega⟩) := by
  unfold addOut slabOut
  refine (slabValue_at i _ _ _ _ _).trans (congrArg₂ (· + ·) (congrArg x (funext fun a => Fin.ext ?_)) (congrArg tab (funext fun a => Fin.ext ?_)))
  · fin_cases a
    · rfl
    · rfl
    · show 8 * (k.val / 8) + 1 * (k.val % 8) = k.val; omega
    · show 0 + 1 * q.val = q.val; omega
  · fin_cases a
    · rfl
    · show 0 + 1 * (k.val % 8) = k.val % 8; omega
    · show (aligned i (BitVec.ofNat 32 (8 * (k.val / 8)))).toNat + 1 * (q.val + start i ⟨k.val / 8, by omega⟩ % 128)
        = start i ⟨k.val / 8, by omega⟩ + q.val
      rw [aligned_val i ⟨k.val / 8, by omega⟩]
      omega

end Cert.KernelIdeal.Hand

end
-- ==== Proof.KernelIdeal.Value.lean ====
/-
  The kernel's result over the extended reals: at head `h`, row `k`, column `q` it is `x` there plus `rel_pos` at
  `(h, 2047 + k - q)`.
-/
module

public import proofs.«01_k».proof.Proof.KernelIdeal.TableArray
public import proofs.«01_k».proof.Proof.KernelIdeal.Addition

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal.Gen

/-- The biased scores: `x` plus the entry of `rel_pos` at key row less query column. -/
def biased (x : FVec Ideal S1x16x2048x2048 .f32) (rel : FVec Ideal S16x4194304 .f32) : FVec Ideal S1x16x2048x2048 .f32 := fun j =>
  x j + rel (ix2 (j 1) ⟨2047 + (j 2).val - (j 3).val, by have : (j 2).val < 2048 := (j 2).isLt; omega⟩)

/-- Point `t` of the addition's region treats head `t / 2`, half `t % 2` of the rows. -/
theorem idx1 : ∀ t : Fin cfg1.N, win1_0.index t = ![t.val / 2, 0, 0] ∧ win1_1.index t = ![0, t.val / 2, t.val % 2, 0]
    ∧ win1_2.index t = ![0, t.val / 2, t.val % 2, 0] ∧ (grid1.coords t 1).val = t.val % 2 :=
  (by decide +kernel : ∀ t : Fin grid1.N, _)

variable (V : Dev nD → Valuation τ sig (Elt Ideal))

/-- The table's block at point `t`, at an index. -/
theorem tabBlk_at (c : Dev nD) (t : Fin cfg1.N) (r : Fin 8) (n : Fin 4224) :
    tabBlk V c t (ix3 0 r n) = (V c (Proc.devRef .tc main_v0) : FVec Ideal S16x8x4224 .f32)
      (ix3 ⟨t.val / 2, by have : t.val < 32 := lt_of_lt_of_eq t.isLt N_1; omega⟩ r n) := by
  unfold tabBlk
  blk_ext [iblk1, idx1 t]

/-- The block of `x` at point `t` sits where the result's block does. -/
theorem xBlk_at (c : Dev nD) (t : Fin cfg1.N) (y : S1x1x1024x2048.Idx) :
    xBlk V c t y = (V c (Proc.devRef .tc main_arg0) : FVec Ideal S1x16x2048x2048 .f32) (((cfg1.win 2).blk t).view.emb y) := by
  unfold xBlk
  blk_ext [iblk1, idx1 t]

variable (m : (ℓ : Loc nD τ sig) → Buf (Elt Ideal) ℓ)

/-- What point `t` leaves at an index of its block. -/
theorem point (c : Dev nD) (t : Fin cfg1.N) (k : Fin 1024) (q : Fin 2048) :
    addOut (F := Ideal) (grid1.coords t) (tabBlk (W1 m) c t) (xBlk (W1 m) c t) (ix4 0 0 k q)
      = biased (m ((c.tc : Thread nD τ).loc main_arg0)) (m ((c.tc : Thread nD τ).loc main_arg1)) (((cfg1.win 2).blk t).view.emb (ix4 0 0 k q)) := by
  refine (addOut_at _ _ _ k q).trans ?_
  rw [xBlk_at, tabBlk_at, W1_table, table_array, W1_keeps m c main_arg0 (by decide)]
  refine congrArg₂ (· + ·) rfl ((table_at _ c _ _ _ ?_).trans ?_)
  · unfold start; dsimp only; omega
  · unfold start
    blk_ext [idx1 t]

/-- The result array. -/
theorem result_array (c : Dev nD) : (dat1 (W1 m) c).arrAt 2 cfg1.N
    = biased (m ((c.tc : Thread nD τ).loc main_arg0)) (m ((c.tc : Thread nD τ).loc main_arg1)) := by
  refine (dat1 (W1 m) c).arrAt_eq_of_covers 2 _ (by decide +kernel) fun t _ y => ?_
  blk_simp
  rw [dat1_out]
  idx_vars y
  obtain rfl : y0 = 0 := Subsingleton.elim _ _
  obtain rfl : y1 = 0 := Subsingleton.elim _ _
  exact point m c t y2 y3

end Cert.KernelIdeal.Hand

end
-- ==== Proof.ReferenceIdeal.Take.lean ====
/-
  The reference over the extended reals, read at an index, when its integer argument holds key row less query column
  plus 2047 at each flat position: the bounds test holds everywhere, so the result is `x` plus the gathered entry.
-/
module

public import proofs.«01_k».proof.Proof.Gen.ReferenceIdeal
public import Idealize.ShloMosaic.Lib.Pointwise
public import Idealize.ShloMosaic.Lib.ReduceAll

@[expose] public section

set_option maxRecDepth 16384

noncomputable section

namespace Cert.ReferenceIdeal.Hand

open Idealize.ShloMosaic Idealize.ShloMosaic.TcCoe
open Cert.ReferenceIdeal.Gen

/-- The gather of one column of all the heads per start position. -/
abbrev columns : GatherDims S16x4194304 S4194304x1 S16x4194304 := gather_S16x4194304_S4194304x1_S16x4194304_0_1_n_n_1_1_161

/-- The start positions of the gather: the index, moved up by the row's length when it is negative. -/
def starts (idx : IVec S4194304 32) : IVec S4194304x1 32 :=
  broadcastInDim S4194304x1 ![0] bcast_S4194304_S4194304x1_0
    (select (cmpi .slt idx (broadcastInDim S4194304 ![] bcast_S_S4194304 (constantI S_ 32 0#32)))
      (addi idx (broadcastInDim S4194304 ![] bcast_S_S4194304 (constantI S_ 32 4194304#32))) idx)

/-- Whether each start position lies inside the row. -/
def inside (idx : IVec S4194304 32) : IVec S4194304 1 :=
  Host.reduce IntOp.andi
    (andi (cmpi .sge (starts idx) (broadcastInDim S4194304x1 ![] bcast_S_S4194304x1 (constantI S_ 32 0#32)))
      (cmpi .sle (starts idx)
        (broadcastInDim S4194304x1 ![0, 1] bcast_S1x1_S4194304x1_0_1 (broadcastInDim S1x1 ![1] bcast_S1_S1x1_1 (constantI S1 32 4194303#32)))))
    (constantI S_ 1 1#1) reducesTo_S4194304x1_S4194304_d1 h_S_

/-- The columns of `rel` at the start positions, and the fill value where one lies outside. -/
def taken (rel : FVec Ideal S16x4194304 .f32) (idx : IVec S4194304 32) : FVec Ideal S16x4194304 .f32 :=
  select (broadcastInDim S16x4194304 ![1] bcast_S4194304_S16x4194304_1 (inside idx))
    (Host.gather columns rel (starts idx))
    (broadcastInDim S16x4194304 ![] bcast_S_S16x4194304 (constant S_ .f32 0x7FC00000#32))

/-- The reference's result. -/
def value (x : FVec Ideal S1x16x2048x2048 .f32) (rel : FVec Ideal S16x4194304 .f32) (idx : IVec S4194304 32) : FVec Ideal S1x16x2048x2048 .f32 :=
  addf x (broadcastInDim S1x16x2048x2048 ![1, 2, 3] bcast_S16x2048x2048_S1x16x2048x2048_1_2_3
    (shapeCast S16x2048x2048 (taken rel idx) shapeCasts_S16x4194304_S16x2048x2048))

/-- The gather at an index: the column at the start position, read signed and clamped into the row. -/
theorem gather_at (rel : FVec Ideal S16x4194304 .f32) (s : IVec S4194304x1 32) (h : Fin 16) (p : Fin 4194304) :
    Host.gather columns rel s (ix2 h p)
      = rel (ix2 h ⟨min (s (ix2 p 0)).toInt.toNat (4194304 - 1), by omega⟩) := by
  unfold Host.gather
  refine congrArg rel (funext fun a => Fin.ext ?_)
  show GatherDims.start _ _ _ a + GatherDims.batchCoord _ _ a + GatherDims.offCoord _ _ a = _
  rw [GatherDims.batchCoord_eq_zero _ _ _ (List.not_mem_nil)]
  have zero_notin : (0 : Fin 2) ∉ ([1] : List (Fin 2)) := by decide
  fin_cases a
  · show columns.start (ix2 h p) s (0 : Fin 2) + 0 + columns.offCoord (ix2 h p) (0 : Fin 2) = h.val
    unfold GatherDims.start GatherDims.offCoord
    rw [dif_neg (show (0 : Fin 2) ∉ columns.startIndexMap from zero_notin),
      dif_pos ((GatherDims.mem_sKept _ _).mpr ⟨zero_notin, List.not_mem_nil⟩)]
    rw [Nat.zero_add]
    rfl
  · rw [GatherDims.offCoord_eq_zero _ _ _ (fun h => ((GatherDims.mem_sKept _ _).mp h).1 (List.mem_singleton.mpr rfl))]
    show columns.start (ix2 h p) s (1 : Fin 2) = min (s (ix2 p 0)).toInt.toNat (4194304 - 1)
    unfold GatherDims.start
    rw [dif_pos (show (1 : Fin 2) ∈ columns.startIndexMap from List.mem_singleton.mpr rfl)]
    have e : ∀ k, columns.siIdx (ix2 h p) k = ix2 p 0 := by
      intro k
      funext b
      fin_cases b
      · rfl
      · exact Subsingleton.elim (α := Fin 1) _ _
    rw [e]
    rfl

/-- A number below `2 ^ 31` read back signed from its word. -/
theorem word_int (n : Nat) (hn : n ≤ 4194303) : (BitVec.ofNat 32 n).toInt = n := by
  rw [BitVec.toInt_eq_toNat_of_lt (by rw [BitVec.toNat_ofNat]; omega), BitVec.toNat_ofNat]
  omega

/-- A start position that the index gives without moving. -/
theorem starts_at (idx : IVec S4194304 32) (p : Fin 4194304) (n : Nat) (hn : n ≤ 4194303) (e : idx (ix1 p) = BitVec.ofNat 32 n) :
    starts idx (ix2 p 0) = BitVec.ofNat 32 n := by
  pointwise [starts]
  rw [e]
  have : IntOp.cmpi .slt (BitVec.ofNat 32 n) 0#32 = 0#1 := by
    show BitVec.ofBool (BitVec.slt (BitVec.ofNat 32 n) 0#32) = 0#1
    rw [show BitVec.slt (BitVec.ofNat 32 n) 0#32 = false by
      rw [BitVec.slt_eq_decide, word_int n hn]; exact decide_eq_false (by show ¬ (n : Int) < 0; omega)]
    rfl
  rw [this]
  rfl

/-- Every start position lies inside the row. -/
theorem inside_at (idx : IVec S4194304 32) (f : Fin 4194304 → Nat) (hf : ∀ p, f p ≤ 4194303) (e : ∀ p, idx (ix1 p) = BitVec.ofNat 32 (f p))
    (p : Fin 4194304) : inside idx (ix1 p) = 1#1 := by
  unfold inside
  refine Host.reduce_andi_one _ _ _ _ _ rfl fun i => ?_
  idx_vars i
  obtain rfl : i1 = 0 := Subsingleton.elim _ _
  pointwise
  rw [starts_at idx i0 (f i0) (hf i0) (e i0)]
  have h1 : IntOp.cmpi .sge (BitVec.ofNat 32 (f i0)) 0#32 = 1#1 := by
    show BitVec.ofBool (BitVec.sle 0#32 (BitVec.ofNat 32 (f i0))) = 1#1
    rw [show BitVec.sle 0#32 (BitVec.ofNat 32 (f i0)) = true by
      rw [BitVec.sle_eq_decide, word_int _ (hf i0)]; exact decide_eq_true (by show (0 : Int) ≤ (f i0 : Int); omega)]
    rfl
  have h2 : IntOp.cmpi .sle (BitVec.ofNat 32 (f i0)) 4194303#32 = 1#1 := by
    show BitVec.ofBool (BitVec.sle (BitVec.ofNat 32 (f i0)) 4194303#32) = 1#1
    rw [show BitVec.sle (BitVec.ofNat 32 (f i0)) 4194303#32 = true by
      rw [BitVec.sle_eq_decide, word_int _ (hf i0)]
      exact decide_eq_true (by have := hf i0; show (f i0 : Int) ≤ 4194303; omega)]
    rfl
  rw [h1, h2]
  rfl

/-- The taken entry at an index. -/
theorem taken_at (rel : FVec Ideal S16x4194304 .f32) (idx : IVec S4194304 32) (f : Fin 4194304 → Nat) (hf : ∀ p, f p ≤ 4194303)
    (e : ∀ p, idx (ix1 p) = BitVec.ofNat 32 (f p)) (h : Fin 16) (p : Fin 4194304) :
    taken rel idx (ix2 h p) = rel (ix2 h ⟨f p, by have := hf p; omega⟩) := by
  pointwise [taken]
  rw [inside_at idx f hf e p]
  refine (gather_at rel _ h p).trans (congrArg rel (congrArg (ix2 h) (Fin.ext ?_)))
  show min (starts idx (ix2 p 0)).toInt.toNat (4194304 - 1) = f p
  rw [starts_at idx p (f p) (hf p) (e p), word_int _ (hf p)]
  have := hf p
  omega

/-- The reference's result at an index. -/
theorem value_at (x : FVec Ideal S1x16x2048x2048 .f32) (rel : FVec Ideal S16x4194304 .f32) (idx : IVec S4194304 32)
    (h : Fin 16) (k q : Fin 2048) :
    value x rel idx (ix4 0 h k q) = x (ix4 0 h k q) + taken rel idx (ix2 h ⟨k.val * 2048 + q.val, by omega⟩) := by
  pointwise [value]

end Cert.ReferenceIdeal.Hand

end
-- ==== Proof.Precondition.lean ====
/-
  The precondition read at a flat position: the integer argument holds key row less query column plus 2047.
-/
module

public import proofs.«01_k».proof.Pre_index_is_relative
public import Idealize.ShloMosaic.Lib.Pointwise

@[expose] public section

set_option maxRecDepth 16384

noncomputable section

namespace Cert.Pre_index_is_relative.Hand

open Idealize.ShloMosaic Idealize.ShloMosaic.TcCoe
open Cert.Pre_index_is_relative

/-- The side conditions of the precondition's own operations. -/
instance facts : Facts where
  bcast_S2048_S1x2048_1 := by decide
  bcast_S2048_S2048x1_0 := by decide
  bcast_S2048x1_S2048x2048_0_1 := by decide
  bcast_S1x2048_S2048x2048_0_1 := by decide
  bcast_S_S2048x2048 := by decide
  shapeCasts_S2048x2048_S4194304 := by decide

/-- The position in a row of `rel_pos` that flat position `p` asks for. -/
abbrev wanted (p : Fin 4194304) : Nat := 2047 + p.val / 2048 - p.val % 2048

/-- The precondition at flat position `p`: the word there is the number of the wanted position. -/
theorem index_at (x : FVec Ideal S1x16x2048x2048 .f32) (rel : FVec Ideal S16x4194304 .f32) (idx : IVec S4194304 32)
    (h : fn (F := Ideal) x rel idx = fun _ => 1#1) (p : Fin 4194304) : idx (ix1 p) = BitVec.ofNat 32 (wanted p) := by
  have hp := congrFun h (ix1 p)
  revert hp
  pointwise [fn]
  intro hp
  have hw : ∀ a b : BitVec 32, IntOp.cmpi .eq a b = 1#1 → a = b := by
    intro a b e
    by_contra hne
    have : IntOp.cmpi .eq a b = 0#1 := by
      show BitVec.ofBool (a == b) = 0#1
      rw [beq_eq_false_iff_ne.mpr hne]; rfl
    rw [this] at e
    exact absurd e (by decide)
  rw [hw _ _ hp]
  show BitVec.ofNat 32 (p.val / 2048) - BitVec.ofNat 32 (p.val % 2048) + 2048#32 - 1#32 = BitVec.ofNat 32 (wanted p)
  have := p.isLt
  unfold wanted
  apply BitVec.eq_of_toNat_eq
  simp only [BitVec.toNat_sub, BitVec.toNat_add, BitVec.toNat_ofNat]
  omega

end Cert.Pre_index_is_relative.Hand

end
-- ==== Proof.Equal.lean ====
/-
  The two results are one array: the kernel's `x` plus `rel_pos` at key row less query column, and the reference's `x`
  plus the taken entry, under the precondition on the integer argument.
-/
module

public import proofs.«01_k».proof.Proof.KernelIdeal.Value
public import proofs.«01_k».proof.Proof.ReferenceIdeal.Take
public import proofs.«01_k».proof.Proof.Precondition

@[expose] public section

set_option maxRecDepth 16384

noncomputable section

namespace Cert.Equal

open Idealize.ShloMosaic Idealize.ShloMosaic.TcCoe
open Cert.Pre_index_is_relative.Hand

/-- The reference's result is the biased array. -/
theorem value_eq (x : FVec Ideal KernelIdeal.S1x16x2048x2048 .f32) (rel : FVec Ideal KernelIdeal.S16x4194304 .f32) (idx : IVec KernelIdeal.S4194304 32)
    (h : Pre_index_is_relative.fn (F := Ideal) x rel idx = fun _ => 1#1) :
    ReferenceIdeal.Hand.value x rel idx = KernelIdeal.Hand.biased x rel := by
  funext j
  idx_vars j
  obtain rfl : j0 = 0 := Subsingleton.elim _ _
  refine (ReferenceIdeal.Hand.value_at x rel idx j1 j2 j3).trans (congrArg (x (ix4 0 j1 j2 j3) + ·) ?_)
  refine (ReferenceIdeal.Hand.taken_at rel idx wanted (fun p => by have := p.isLt; unfold wanted; omega) (index_at x rel idx h) j1 _).trans ?_
  refine congrArg rel (congrArg (ix2 j1) (Fin.ext ?_))
  show 2047 + (j2.val * 2048 + j3.val) / 2048 - (j2.val * 2048 + j3.val) % 2048 = 2047 + j2.val - j3.val
  omega

end Cert.Equal

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Frame
public import proofs.«01_k».proof.Proof.KernelIdeal.Frame
public import proofs.«01_k».proof.Proof.Equal
public import Idealize.ShloMosaic.Lib.Quiescent

@[expose] public section

noncomputable section

namespace Cert.Proof

open Idealize.ShloMosaic Idealize.SL.Sem

/-- The reference has no semaphore, so its frame is its run's. -/
theorem referenceFrame (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r =>
      (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2))
      ∧ r.2.sem = fun _ => 0) :=
  (θ_run ReferenceIdeal.defs _ _).mono (fun r h => ⟨fun c => (h c).2, sem_eq_zero_of_no_sems rfl r.2⟩) (ReferenceIdeal.Value.run m g)

/-- From memories that agree on the arguments, kernel and reference both end with the biased array as their result. -/
theorem sameResult (m : (ℓ : Loc KernelIdeal.nD KernelIdeal.τ KernelIdeal.sig) → Buf (Elt Ideal) ℓ) (g : Dev KernelIdeal.nD → PrngReg)
    (m' : (ℓ : Loc ReferenceIdeal.nD ReferenceIdeal.τ ReferenceIdeal.sig) → Buf (Elt Ideal) ℓ) (g' : Dev ReferenceIdeal.nD → PrngReg)
    (hpre : Pre_KernelIdeal_index_is_relative m)
    (hargs : ∀ c : Dev KernelIdeal.nD,
      m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)) :
    ∃ (v0 : (c : Dev KernelIdeal.nD) → Buf (Elt Ideal) ((c.tc : Thread KernelIdeal.nD KernelIdeal.τ).loc KernelIdeal.main_v1)),
      θ_run (KernelIdeal.defs (F := Ideal)) (onTc (τ := KernelIdeal.τ) (KernelIdeal.main (F := Ideal))) ⟨m, fun _ => 0, g⟩ (fun r => ∀ c : Dev KernelIdeal.nD,
          r.2.mem ((c.tc : Thread KernelIdeal.nD KernelIdeal.τ).loc KernelIdeal.main_v1) = v0 c
          ∧ r.2.mem ((c.tc : Thread KernelIdeal.nD KernelIdeal.τ).loc KernelIdeal.main_arg0) = m ((c.tc : Thread KernelIdeal.nD KernelIdeal.τ).loc KernelIdeal.main_arg0)
          ∧ r.2.mem ((c.tc : Thread KernelIdeal.nD KernelIdeal.τ).loc KernelIdeal.main_arg1) = m ((c.tc : Thread KernelIdeal.nD KernelIdeal.τ).loc KernelIdeal.main_arg1)
          ∧ r.2.mem ((c.tc : Thread KernelIdeal.nD KernelIdeal.τ).loc KernelIdeal.main_arg2) = m ((c.tc : Thread KernelIdeal.nD KernelIdeal.τ).loc KernelIdeal.main_arg2))
      ∧ θ_run (ReferenceIdeal.defs (F := Ideal)) (onTc (τ := ReferenceIdeal.τ) (ReferenceIdeal.main (F := Ideal))) ⟨m', fun _ => 0, g'⟩ (fun r => ∀ c : Dev ReferenceIdeal.nD,
          r.2.mem ((c.tc : Thread ReferenceIdeal.nD ReferenceIdeal.τ).loc ReferenceIdeal.main_v3) = v0 c
          ∧ r.2.mem ((c.tc : Thread ReferenceIdeal.nD ReferenceIdeal.τ).loc ReferenceIdeal.main_arg0) = m' ((c.tc : Thread ReferenceIdeal.nD ReferenceIdeal.τ).loc ReferenceIdeal.main_arg0)
          ∧ r.2.mem ((c.tc : Thread ReferenceIdeal.nD ReferenceIdeal.τ).loc ReferenceIdeal.main_arg1) = m' ((c.tc : Thread ReferenceIdeal.nD ReferenceIdeal.τ).loc ReferenceIdeal.main_arg1)
          ∧ r.2.mem ((c.tc : Thread ReferenceIdeal.nD ReferenceIdeal.τ).loc ReferenceIdeal.main_arg2) = m' ((c.tc : Thread ReferenceIdeal.nD ReferenceIdeal.τ).loc ReferenceIdeal.main_arg2)) := by
  refine ⟨fun c => KernelIdeal.Hand.biased (m ((c.tc : Thread KernelIdeal.nD KernelIdeal.τ).loc KernelIdeal.main_arg0))
    (m ((c.tc : Thread KernelIdeal.nD KernelIdeal.τ).loc KernelIdeal.main_arg1)), ?_, ?_⟩
  · exact (θ_run KernelIdeal.defs _ _).mono (fun r h c => ⟨(h.2 c).trans (KernelIdeal.Hand.result_array m c), h.1.1 c⟩)
      (KernelIdeal.Hand.result m g)
  · refine (θ_run ReferenceIdeal.defs _ _).mono (fun r h c => ⟨(h c).1.trans ?_, (h c).2⟩) (ReferenceIdeal.Value.run m' g')
    rw [(hargs c).1, (hargs c).2.1, (hargs c).2.2]
    exact Equal.value_eq _ _ _ (hpre c)

/-- Everything the certificate claims. -/
theorem claim : Cert.Claim := ⟨Cert.Kernel.Gen.facts, Cert.KernelIdeal.Gen.facts, Cert.ReferenceIdeal.Gen.facts,
  Cert.Pre_index_is_relative.Hand.facts,
  fun m g _ => Cert.Kernel.Hand.frame m g, fun m g _ => Cert.KernelIdeal.Hand.frame m g, fun m g _ => Cert.KernelIdeal.Hand.frame m g,
  fun m g _ => referenceFrame m g, fun m g _ => referenceFrame m g, trivial,
  fun m g m' g' hpre hargs => sameResult m g m' g' hpre hargs⟩

end Cert.Proof

end
